-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S3 : Shape := ⟨1, ![3]⟩
abbrev S2x4096x512 : Shape := ⟨3, ![2, 4096, 512]⟩
abbrev S2 : Shape := ⟨1, ![2]⟩
abbrev S8 : Shape := ⟨1, ![8]⟩
abbrev S3x1024x512 : Shape := ⟨3, ![3, 1024, 512]⟩
abbrev S7 : Shape := ⟨1, ![7]⟩
abbrev S1 : Shape := ⟨1, ![1]⟩
abbrev S_ : Shape := ⟨0, ![]⟩
abbrev S1x4096x512 : Shape := ⟨3, ![1, 4096, 512]⟩
abbrev S256x4096 : Shape := ⟨2, ![256, 4096]⟩
abbrev S512x4096 : Shape := ⟨2, ![512, 4096]⟩
abbrev S256x512 : Shape := ⟨2, ![256, 512]⟩
abbrev S256x1024 : Shape := ⟨2, ![256, 1024]⟩
abbrev S1x1024x512 : Shape := ⟨3, ![1, 1024, 512]⟩
abbrev S1024x512 : Shape := ⟨2, ![1024, 512]⟩
abbrev S1x256x512 : Shape := ⟨3, ![1, 256, 512]⟩
abbrev S512x512 : Shape := ⟨2, ![512, 512]⟩
abbrev S512x1024 : Shape := ⟨2, ![512, 1024]⟩
abbrev S1x512x512 : Shape := ⟨3, ![1, 512, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S1024x4096, .f32⟩
  | .local _ .vmem, ⟨1, _⟩ => ⟨S2x4096x512, .f32⟩
  | .local _ .vmem, ⟨2, _⟩ => ⟨S4096x512, .f32⟩
  | .local _ .vmem, ⟨3, _⟩ => ⟨S3x1024x512, .bf16⟩
  | .local _ .vmem, ⟨4, _⟩ => ⟨S3x1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch2 : Ref sig .tc := ⟨.vmem, 1, rfl⟩
abbrev cc0_scratch4 : Ref sig .tc := ⟨.vmem, 2, rfl⟩
abbrev cc0_scratch6 : Ref sig .tc := ⟨.vmem, 3, rfl⟩
abbrev cc0_scratch7 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  ![0, v14.toNat]
def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v33 : BitVec 32 := Scalar.addi v2 c1_i32_24
  let c4_i32_25 : BitVec 32 := 4#32
  let c0_i32_26 : BitVec 32 := 0#32
  let v34 : BitVec 1 := Scalar.cmpi .eq c4_i32_25 c0_i32_26
  let c1_i32_27 : BitVec 32 := 1#32
  let v35 : BitVec 32 := Scalar.select v34 c1_i32_27 c4_i32_25
  let v36 : BitVec 32 := Scalar.remsi v33 v35
  let c0_i32_29 : BitVec 32 := 0#32
  let v38 : BitVec 1 := Scalar.cmpi .slt v36 c0_i32_29
  let c0_i32_30 : BitVec 32 := 0#32
  let v39 : BitVec 1 := Scalar.cmpi .slt v35 c0_i32_30
  let v40 : BitVec 1 := Scalar.xori v38 v39
  let c0_i32_28 : BitVec 32 := 0#32
  let v37 : BitVec 1 := Scalar.cmpi .ne v36 c0_i32_28
  let v41 : BitVec 1 := Scalar.andi v40 v37
  let v42 : BitVec 32 := Scalar.addi v36 v35
  let v43 : BitVec 32 := Scalar.select v41 v42 v36
  let c1_i32_32 : BitVec 32 := 1#32
  let v44 : BitVec 32 := Scalar.muli v43 c1_i32_32
  let v45 : BitVec 32 := Scalar.addi c0_i32_33 v44
  v45.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v46 : BitVec 32 := Scalar.addi v2 c2_i32_34
  let c4_i32_35 : BitVec 32 := 4#32
  let c0_i32_36 : BitVec 32 := 0#32
  let v47 : BitVec 1 := Scalar.cmpi .eq c4_i32_35 c0_i32_36
  let c1_i32_37 : BitVec 32 := 1#32
  let v48 : BitVec 32 := Scalar.select v47 c1_i32_37 c4_i32_35
  let v49 : BitVec 32 := Scalar.remsi v46 v48
  let c0_i32_39 : BitVec 32 := 0#32
  let v51 : BitVec 1 := Scalar.cmpi .slt v49 c0_i32_39
  let c0_i32_40 : BitVec 32 := 0#32
  let v52 : BitVec 1 := Scalar.cmpi .slt v48 c0_i32_40
  let v53 : BitVec 1 := Scalar.xori v51 v52
  let c0_i32_38 : BitVec 32 := 0#32
  let v50 : BitVec 1 := Scalar.cmpi .ne v49 c0_i32_38
  let v54 : BitVec 1 := Scalar.andi v53 v50
  let v55 : BitVec 32 := Scalar.addi v49 v48
  let v56 : BitVec 32 := Scalar.select v54 v55 v49
  let c1_i32_42 : BitVec 32 := 1#32
  let v57 : BitVec 32 := Scalar.muli v56 c1_i32_42
  let v58 : BitVec 32 := Scalar.addi c0_i32_43 v57
  v58.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v59 : BitVec 32 := Scalar.addi v2 c3_i32
  let c4_i32_44 : BitVec 32 := 4#32
  let c0_i32_45 : BitVec 32 := 0#32
  let v60 : BitVec 1 := Scalar.cmpi .eq c4_i32_44 c0_i32_45
  let c1_i32_46 : BitVec 32 := 1#32
  let v61 : BitVec 32 := Scalar.select v60 c1_i32_46 c4_i32_44
  let v62 : BitVec 32 := Scalar.remsi v59 v61
  let c0_i32_48 : BitVec 32 := 0#32
  let v64 : BitVec 1 := Scalar.cmpi .slt v62 c0_i32_48
  let c0_i32_49 : BitVec 32 := 0#32
  let v65 : BitVec 1 := Scalar.cmpi .slt v61 c0_i32_49
  let v66 : BitVec 1 := Scalar.xori v64 v65
  let c0_i32_47 : BitVec 32 := 0#32
  let v63 : BitVec 1 := Scalar.cmpi .ne v62 c0_i32_47
  let v67 : BitVec 1 := Scalar.andi v66 v63
  let v68 : BitVec 32 := Scalar.addi v62 v61
  let v69 : BitVec 32 := Scalar.select v67 v68 v62
  let c1_i32_51 : BitVec 32 := 1#32
  let v70 : BitVec 32 := Scalar.muli v69 c1_i32_51
  let v71 : BitVec 32 := Scalar.addi c0_i32_52 v70
  v71.toNat
def k0_off2 (d0 : Dev nD) (c1_i32_67 : BitVec 32) : Fin 2 → Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v89 : BitVec 32 := Scalar.addi v2 c1_i32_67
  let c1_i32_68 : BitVec 32 := 1#32
  let v90 : BitVec 32 := Scalar.addi v89 c1_i32_68
  let c4_i32_69 : BitVec 32 := 4#32
  let c0_i32_70 : BitVec 32 := 0#32
  let v91 : BitVec 1 := Scalar.cmpi .eq c4_i32_69 c0_i32_70
  let c1_i32_71 : BitVec 32 := 1#32
  let v92 : BitVec 32 := Scalar.select v91 c1_i32_71 c4_i32_69
  let v93 : BitVec 32 := Scalar.remsi v90 v92
  let c0_i32_73 : BitVec 32 := 0#32
  let v95 : BitVec 1 := Scalar.cmpi .slt v93 c0_i32_73
  let c0_i32_74 : BitVec 32 := 0#32
  let v96 : BitVec 1 := Scalar.cmpi .slt v92 c0_i32_74
  let v97 : BitVec 1 := Scalar.xori v95 v96
  let c0_i32_72 : BitVec 32 := 0#32
  let v94 : BitVec 1 := Scalar.cmpi .ne v93 c0_i32_72
  let v98 : BitVec 1 := Scalar.andi v97 v94
  let v99 : BitVec 32 := Scalar.addi v93 v92
  let v100 : BitVec 32 := Scalar.select v98 v99 v93
  let c512_i32_75 : BitVec 32 := 512#32
  let v101 : BitVec 32 := Scalar.muli v100 c512_i32_75
  ![0, v101.toNat]
def k0_dev4 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v72 : BitVec 32 := Scalar.addi v2 c1_i32_54
  let c4_i32_55 : BitVec 32 := 4#32
  let c0_i32_56 : BitVec 32 := 0#32
  let v73 : BitVec 1 := Scalar.cmpi .eq c4_i32_55 c0_i32_56
  let c1_i32_57 : BitVec 32 := 1#32
  let v74 : BitVec 32 := Scalar.select v73 c1_i32_57 c4_i32_55
  let v75 : BitVec 32 := Scalar.remsi v72 v74
  let c0_i32_59 : BitVec 32 := 0#32
  let v77 : BitVec 1 := Scalar.cmpi .slt v75 c0_i32_59
  let c0_i32_60 : BitVec 32 := 0#32
  let v78 : BitVec 1 := Scalar.cmpi .slt v74 c0_i32_60
  let v79 : BitVec 1 := Scalar.xori v77 v78
  let c0_i32_58 : BitVec 32 := 0#32
  let v76 : BitVec 1 := Scalar.cmpi .ne v75 c0_i32_58
  let v80 : BitVec 1 := Scalar.andi v79 v76
  let v81 : BitVec 32 := Scalar.addi v75 v74
  let v82 : BitVec 32 := Scalar.select v80 v81 v75
  let c1_i32_114 : BitVec 32 := 1#32
  let v138 : BitVec 32 := Scalar.muli v82 c1_i32_114
  let v139 : BitVec 32 := Scalar.addi c0_i32_115 v138
  v139.toNat
def k0_dev5 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v72 : BitVec 32 := Scalar.addi v2 c1_i32_54
  let c4_i32_55 : BitVec 32 := 4#32
  let c0_i32_56 : BitVec 32 := 0#32
  let v73 : BitVec 1 := Scalar.cmpi .eq c4_i32_55 c0_i32_56
  let c1_i32_57 : BitVec 32 := 1#32
  let v74 : BitVec 32 := Scalar.select v73 c1_i32_57 c4_i32_55
  let v75 : BitVec 32 := Scalar.remsi v72 v74
  let c0_i32_59 : BitVec 32 := 0#32
  let v77 : BitVec 1 := Scalar.cmpi .slt v75 c0_i32_59
  let c0_i32_60 : BitVec 32 := 0#32
  let v78 : BitVec 1 := Scalar.cmpi .slt v74 c0_i32_60
  let v79 : BitVec 1 := Scalar.xori v77 v78
  let c0_i32_58 : BitVec 32 := 0#32
  let v76 : BitVec 1 := Scalar.cmpi .ne v75 c0_i32_58
  let v80 : BitVec 1 := Scalar.andi v79 v76
  let v81 : BitVec 32 := Scalar.addi v75 v74
  let v82 : BitVec 32 := Scalar.select v80 v81 v75
  let c1_i32_157 : BitVec 32 := 1#32
  let v179 : BitVec 32 := Scalar.muli v82 c1_i32_157
  let v180 : BitVec 32 := Scalar.addi c0_i32_158 v179
  v180.toNat
def k0_dev6 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v72 : BitVec 32 := Scalar.addi v2 c1_i32_54
  let c4_i32_55 : BitVec 32 := 4#32
  let c0_i32_56 : BitVec 32 := 0#32
  let v73 : BitVec 1 := Scalar.cmpi .eq c4_i32_55 c0_i32_56
  let c1_i32_57 : BitVec 32 := 1#32
  let v74 : BitVec 32 := Scalar.select v73 c1_i32_57 c4_i32_55
  let v75 : BitVec 32 := Scalar.remsi v72 v74
  let c0_i32_59 : BitVec 32 := 0#32
  let v77 : BitVec 1 := Scalar.cmpi .slt v75 c0_i32_59
  let c0_i32_60 : BitVec 32 := 0#32
  let v78 : BitVec 1 := Scalar.cmpi .slt v74 c0_i32_60
  let v79 : BitVec 1 := Scalar.xori v77 v78
  let c0_i32_58 : BitVec 32 := 0#32
  let v76 : BitVec 1 := Scalar.cmpi .ne v75 c0_i32_58
  let v80 : BitVec 1 := Scalar.andi v79 v76
  let v81 : BitVec 32 := Scalar.addi v75 v74
  let v82 : BitVec 32 := Scalar.select v80 v81 v75
  let c1_i32_200 : BitVec 32 := 1#32
  let v220 : BitVec 32 := Scalar.muli v82 c1_i32_200
  let v221 : BitVec 32 := Scalar.addi c0_i32_201 v220
  v221.toNat
def k0_dev7 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_206 : BitVec 32 := 2#32
  let v230 : BitVec 32 := Scalar.addi v2 c2_i32_206
  let c4_i32_207 : BitVec 32 := 4#32
  let c0_i32_208 : BitVec 32 := 0#32
  let v231 : BitVec 1 := Scalar.cmpi .eq c4_i32_207 c0_i32_208
  let c1_i32_209 : BitVec 32 := 1#32
  let v232 : BitVec 32 := Scalar.select v231 c1_i32_209 c4_i32_207
  let v233 : BitVec 32 := Scalar.remsi v230 v232
  let c0_i32_211 : BitVec 32 := 0#32
  let v235 : BitVec 1 := Scalar.cmpi .slt v233 c0_i32_211
  let c0_i32_212 : BitVec 32 := 0#32
  let v236 : BitVec 1 := Scalar.cmpi .slt v232 c0_i32_212
  let v237 : BitVec 1 := Scalar.xori v235 v236
  let c0_i32_210 : BitVec 32 := 0#32
  let v234 : BitVec 1 := Scalar.cmpi .ne v233 c0_i32_210
  let v238 : BitVec 1 := Scalar.andi v237 v234
  let v239 : BitVec 32 := Scalar.addi v233 v232
  let v240 : BitVec 32 := Scalar.select v238 v239 v233
  let c1_i32_265 : BitVec 32 := 1#32
  let v292 : BitVec 32 := Scalar.muli v240 c1_i32_265
  let v293 : BitVec 32 := Scalar.addi c0_i32_266 v292
  v293.toNat
def k0_dev8 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_206 : BitVec 32 := 2#32
  let v230 : BitVec 32 := Scalar.addi v2 c2_i32_206
  let c4_i32_207 : BitVec 32 := 4#32
  let c0_i32_208 : BitVec 32 := 0#32
  let v231 : BitVec 1 := Scalar.cmpi .eq c4_i32_207 c0_i32_208
  let c1_i32_209 : BitVec 32 := 1#32
  let v232 : BitVec 32 := Scalar.select v231 c1_i32_209 c4_i32_207
  let v233 : BitVec 32 := Scalar.remsi v230 v232
  let c0_i32_211 : BitVec 32 := 0#32
  let v235 : BitVec 1 := Scalar.cmpi .slt v233 c0_i32_211
  let c0_i32_212 : BitVec 32 := 0#32
  let v236 : BitVec 1 := Scalar.cmpi .slt v232 c0_i32_212
  let v237 : BitVec 1 := Scalar.xori v235 v236
  let c0_i32_210 : BitVec 32 := 0#32
  let v234 : BitVec 1 := Scalar.cmpi .ne v233 c0_i32_210
  let v238 : BitVec 1 := Scalar.andi v237 v234
  let v239 : BitVec 32 := Scalar.addi v233 v232
  let v240 : BitVec 32 := Scalar.select v238 v239 v233
  let c1_i32_304 : BitVec 32 := 1#32
  let v329 : BitVec 32 := Scalar.muli v240 c1_i32_304
  let v330 : BitVec 32 := Scalar.addi c0_i32_305 v329
  v330.toNat
def k0_dev9 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_310 : BitVec 32 := 3#32
  let v339 : BitVec 32 := Scalar.addi v2 c3_i32_310
  let c4_i32_311 : BitVec 32 := 4#32
  let c0_i32_312 : BitVec 32 := 0#32
  let v340 : BitVec 1 := Scalar.cmpi .eq c4_i32_311 c0_i32_312
  let c1_i32_313 : BitVec 32 := 1#32
  let v341 : BitVec 32 := Scalar.select v340 c1_i32_313 c4_i32_311
  let v342 : BitVec 32 := Scalar.remsi v339 v341
  let c0_i32_315 : BitVec 32 := 0#32
  let v344 : BitVec 1 := Scalar.cmpi .slt v342 c0_i32_315
  let c0_i32_316 : BitVec 32 := 0#32
  let v345 : BitVec 1 := Scalar.cmpi .slt v341 c0_i32_316
  let v346 : BitVec 1 := Scalar.xori v344 v345
  let c0_i32_314 : BitVec 32 := 0#32
  let v343 : BitVec 1 := Scalar.cmpi .ne v342 c0_i32_314
  let v347 : BitVec 1 := Scalar.andi v346 v343
  let v348 : BitVec 32 := Scalar.addi v342 v341
  let v349 : BitVec 32 := Scalar.select v347 v348 v342
  let c1_i32_368 : BitVec 32 := 1#32
  let v401 : BitVec 32 := Scalar.muli v349 c1_i32_368
  let v402 : BitVec 32 := Scalar.addi c0_i32_369 v401
  v402.toNat
def k0_dev10 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_310 : BitVec 32 := 3#32
  let v339 : BitVec 32 := Scalar.addi v2 c3_i32_310
  let c4_i32_311 : BitVec 32 := 4#32
  let c0_i32_312 : BitVec 32 := 0#32
  let v340 : BitVec 1 := Scalar.cmpi .eq c4_i32_311 c0_i32_312
  let c1_i32_313 : BitVec 32 := 1#32
  let v341 : BitVec 32 := Scalar.select v340 c1_i32_313 c4_i32_311
  let v342 : BitVec 32 := Scalar.remsi v339 v341
  let c0_i32_315 : BitVec 32 := 0#32
  let v344 : BitVec 1 := Scalar.cmpi .slt v342 c0_i32_315
  let c0_i32_316 : BitVec 32 := 0#32
  let v345 : BitVec 1 := Scalar.cmpi .slt v341 c0_i32_316
  let v346 : BitVec 1 := Scalar.xori v344 v345
  let c0_i32_314 : BitVec 32 := 0#32
  let v343 : BitVec 1 := Scalar.cmpi .ne v342 c0_i32_314
  let v347 : BitVec 1 := Scalar.andi v346 v343
  let v348 : BitVec 32 := Scalar.addi v342 v341
  let v349 : BitVec 32 := Scalar.select v347 v348 v342
  let c1_i32_406 : BitVec 32 := 1#32
  let v438 : BitVec 32 := Scalar.muli v349 c1_i32_406
  let v439 : BitVec 32 := Scalar.addi c0_i32_407 v438
  v439.toNat
def k0_off3 (d0 : Dev nD) : Fin 2 → Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_412 : BitVec 32 := 512#32
  let v448 : BitVec 32 := Scalar.muli v2 c512_i32_412
  ![0, v448.toNat]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v477 : BitVec 32 := Scalar.muli v2 c1024_i32
  let v478 : Index := Scalar.indexCast v477
  let c0_444 : Index := 0#32
  ![v478.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_446 : BitVec 32 := 1024#32
  let v483 : BitVec 32 := Scalar.muli v2 c1024_i32_446
  let c0_i32_447 : BitVec 32 := 0#32
  ![v483.toNat, 0]
def k0_off6 (d0 : Dev nD) (c0_i32_470 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_449 : BitVec 32 := 1#32
  let v488 : BitVec 32 := Scalar.subi v2 c1_i32_449
  let c4_i32_450 : BitVec 32 := 4#32
  let c0_i32_451 : BitVec 32 := 0#32
  let v489 : BitVec 1 := Scalar.cmpi .eq c4_i32_450 c0_i32_451
  let c1_i32_452 : BitVec 32 := 1#32
  let v490 : BitVec 32 := Scalar.select v489 c1_i32_452 c4_i32_450
  let v491 : BitVec 32 := Scalar.remsi v488 v490
  let c0_i32_454 : BitVec 32 := 0#32
  let v493 : BitVec 1 := Scalar.cmpi .slt v491 c0_i32_454
  let c0_i32_455 : BitVec 32 := 0#32
  let v494 : BitVec 1 := Scalar.cmpi .slt v490 c0_i32_455
  let v495 : BitVec 1 := Scalar.xori v493 v494
  let c0_i32_453 : BitVec 32 := 0#32
  let v492 : BitVec 1 := Scalar.cmpi .ne v491 c0_i32_453
  let v496 : BitVec 1 := Scalar.andi v495 v492
  let v497 : BitVec 32 := Scalar.addi v491 v490
  let v498 : BitVec 32 := Scalar.select v496 v497 v491
  let c1024_i32_469 : BitVec 32 := 1024#32
  let v510 : BitVec 32 := Scalar.muli v498 c1024_i32_469
  let v511 : BitVec 32 := Scalar.addi v510 c0_i32_470
  let v512 : Index := Scalar.indexCast v511
  let c0_471 : Index := 0#32
  ![v512.toNat, 0]
def k0_off7 (d0 : Dev nD) (c0_i32_475 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_449 : BitVec 32 := 1#32
  let v488 : BitVec 32 := Scalar.subi v2 c1_i32_449
  let c4_i32_450 : BitVec 32 := 4#32
  let c0_i32_451 : BitVec 32 := 0#32
  let v489 : BitVec 1 := Scalar.cmpi .eq c4_i32_450 c0_i32_451
  let c1_i32_452 : BitVec 32 := 1#32
  let v490 : BitVec 32 := Scalar.select v489 c1_i32_452 c4_i32_450
  let v491 : BitVec 32 := Scalar.remsi v488 v490
  let c0_i32_454 : BitVec 32 := 0#32
  let v493 : BitVec 1 := Scalar.cmpi .slt v491 c0_i32_454
  let c0_i32_455 : BitVec 32 := 0#32
  let v494 : BitVec 1 := Scalar.cmpi .slt v490 c0_i32_455
  let v495 : BitVec 1 := Scalar.xori v493 v494
  let c0_i32_453 : BitVec 32 := 0#32
  let v492 : BitVec 1 := Scalar.cmpi .ne v491 c0_i32_453
  let v496 : BitVec 1 := Scalar.andi v495 v492
  let v497 : BitVec 32 := Scalar.addi v491 v490
  let v498 : BitVec 32 := Scalar.select v496 v497 v491
  let c1024_i32_474 : BitVec 32 := 1024#32
  let v518 : BitVec 32 := Scalar.muli v498 c1024_i32_474
  let v519 : BitVec 32 := Scalar.addi v518 c0_i32_475
  let c0_i32_477 : BitVec 32 := 0#32
  ![v519.toNat, 0]
def k0_off8 (d0 : Dev nD) (c1_i32_449 : BitVec 32) (c512_i32_516 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v488 : BitVec 32 := Scalar.subi v2 c1_i32_449
  let c4_i32_450 : BitVec 32 := 4#32
  let c0_i32_451 : BitVec 32 := 0#32
  let v489 : BitVec 1 := Scalar.cmpi .eq c4_i32_450 c0_i32_451
  let c1_i32_452 : BitVec 32 := 1#32
  let v490 : BitVec 32 := Scalar.select v489 c1_i32_452 c4_i32_450
  let v491 : BitVec 32 := Scalar.remsi v488 v490
  let c0_i32_454 : BitVec 32 := 0#32
  let v493 : BitVec 1 := Scalar.cmpi .slt v491 c0_i32_454
  let c0_i32_455 : BitVec 32 := 0#32
  let v494 : BitVec 1 := Scalar.cmpi .slt v490 c0_i32_455
  let v495 : BitVec 1 := Scalar.xori v493 v494
  let c0_i32_453 : BitVec 32 := 0#32
  let v492 : BitVec 1 := Scalar.cmpi .ne v491 c0_i32_453
  let v496 : BitVec 1 := Scalar.andi v495 v492
  let v497 : BitVec 32 := Scalar.addi v491 v490
  let v498 : BitVec 32 := Scalar.select v496 v497 v491
  let c1024_i32_515 : BitVec 32 := 1024#32
  let v560 : BitVec 32 := Scalar.muli v498 c1024_i32_515
  let v561 : BitVec 32 := Scalar.addi v560 c512_i32_516
  let v562 : Index := Scalar.indexCast v561
  let c0_517 : Index := 0#32
  ![v562.toNat, 0]
def k0_off8_at (r : Fin 5) : BitVec 32 × BitVec 32 :=
  if r.val < 2 then
    if r.val < 1 then
      (1#32, 512#32)
    else
      (2#32, 0#32)
  else
    if r.val < 3 then
      (2#32, 512#32)
    else
      if r.val < 4 then
        (3#32, 0#32)
      else
        (3#32, 512#32)
def k0_off9 (d0 : Dev nD) (c1_i32_449 : BitVec 32) (c512_i32_521 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v488 : BitVec 32 := Scalar.subi v2 c1_i32_449
  let c4_i32_450 : BitVec 32 := 4#32
  let c0_i32_451 : BitVec 32 := 0#32
  let v489 : BitVec 1 := Scalar.cmpi .eq c4_i32_450 c0_i32_451
  let c1_i32_452 : BitVec 32 := 1#32
  let v490 : BitVec 32 := Scalar.select v489 c1_i32_452 c4_i32_450
  let v491 : BitVec 32 := Scalar.remsi v488 v490
  let c0_i32_454 : BitVec 32 := 0#32
  let v493 : BitVec 1 := Scalar.cmpi .slt v491 c0_i32_454
  let c0_i32_455 : BitVec 32 := 0#32
  let v494 : BitVec 1 := Scalar.cmpi .slt v490 c0_i32_455
  let v495 : BitVec 1 := Scalar.xori v493 v494
  let c0_i32_453 : BitVec 32 := 0#32
  let v492 : BitVec 1 := Scalar.cmpi .ne v491 c0_i32_453
  let v496 : BitVec 1 := Scalar.andi v495 v492
  let v497 : BitVec 32 := Scalar.addi v491 v490
  let v498 : BitVec 32 := Scalar.select v496 v497 v491
  let c1024_i32_520 : BitVec 32 := 1024#32
  let v568 : BitVec 32 := Scalar.muli v498 c1024_i32_520
  let v569 : BitVec 32 := Scalar.addi v568 c512_i32_521
  let c0_i32_523 : BitVec 32 := 0#32
  ![v569.toNat, 0]
def k0_off9_at (r : Fin 5) : BitVec 32 × BitVec 32 :=
  if r.val < 2 then
    if r.val < 1 then
      (1#32, 512#32)
    else
      (2#32, 0#32)
  else
    if r.val < 3 then
      (2#32, 512#32)
    else
      if r.val < 4 then
        (3#32, 0#32)
      else
        (3#32, 512#32)
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.PI.Mesh.lean ====
/-
  The kernel's vocabulary: the ring of four devices, the buffers and their pieces, what every buffer holds, and the records of the exchange.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic
public import Idealize.ShloMosaic.Lib.ValueLayout
public import Idealize.ShloMosaic.Lib.Pipeline.ValueKit.Geometry

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's ghost state. -/
abbrev UB : Type := URounds (GSem nD τ sig) (Fin 3)
/-- The ghost state: the region's, the exchange's and the copies' counters. -/
abbrev UU : Type := UR sig nD τ × (UB × Counters)

local notation "𝕄" => MT nD τ sig Bool (Elt F) ℕ UU ℕ

/-- Where the region's ghost state lies. -/
abbrev EP : Emb (UR sig nD τ) (MT nD τ sig Bool (Elt F) ℕ UU ℕ) := embL
/-- Where the exchange's ghost state lies. -/
abbrev ER : Emb UB (MT nD τ sig Bool (Elt F) ℕ UU ℕ) := (Emb.inl : Emb UB (UB × Counters)).trans embR

variable (m : (ℓ : Loc nD τ sig) → Buf (Elt F) ℓ)

/-! ## The mesh -/

/-- The device `k` places after `c` around the ring of four. -/
def up (c : Dev nD) (k : ℕ) : Dev nD := ⟨(c.val + k) % 4, Nat.mod_lt _ (by decide)⟩

/-- The number of the device `k` on. -/
theorem up_val (c : Dev nD) (k : ℕ) : (up c k).val = (c.val + k) % 4 := rfl
/-- There are four devices. -/
theorem dev_lt (c : Dev nD) : c.val < 4 := c.isLt

/-- Steps that add up to a whole turn lead back. -/
theorem up_up (c : Dev nD) (a b : ℕ) (h : (a + b) % 4 = 0) : up (up c a) b = c := by
  apply Fin.ext; have := dev_lt c; rw [up_val, up_val]; omega
/-- 1 on and 3 on is a whole turn. -/
theorem up_1_3 (c : Dev nD) : up (up c 1) 3 = c := up_up c 1 3 rfl
/-- 2 on and 2 on is a whole turn. -/
theorem up_2_2 (c : Dev nD) : up (up c 2) 2 = c := up_up c 2 2 rfl
/-- 3 on and 1 on is a whole turn. -/
theorem up_3_1 (c : Dev nD) : up (up c 3) 1 = c := up_up c 3 1 rfl

/-! The printed device words and window offsets, in closed form. -/

/-- The target of barrier signal 1 is the device 1 on. -/
theorem dev1_eq (c : Dev nD) : (⟨k0_dev1 c, k0_dev1_lt c⟩ : Dev nD) = up c 1 := by revert c; decide +kernel
/-- The target of barrier signal 2 is the device 2 on. -/
theorem dev2_eq (c : Dev nD) : (⟨k0_dev2 c, k0_dev2_lt c⟩ : Dev nD) = up c 2 := by revert c; decide +kernel
/-- The target of barrier signal 3 is the device 3 on. -/
theorem dev3_eq (c : Dev nD) : (⟨k0_dev3 c, k0_dev3_lt c⟩ : Dev nD) = up c 3 := by revert c; decide +kernel
/-- The target of remote copy 0 is the device 1 on. -/
theorem dev4_eq (c : Dev nD) : (⟨k0_dev4 c, k0_dev4_lt c⟩ : Dev nD) = up c 1 := by revert c; decide +kernel
/-- The target of remote copy 1 is the device 1 on. -/
theorem dev5_eq (c : Dev nD) : (⟨k0_dev5 c, k0_dev5_lt c⟩ : Dev nD) = up c 1 := by revert c; decide +kernel
/-- The target of remote copy 2 is the device 1 on. -/
theorem dev6_eq (c : Dev nD) : (⟨k0_dev6 c, k0_dev6_lt c⟩ : Dev nD) = up c 1 := by revert c; decide +kernel
/-- The target of remote copy 3 is the device 2 on. -/
theorem dev7_eq (c : Dev nD) : (⟨k0_dev7 c, k0_dev7_lt c⟩ : Dev nD) = up c 2 := by revert c; decide +kernel
/-- The target of remote copy 4 is the device 2 on. -/
theorem dev8_eq (c : Dev nD) : (⟨k0_dev8 c, k0_dev8_lt c⟩ : Dev nD) = up c 2 := by revert c; decide +kernel
/-- The target of remote copy 5 is the device 3 on. -/
theorem dev9_eq (c : Dev nD) : (⟨k0_dev9 c, k0_dev9_lt c⟩ : Dev nD) = up c 3 := by revert c; decide +kernel
/-- The target of remote copy 6 is the device 3 on. -/
theorem dev10_eq (c : Dev nD) : (⟨k0_dev10 c, k0_dev10_lt c⟩ : Dev nD) = up c 3 := by revert c; decide +kernel

/-- The first weight columns are those of the device 1 on. -/
theorem off1_1 (c : Dev nD) : k0_off1 c 1#32 = ![0, 512 * (up c 1).val] := by revert c; decide +kernel
/-- The second weight columns are those of the device 2 on. -/
theorem off2_1 (c : Dev nD) : k0_off2 c 1#32 = ![0, 512 * (up c 2).val] := by revert c; decide +kernel
/-- The third weight columns are those of the device 3 on. -/
theorem off2_2 (c : Dev nD) : k0_off2 c 2#32 = ![0, 512 * (up c 3).val] := by revert c; decide +kernel
/-- The last weight columns are the device's own. -/
theorem off2_3 (c : Dev nD) : k0_off2 c 3#32 = ![0, 512 * c.val] := by revert c; decide +kernel
/-- The wait for the last weight columns names the device's own. -/
theorem off3 (c : Dev nD) : k0_off3 c = ![0, 512 * c.val] := by revert c; decide +kernel
/-- Where the device's own rows are stored. -/
theorem off4 (c : Dev nD) : k0_off4 c = ![1024 * c.val, 0] := by revert c; decide +kernel
/-- Where the copy out of the device's own rows reads and writes. -/
theorem off5 (c : Dev nD) : k0_off5 c = ![1024 * c.val, 0] := by revert c; decide +kernel
/-- Where the rows from receive slot 0 are stored: in the row block of the device they came from. -/
theorem offv_0 (c : Dev nD) : k0_off6 c 0#32 = ![1024 * (up c 3).val + 0, 0] := by revert c; decide +kernel
/-- Where the copy out of the rows from receive slot 0 reads and writes: the same rows. -/
theorem offo_0 (c : Dev nD) : k0_off7 c 0#32 = ![1024 * (up c 3).val + 0, 0] := by revert c; decide +kernel
/-- Where the rows from receive slot 1 are stored: in the row block of the device they came from. -/
theorem offv_1 (c : Dev nD) : k0_off6 c 256#32 = ![1024 * (up c 3).val + 256, 0] := by revert c; decide +kernel
/-- Where the copy out of the rows from receive slot 1 reads and writes: the same rows. -/
theorem offo_1 (c : Dev nD) : k0_off7 c 256#32 = ![1024 * (up c 3).val + 256, 0] := by revert c; decide +kernel
/-- Where the rows from receive slot 2 are stored: in the row block of the device they came from. -/
theorem offv_2 (c : Dev nD) : k0_off8 c 1#32 512#32 = ![1024 * (up c 3).val + 512, 0] := by revert c; decide +kernel
/-- Where the copy out of the rows from receive slot 2 reads and writes: the same rows. -/
theorem offo_2 (c : Dev nD) : k0_off9 c 1#32 512#32 = ![1024 * (up c 3).val + 512, 0] := by revert c; decide +kernel
/-- Where the rows from receive slot 3 are stored: in the row block of the device they came from. -/
theorem offv_3 (c : Dev nD) : k0_off8 c 2#32 0#32 = ![1024 * (up c 2).val + 0, 0] := by revert c; decide +kernel
/-- Where the copy out of the rows from receive slot 3 reads and writes: the same rows. -/
theorem offo_3 (c : Dev nD) : k0_off9 c 2#32 0#32 = ![1024 * (up c 2).val + 0, 0] := by revert c; decide +kernel
/-- Where the rows from receive slot 4 are stored: in the row block of the device they came from. -/
theorem offv_4 (c : Dev nD) : k0_off8 c 2#32 512#32 = ![1024 * (up c 2).val + 512, 0] := by revert c; decide +kernel
/-- Where the copy out of the rows from receive slot 4 reads and writes: the same rows. -/
theorem offo_4 (c : Dev nD) : k0_off9 c 2#32 512#32 = ![1024 * (up c 2).val + 512, 0] := by revert c; decide +kernel
/-- Where the rows from receive slot 5 are stored: in the row block of the device they came from. -/
theorem offv_5 (c : Dev nD) : k0_off8 c 3#32 0#32 = ![1024 * (up c 1).val + 0, 0] := by revert c; decide +kernel
/-- Where the copy out of the rows from receive slot 5 reads and writes: the same rows. -/
theorem offo_5 (c : Dev nD) : k0_off9 c 3#32 0#32 = ![1024 * (up c 1).val + 0, 0] := by revert c; decide +kernel
/-- Where the rows from receive slot 6 are stored: in the row block of the device they came from. -/
theorem offv_6 (c : Dev nD) : k0_off8 c 3#32 512#32 = ![1024 * (up c 1).val + 512, 0] := by revert c; decide +kernel
/-- Where the copy out of the rows from receive slot 6 reads and writes: the same rows. -/
theorem offo_6 (c : Dev nD) : k0_off9 c 3#32 512#32 = ![1024 * (up c 1).val + 512, 0] := by revert c; decide +kernel

/-! ## The buffers and their pieces -/

/-- The input in HBM. -/
abbrev xH : Memref sig .tc .hbm S1024x4096 .f32 := Memref.whole main_arg0
/-- The weights in HBM. -/
abbrev wH : Memref sig .tc .hbm S4096x2048 .f32 := Memref.whole main_arg1
/-- The result in HBM. -/
abbrev oH : Memref sig .tc .hbm S4096x512 .f32 := Memref.whole main_v1
/-- The input's copy in VMEM. -/
abbrev xB : Memref sig .tc .vmem S1024x4096 .f32 := Memref.whole cc0_scratch0
/-- The two planes for the weights' copies. -/
abbrev wB : Memref sig .tc .vmem S2x4096x512 .f32 := Memref.whole cc0_scratch2
/-- The result in VMEM. -/
abbrev vB : Memref sig .tc .vmem S4096x512 .f32 := Memref.whole cc0_scratch4
/-- The send buffer. -/
abbrev sB : Memref sig .tc .vmem S3x1024x512 .bf16 := Memref.whole cc0_scratch6
/-- The receive buffer. -/
abbrev rB : Memref sig .tc .vmem S3x1024x512 .bf16 := Memref.whole cc0_scratch7

/-- Row block 0 of the input. -/
abbrev xR0 : Rect S1024x4096 := Rect.unit (s := S1024x4096) ![0, 0] S256x4096.size inb_S1024x4096_S256x4096_0_0
/-- Row block 1 of the input. -/
abbrev xR1 : Rect S1024x4096 := Rect.unit (s := S1024x4096) ![256, 0] S256x4096.size inb_S1024x4096_S256x4096_256_0
/-- Row block 2 of the input. -/
abbrev xR2 : Rect S1024x4096 := Rect.unit (s := S1024x4096) ![512, 0] S512x4096.size inb_S1024x4096_S512x4096_512_0
/-- Plane 0 of the buffer of the weights' copies. -/
abbrev wR0 : Rect S2x4096x512 := Rect.unit (s := S2x4096x512) ![0, 0, 0] S1x4096x512.size inb_S2x4096x512_S1x4096x512_0_0_0
/-- Plane 1 of the buffer of the weights' copies. -/
abbrev wR1 : Rect S2x4096x512 := Rect.unit (s := S2x4096x512) ![1, 0, 0] S1x4096x512.size inb_S2x4096x512_S1x4096x512_1_0_0
/-- Slot 0 of the send and receive buffers. -/
abbrev pR0 : Rect S3x1024x512 := Rect.unit (s := S3x1024x512) ![0, 0, 0] S1x256x512.size inb_S3x1024x512_S1x256x512_0_0_0
/-- Slot 1 of the send and receive buffers. -/
abbrev pR1 : Rect S3x1024x512 := Rect.unit (s := S3x1024x512) ![0, 256, 0] S1x256x512.size inb_S3x1024x512_S1x256x512_0_256_0
/-- Slot 2 of the send and receive buffers. -/
abbrev pR2 : Rect S3x1024x512 := Rect.unit (s := S3x1024x512) ![0, 512, 0] S1x512x512.size inb_S3x1024x512_S1x512x512_0_512_0
/-- Slot 3 of the send and receive buffers. -/
abbrev pR3 : Rect S3x1024x512 := Rect.unit (s := S3x1024x512) ![1, 0, 0] S1x512x512.size inb_S3x1024x512_S1x512x512_1_0_0
/-- Slot 4 of the send and receive buffers. -/
abbrev pR4 : Rect S3x1024x512 := Rect.unit (s := S3x1024x512) ![1, 512, 0] S1x512x512.size inb_S3x1024x512_S1x512x512_1_512_0
/-- Slot 5 of the send and receive buffers. -/
abbrev pR5 : Rect S3x1024x512 := Rect.unit (s := S3x1024x512) ![2, 0, 0] S1x512x512.size inb_S3x1024x512_S1x512x512_2_0_0
/-- Slot 6 of the send and receive buffers. -/
abbrev pR6 : Rect S3x1024x512 := Rect.unit (s := S3x1024x512) ![2, 512, 0] S1x512x512.size inb_S3x1024x512_S1x512x512_2_512_0

/-! The row blocks of the result: block 7 is the device's own, block `s < 7` the one the landing of slot `s` fills. -/

/-- The rows of the result that come from receive slot 0. -/
abbrev oR0 (c : Dev nD) : Rect S4096x512 := Rect.unit (s := S4096x512) (k0_off7 c 0#32) S256x512.size (k0_off7_inb c 0)
/-- The rows of the result that come from receive slot 1. -/
abbrev oR1 (c : Dev nD) : Rect S4096x512 := Rect.unit (s := S4096x512) (k0_off7 c 256#32) S256x512.size (k0_off7_inb c 1)
/-- The rows of the result that come from receive slot 2. -/
abbrev oR2 (c : Dev nD) : Rect S4096x512 := Rect.unit (s := S4096x512) (k0_off9 c 1#32 512#32) S512x512.size (k0_off9_inb c 0)
/-- The rows of the result that come from receive slot 3. -/
abbrev oR3 (c : Dev nD) : Rect S4096x512 := Rect.unit (s := S4096x512) (k0_off9 c 2#32 0#32) S512x512.size (k0_off9_inb c 1)
/-- The rows of the result that come from receive slot 4. -/
abbrev oR4 (c : Dev nD) : Rect S4096x512 := Rect.unit (s := S4096x512) (k0_off9 c 2#32 512#32) S512x512.size (k0_off9_inb c 2)
/-- The rows of the result that come from receive slot 5. -/
abbrev oR5 (c : Dev nD) : Rect S4096x512 := Rect.unit (s := S4096x512) (k0_off9 c 3#32 0#32) S512x512.size (k0_off9_inb c 3)
/-- The rows of the result that come from receive slot 6. -/
abbrev oR6 (c : Dev nD) : Rect S4096x512 := Rect.unit (s := S4096x512) (k0_off9 c 3#32 512#32) S512x512.size (k0_off9_inb c 4)
/-- The device's own rows of the result. -/
abbrev oR7 (c : Dev nD) : Rect S4096x512 := Rect.unit (s := S4096x512) (k0_off5 c) S1024x512.size (k0_off5_inb c)

/-- Row block 0 of the input's copy in VMEM. -/
abbrev xP0 : Memref sig .tc .vmem S256x4096 .f32 := xB.slice xR0 (fun _ => rfl)
/-- Row block 0 of the input in HBM. -/
abbrev xH0 : Memref sig .tc .hbm S256x4096 .f32 := xH.slice xR0 (fun _ => rfl)
/-- Row block 1 of the input's copy in VMEM. -/
abbrev xP1 : Memref sig .tc .vmem S256x4096 .f32 := xB.slice xR1 (fun _ => rfl)
/-- Row block 1 of the input in HBM. -/
abbrev xH1 : Memref sig .tc .hbm S256x4096 .f32 := xH.slice xR1 (fun _ => rfl)
/-- Row block 2 of the input's copy in VMEM. -/
abbrev xP2 : Memref sig .tc .vmem S512x4096 .f32 := xB.slice xR2 (fun _ => rfl)
/-- Row block 2 of the input in HBM. -/
abbrev xH2 : Memref sig .tc .hbm S512x4096 .f32 := xH.slice xR2 (fun _ => rfl)
/-- Plane 0 of the buffer of the weights' copies, as a matrix. -/
abbrev wP0 : Memref sig .tc .vmem S4096x512 .f32 := (wB.slice wR0 (fun _ => rfl)).squeeze S4096x512 squeezes_S1x4096x512_S4096x512
/-- Plane 1 of the buffer of the weights' copies, as a matrix. -/
abbrev wP1 : Memref sig .tc .vmem S4096x512 .f32 := (wB.slice wR1 (fun _ => rfl)).squeeze S4096x512 squeezes_S1x4096x512_S4096x512
/-- Slot 0 of the send buffer. -/
abbrev sP0 : Memref sig .tc .vmem S256x512 .bf16 := (sB.slice pR0 (fun _ => rfl)).squeeze S256x512 squeezes_S1x256x512_S256x512
/-- Slot 0 of the receive buffer. -/
abbrev rP0 : Memref sig .tc .vmem S256x512 .bf16 := (rB.slice pR0 (fun _ => rfl)).squeeze S256x512 squeezes_S1x256x512_S256x512
/-- Slot 1 of the send buffer. -/
abbrev sP1 : Memref sig .tc .vmem S256x512 .bf16 := (sB.slice pR1 (fun _ => rfl)).squeeze S256x512 squeezes_S1x256x512_S256x512
/-- Slot 1 of the receive buffer. -/
abbrev rP1 : Memref sig .tc .vmem S256x512 .bf16 := (rB.slice pR1 (fun _ => rfl)).squeeze S256x512 squeezes_S1x256x512_S256x512
/-- Slot 2 of the send buffer. -/
abbrev sP2 : Memref sig .tc .vmem S512x512 .bf16 := (sB.slice pR2 (fun _ => rfl)).squeeze S512x512 squeezes_S1x512x512_S512x512
/-- Slot 2 of the receive buffer. -/
abbrev rP2 : Memref sig .tc .vmem S512x512 .bf16 := (rB.slice pR2 (fun _ => rfl)).squeeze S512x512 squeezes_S1x512x512_S512x512
/-- Slot 3 of the send buffer. -/
abbrev sP3 : Memref sig .tc .vmem S512x512 .bf16 := (sB.slice pR3 (fun _ => rfl)).squeeze S512x512 squeezes_S1x512x512_S512x512
/-- Slot 3 of the receive buffer. -/
abbrev rP3 : Memref sig .tc .vmem S512x512 .bf16 := (rB.slice pR3 (fun _ => rfl)).squeeze S512x512 squeezes_S1x512x512_S512x512
/-- Slot 4 of the send buffer. -/
abbrev sP4 : Memref sig .tc .vmem S512x512 .bf16 := (sB.slice pR4 (fun _ => rfl)).squeeze S512x512 squeezes_S1x512x512_S512x512
/-- Slot 4 of the receive buffer. -/
abbrev rP4 : Memref sig .tc .vmem S512x512 .bf16 := (rB.slice pR4 (fun _ => rfl)).squeeze S512x512 squeezes_S1x512x512_S512x512
/-- Slot 5 of the send buffer. -/
abbrev sP5 : Memref sig .tc .vmem S512x512 .bf16 := (sB.slice pR5 (fun _ => rfl)).squeeze S512x512 squeezes_S1x512x512_S512x512
/-- Slot 5 of the receive buffer. -/
abbrev rP5 : Memref sig .tc .vmem S512x512 .bf16 := (rB.slice pR5 (fun _ => rfl)).squeeze S512x512 squeezes_S1x512x512_S512x512
/-- Slot 6 of the send buffer. -/
abbrev sP6 : Memref sig .tc .vmem S512x512 .bf16 := (sB.slice pR6 (fun _ => rfl)).squeeze S512x512 squeezes_S1x512x512_S512x512
/-- Slot 6 of the receive buffer. -/
abbrev rP6 : Memref sig .tc .vmem S512x512 .bf16 := (rB.slice pR6 (fun _ => rfl)).squeeze S512x512 squeezes_S1x512x512_S512x512
/-- Row block 0 of the result in VMEM. -/
abbrev vP0 (c : Dev nD) : Memref sig .tc .vmem S256x512 .f32 := vB.slice (oR0 c) (fun _ => rfl)
/-- Row block 0 of the result in HBM. -/
abbrev oP0 (c : Dev nD) : Memref sig .tc .hbm S256x512 .f32 := oH.slice (oR0 c) (fun _ => rfl)
/-- Row block 1 of the result in VMEM. -/
abbrev vP1 (c : Dev nD) : Memref sig .tc .vmem S256x512 .f32 := vB.slice (oR1 c) (fun _ => rfl)
/-- Row block 1 of the result in HBM. -/
abbrev oP1 (c : Dev nD) : Memref sig .tc .hbm S256x512 .f32 := oH.slice (oR1 c) (fun _ => rfl)
/-- Row block 2 of the result in VMEM. -/
abbrev vP2 (c : Dev nD) : Memref sig .tc .vmem S512x512 .f32 := vB.slice (oR2 c) (fun _ => rfl)
/-- Row block 2 of the result in HBM. -/
abbrev oP2 (c : Dev nD) : Memref sig .tc .hbm S512x512 .f32 := oH.slice (oR2 c) (fun _ => rfl)
/-- Row block 3 of the result in VMEM. -/
abbrev vP3 (c : Dev nD) : Memref sig .tc .vmem S512x512 .f32 := vB.slice (oR3 c) (fun _ => rfl)
/-- Row block 3 of the result in HBM. -/
abbrev oP3 (c : Dev nD) : Memref sig .tc .hbm S512x512 .f32 := oH.slice (oR3 c) (fun _ => rfl)
/-- Row block 4 of the result in VMEM. -/
abbrev vP4 (c : Dev nD) : Memref sig .tc .vmem S512x512 .f32 := vB.slice (oR4 c) (fun _ => rfl)
/-- Row block 4 of the result in HBM. -/
abbrev oP4 (c : Dev nD) : Memref sig .tc .hbm S512x512 .f32 := oH.slice (oR4 c) (fun _ => rfl)
/-- Row block 5 of the result in VMEM. -/
abbrev vP5 (c : Dev nD) : Memref sig .tc .vmem S512x512 .f32 := vB.slice (oR5 c) (fun _ => rfl)
/-- Row block 5 of the result in HBM. -/
abbrev oP5 (c : Dev nD) : Memref sig .tc .hbm S512x512 .f32 := oH.slice (oR5 c) (fun _ => rfl)
/-- Row block 6 of the result in VMEM. -/
abbrev vP6 (c : Dev nD) : Memref sig .tc .vmem S512x512 .f32 := vB.slice (oR6 c) (fun _ => rfl)
/-- Row block 6 of the result in HBM. -/
abbrev oP6 (c : Dev nD) : Memref sig .tc .hbm S512x512 .f32 := oH.slice (oR6 c) (fun _ => rfl)
/-- Row block 7 of the result in VMEM. -/
abbrev vP7 (c : Dev nD) : Memref sig .tc .vmem S1024x512 .f32 := vB.slice (oR7 c) (fun _ => rfl)
/-- Row block 7 of the result in HBM. -/
abbrev oP7 (c : Dev nD) : Memref sig .tc .hbm S1024x512 .f32 := oH.slice (oR7 c) (fun _ => rfl)

/-! ## The contents

Every buffer is described by one function over the whole of it; a piece of it holds that function's restriction. -/

/-- Device `c`'s rows of `x`, as its copy in VMEM holds them. -/
def xC (c : Dev nD) : Buf (Elt F) ((c : Thread nD τ).loc cc0_scratch0) := m ((c : Thread nD τ).loc main_arg0)
/-- The 512 columns of `w` that device `d` keeps, in either slot of device `c`'s weight buffer. -/
def wC (c d : Dev nD) : Buf (Elt F) ((c : Thread nD τ).loc cc0_scratch2) := fun (i : S2x4096x512.Idx) =>
  m ((c : Thread nD τ).loc main_arg1) (show S4096x2048.Idx from ix2 (i 1) ⟨(512 * d.val + (i 2).val) % 2048, Nat.mod_lt _ (by decide)⟩)

/-- What device `c` stores in slot 0 of its send buffer. -/
def sV0 (c : Dev nD) : FVec F S1x256x512 .bf16 :=
  k0_pay3 (k0_pay1 (xB.view.readAt (Elt F) (Rect.unit (s := S1024x4096) ![0, 0] S256x1024.size inb_S1024x4096_S256x1024_0_0).toLoadRect (xC m c)) (wB.view.readAt (Elt F) (Rect.unit (s := S2x4096x512) ![0, 0, 0] S1x1024x512.size inb_S2x4096x512_S1x1024x512_0_0_0).toLoadRect (wC m c (up c 1)))) (k0_pay2 (xB.view.readAt (Elt F) (Rect.unit (s := S1024x4096) ![0, 1024] S256x1024.size inb_S1024x4096_S256x1024_0_1024).toLoadRect (xC m c)) (wB.view.readAt (Elt F) (Rect.unit (s := S2x4096x512) ![0, 1024, 0] S1x1024x512.size inb_S2x4096x512_S1x1024x512_0_1024_0).toLoadRect (wC m c (up c 1)))) (xB.view.readAt (Elt F) (Rect.unit (s := S1024x4096) ![0, 2048] S256x1024.size inb_S1024x4096_S256x1024_0_2048).toLoadRect (xC m c)) (wB.view.readAt (Elt F) (Rect.unit (s := S2x4096x512) ![0, 2048, 0] S1x1024x512.size inb_S2x4096x512_S1x1024x512_0_2048_0).toLoadRect (wC m c (up c 1))) (xB.view.readAt (Elt F) (Rect.unit (s := S1024x4096) ![0, 3072] S256x1024.size inb_S1024x4096_S256x1024_0_3072).toLoadRect (xC m c)) (wB.view.readAt (Elt F) (Rect.unit (s := S2x4096x512) ![0, 3072, 0] S1x1024x512.size inb_S2x4096x512_S1x1024x512_0_3072_0).toLoadRect (wC m c (up c 1)))
/-- What device `c` stores in slot 1 of its send buffer. -/
def sV1 (c : Dev nD) : FVec F S1x256x512 .bf16 :=
  k0_pay5 (k0_pay4 (xB.view.readAt (Elt F) (Rect.unit (s := S1024x4096) ![256, 0] S256x1024.size inb_S1024x4096_S256x1024_256_0).toLoadRect (xC m c)) (wB.view.readAt (Elt F) (Rect.unit (s := S2x4096x512) ![0, 0, 0] S1x1024x512.size inb_S2x4096x512_S1x1024x512_0_0_0).toLoadRect (wC m c (up c 1))) (xB.view.readAt (Elt F) (Rect.unit (s := S1024x4096) ![256, 1024] S256x1024.size inb_S1024x4096_S256x1024_256_1024).toLoadRect (xC m c)) (wB.view.readAt (Elt F) (Rect.unit (s := S2x4096x512) ![0, 1024, 0] S1x1024x512.size inb_S2x4096x512_S1x1024x512_0_1024_0).toLoadRect (wC m c (up c 1))) (xB.view.readAt (Elt F) (Rect.unit (s := S1024x4096) ![256, 2048] S256x1024.size inb_S1024x4096_S256x1024_256_2048).toLoadRect (xC m c)) (wB.view.readAt (Elt F) (Rect.unit (s := S2x4096x512) ![0, 2048, 0] S1x1024x512.size inb_S2x4096x512_S1x1024x512_0_2048_0).toLoadRect (wC m c (up c 1))) (xB.view.readAt (Elt F) (Rect.unit (s := S1024x4096) ![256, 3072] S256x1024.size inb_S1024x4096_S256x1024_256_3072).toLoadRect (xC m c)) (wB.view.readAt (Elt F) (Rect.unit (s := S2x4096x512) ![0, 3072, 0] S1x1024x512.size inb_S2x4096x512_S1x1024x512_0_3072_0).toLoadRect (wC m c (up c 1))))
/-- What device `c` stores in slot 2 of its send buffer. -/
def sV2 (c : Dev nD) : FVec F S1x512x512 .bf16 :=
  k0_pay7 (k0_pay6 (xB.view.readAt (Elt F) (Rect.unit (s := S1024x4096) ![512, 0] S512x1024.size inb_S1024x4096_S512x1024_512_0).toLoadRect (xC m c)) (wB.view.readAt (Elt F) (Rect.unit (s := S2x4096x512) ![0, 0, 0] S1x1024x512.size inb_S2x4096x512_S1x1024x512_0_0_0).toLoadRect (wC m c (up c 1))) (xB.view.readAt (Elt F) (Rect.unit (s := S1024x4096) ![512, 1024] S512x1024.size inb_S1024x4096_S512x1024_512_1024).toLoadRect (xC m c)) (wB.view.readAt (Elt F) (Rect.unit (s := S2x4096x512) ![0, 1024, 0] S1x1024x512.size inb_S2x4096x512_S1x1024x512_0_1024_0).toLoadRect (wC m c (up c 1)))) (xB.view.readAt (Elt F) (Rect.unit (s := S1024x4096) ![512, 2048] S512x1024.size inb_S1024x4096_S512x1024_512_2048).toLoadRect (xC m c)) (wB.view.readAt (Elt F) (Rect.unit (s := S2x4096x512) ![0, 2048, 0] S1x1024x512.size inb_S2x4096x512_S1x1024x512_0_2048_0).toLoadRect (wC m c (up c 1))) (xB.view.readAt (Elt F) (Rect.unit (s := S1024x4096) ![512, 3072] S512x1024.size inb_S1024x4096_S512x1024_512_3072).toLoadRect (xC m c)) (wB.view.readAt (Elt F) (Rect.unit (s := S2x4096x512) ![0, 3072, 0] S1x1024x512.size inb_S2x4096x512_S1x1024x512_0_3072_0).toLoadRect (wC m c (up c 1)))
/-- What device `c` stores in slot 3 of its send buffer. -/
def sV3 (c : Dev nD) : FVec F S1x512x512 .bf16 :=
  k0_pay9 k0_pay8 (xB.view.readAt (Elt F) (Rect.unit (s := S1024x4096) ![0, 0] S512x1024.size inb_S1024x4096_S512x1024_0_0).toLoadRect (xC m c)) (wB.view.readAt (Elt F) (Rect.unit (s := S2x4096x512) ![1, 0, 0] S1x1024x512.size inb_S2x4096x512_S1x1024x512_1_0_0).toLoadRect (wC m c (up c 2))) (xB.view.readAt (Elt F) (Rect.unit (s := S1024x4096) ![0, 1024] S512x1024.size inb_S1024x4096_S512x1024_0_1024).toLoadRect (xC m c)) (wB.view.readAt (Elt F) (Rect.unit (s := S2x4096x512) ![1, 1024, 0] S1x1024x512.size inb_S2x4096x512_S1x1024x512_1_1024_0).toLoadRect (wC m c (up c 2))) (xB.view.readAt (Elt F) (Rect.unit (s := S1024x4096) ![0, 2048] S512x1024.size inb_S1024x4096_S512x1024_0_2048).toLoadRect (xC m c)) (wB.view.readAt (Elt F) (Rect.unit (s := S2x4096x512) ![1, 2048, 0] S1x1024x512.size inb_S2x4096x512_S1x1024x512_1_2048_0).toLoadRect (wC m c (up c 2))) (xB.view.readAt (Elt F) (Rect.unit (s := S1024x4096) ![0, 3072] S512x1024.size inb_S1024x4096_S512x1024_0_3072).toLoadRect (xC m c)) (wB.view.readAt (Elt F) (Rect.unit (s := S2x4096x512) ![1, 3072, 0] S1x1024x512.size inb_S2x4096x512_S1x1024x512_1_3072_0).toLoadRect (wC m c (up c 2)))
/-- What device `c` stores in slot 4 of its send buffer. -/
def sV4 (c : Dev nD) : FVec F S1x512x512 .bf16 :=
  k0_pay11 (k0_pay10 (xB.view.readAt (Elt F) (Rect.unit (s := S1024x4096) ![512, 0] S512x1024.size inb_S1024x4096_S512x1024_512_0).toLoadRect (xC m c)) (wB.view.readAt (Elt F) (Rect.unit (s := S2x4096x512) ![1, 0, 0] S1x1024x512.size inb_S2x4096x512_S1x1024x512_1_0_0).toLoadRect (wC m c (up c 2))) (xB.view.readAt (Elt F) (Rect.unit (s := S1024x4096) ![512, 1024] S512x1024.size inb_S1024x4096_S512x1024_512_1024).toLoadRect (xC m c)) (wB.view.readAt (Elt F) (Rect.unit (s := S2x4096x512) ![1, 1024, 0] S1x1024x512.size inb_S2x4096x512_S1x1024x512_1_1024_0).toLoadRect (wC m c (up c 2))) (xB.view.readAt (Elt F) (Rect.unit (s := S1024x4096) ![512, 2048] S512x1024.size inb_S1024x4096_S512x1024_512_2048).toLoadRect (xC m c)) (wB.view.readAt (Elt F) (Rect.unit (s := S2x4096x512) ![1, 2048, 0] S1x1024x512.size inb_S2x4096x512_S1x1024x512_1_2048_0).toLoadRect (wC m c (up c 2))) (xB.view.readAt (Elt F) (Rect.unit (s := S1024x4096) ![512, 3072] S512x1024.size inb_S1024x4096_S512x1024_512_3072).toLoadRect (xC m c)) (wB.view.readAt (Elt F) (Rect.unit (s := S2x4096x512) ![1, 3072, 0] S1x1024x512.size inb_S2x4096x512_S1x1024x512_1_3072_0).toLoadRect (wC m c (up c 2)))) (Scalar.ofBits .f32 0x00000000#32)
/-- What device `c` stores in slot 5 of its send buffer. -/
def sV5 (c : Dev nD) : FVec F S1x512x512 .bf16 :=
  k0_pay13 (k0_pay12 (xB.view.readAt (Elt F) (Rect.unit (s := S1024x4096) ![0, 0] S512x1024.size inb_S1024x4096_S512x1024_0_0).toLoadRect (xC m c)) (wB.view.readAt (Elt F) (Rect.unit (s := S2x4096x512) ![0, 0, 0] S1x1024x512.size inb_S2x4096x512_S1x1024x512_0_0_0).toLoadRect (wC m c (up c 3))) (xB.view.readAt (Elt F) (Rect.unit (s := S1024x4096) ![0, 1024] S512x1024.size inb_S1024x4096_S512x1024_0_1024).toLoadRect (xC m c)) (wB.view.readAt (Elt F) (Rect.unit (s := S2x4096x512) ![0, 1024, 0] S1x1024x512.size inb_S2x4096x512_S1x1024x512_0_1024_0).toLoadRect (wC m c (up c 3)))) (xB.view.readAt (Elt F) (Rect.unit (s := S1024x4096) ![0, 2048] S512x1024.size inb_S1024x4096_S512x1024_0_2048).toLoadRect (xC m c)) (wB.view.readAt (Elt F) (Rect.unit (s := S2x4096x512) ![0, 2048, 0] S1x1024x512.size inb_S2x4096x512_S1x1024x512_0_2048_0).toLoadRect (wC m c (up c 3))) (xB.view.readAt (Elt F) (Rect.unit (s := S1024x4096) ![0, 3072] S512x1024.size inb_S1024x4096_S512x1024_0_3072).toLoadRect (xC m c)) (wB.view.readAt (Elt F) (Rect.unit (s := S2x4096x512) ![0, 3072, 0] S1x1024x512.size inb_S2x4096x512_S1x1024x512_0_3072_0).toLoadRect (wC m c (up c 3)))
/-- What device `c` stores in slot 6 of its send buffer. -/
def sV6 (c : Dev nD) : FVec F S1x512x512 .bf16 :=
  k0_pay15 k0_pay14 (xB.view.readAt (Elt F) (Rect.unit (s := S1024x4096) ![512, 0] S512x1024.size inb_S1024x4096_S512x1024_512_0).toLoadRect (xC m c)) (wB.view.readAt (Elt F) (Rect.unit (s := S2x4096x512) ![0, 0, 0] S1x1024x512.size inb_S2x4096x512_S1x1024x512_0_0_0).toLoadRect (wC m c (up c 3))) (xB.view.readAt (Elt F) (Rect.unit (s := S1024x4096) ![512, 1024] S512x1024.size inb_S1024x4096_S512x1024_512_1024).toLoadRect (xC m c)) (wB.view.readAt (Elt F) (Rect.unit (s := S2x4096x512) ![0, 1024, 0] S1x1024x512.size inb_S2x4096x512_S1x1024x512_0_1024_0).toLoadRect (wC m c (up c 3))) (xB.view.readAt (Elt F) (Rect.unit (s := S1024x4096) ![512, 2048] S512x1024.size inb_S1024x4096_S512x1024_512_2048).toLoadRect (xC m c)) (wB.view.readAt (Elt F) (Rect.unit (s := S2x4096x512) ![0, 2048, 0] S1x1024x512.size inb_S2x4096x512_S1x1024x512_0_2048_0).toLoadRect (wC m c (up c 3))) (xB.view.readAt (Elt F) (Rect.unit (s := S1024x4096) ![512, 3072] S512x1024.size inb_S1024x4096_S512x1024_512_3072).toLoadRect (xC m c)) (wB.view.readAt (Elt F) (Rect.unit (s := S2x4096x512) ![0, 3072, 0] S1x1024x512.size inb_S2x4096x512_S1x1024x512_0_3072_0).toLoadRect (wC m c (up c 3)))
/-- What device `c` stores in its own rows of the result. -/
def ownV (c : Dev nD) : FVec F S1024x512 .f32 :=
  k0_pay17 (k0_pay16 (xB.view.readAt (Elt F) (Rect.unit (s := S1024x4096) ![0, 0] S1024x1024.size inb_S1024x4096_S1024x1024_0_0).toLoadRect (xC m c)) (wB.view.readAt (Elt F) (Rect.unit (s := S2x4096x512) ![1, 0, 0] S1x1024x512.size inb_S2x4096x512_S1x1024x512_1_0_0).toLoadRect (wC m c (c))) (xB.view.readAt (Elt F) (Rect.unit (s := S1024x4096) ![0, 1024] S1024x1024.size inb_S1024x4096_S1024x1024_0_1024).toLoadRect (xC m c)) (wB.view.readAt (Elt F) (Rect.unit (s := S2x4096x512) ![1, 1024, 0] S1x1024x512.size inb_S2x4096x512_S1x1024x512_1_1024_0).toLoadRect (wC m c (c))) (xB.view.readAt (Elt F) (Rect.unit (s := S1024x4096) ![0, 2048] S1024x1024.size inb_S1024x4096_S1024x1024_0_2048).toLoadRect (xC m c)) (wB.view.readAt (Elt F) (Rect.unit (s := S2x4096x512) ![1, 2048, 0] S1x1024x512.size inb_S2x4096x512_S1x1024x512_1_2048_0).toLoadRect (wC m c (c)))) (xB.view.readAt (Elt F) (Rect.unit (s := S1024x4096) ![0, 3072] S1024x1024.size inb_S1024x4096_S1024x1024_0_3072).toLoadRect (xC m c)) (wB.view.readAt (Elt F) (Rect.unit (s := S2x4096x512) ![1, 3072, 0] S1x1024x512.size inb_S2x4096x512_S1x1024x512_1_3072_0).toLoadRect (wC m c (c)))

/-- Device `c`'s send buffer once every slot is stored. -/
def sendC (c : Dev nD) : Buf (Elt F) ((c : Thread nD τ).loc cc0_scratch6) := fun (i : S3x1024x512.Idx) =>
  if (i 0).val = 0 then
    if (i 1).val < 256 then sV0 m c (ix3 0 ⟨(i 1).val % 256, Nat.mod_lt _ (by decide)⟩ (i 2))
    else if (i 1).val < 512 then sV1 m c (ix3 0 ⟨(i 1).val % 256, Nat.mod_lt _ (by decide)⟩ (i 2))
    else sV2 m c (ix3 0 ⟨(i 1).val % 512, Nat.mod_lt _ (by decide)⟩ (i 2))
  else if (i 0).val = 1 then
    if (i 1).val < 512 then sV3 m c (ix3 0 ⟨(i 1).val % 512, Nat.mod_lt _ (by decide)⟩ (i 2))
    else sV4 m c (ix3 0 ⟨(i 1).val % 512, Nat.mod_lt _ (by decide)⟩ (i 2))
  else
    if (i 1).val < 512 then sV5 m c (ix3 0 ⟨(i 1).val % 512, Nat.mod_lt _ (by decide)⟩ (i 2))
    else sV6 m c (ix3 0 ⟨(i 1).val % 512, Nat.mod_lt _ (by decide)⟩ (i 2))
/-- Device `c`'s receive buffer once every copy has landed: plane `k - 1` is that plane of the device `k` places before. -/
def recvC (c : Dev nD) : Buf (Elt F) ((c : Thread nD τ).loc cc0_scratch7) := fun (i : S3x1024x512.Idx) =>
  (sendC m (up c (3 - (i 0).val)) : S3x1024x512.Idx → F .bf16) i
/-- Device `c`'s block of the result: its own rows, and the rows of every other device off the receive buffer. -/
def outC (c : Dev nD) : Buf (Elt F) ((c : Thread nD τ).loc cc0_scratch4) := fun (i : S4096x512.Idx) =>
  if (i 0).val / 1024 = c.val then ownV m c (ix2 ⟨(i 0).val % 1024, Nat.mod_lt _ (by decide)⟩ (i 1))
  else FloatOps.extf .f32 bitsLt_bf16_f32 ((recvC m c : S3x1024x512.Idx → F .bf16)
    (ix3 ⟨(c.val + 3 - (i 0).val / 1024) % 4 % 3, Nat.mod_lt _ (by decide)⟩ ⟨(i 0).val % 1024, Nat.mod_lt _ (by decide)⟩ (i 1)))

/-! ## The semaphores

Every device has one barrier cell, seven send cells and seven receive cells; cell `k` of a device is the barrier for `k = 0`, the
cell of send slot `k - 1` for `1 ≤ k ≤ 7`, and that of receive slot `k - 8` for `8 ≤ k`. -/

/-- The barrier semaphore. -/
abbrev barS : Sem sig := (SemArray.scalar (sig.barrier 0 rfl) : Sems sig S_).sem
/-- The exchange's semaphores: the barrier, seven for sends, seven for receives. -/
abbrev csem : Fin 15 → SemLoc sig
  | ⟨0, _⟩ => .reg barS
  | ⟨n + 1, h⟩ => .dma ⟨13 + n, show 13 + n < 27 by omega⟩
/-- Cell `k` of device `c`. -/
abbrev kcell (ck : Dev nD × Fin 15) : GSem nD τ sig := ((ck.1 : Thread nD τ), csem ck.2)
/-- The barrier cell of device `c`. -/
abbrev barCell (c : Dev nD) : GSem nD τ sig := kcell (c, 0)
/-- The number of the send cell of slot `s`. -/
abbrev sIx (s : Fin 7) : Fin 15 := ⟨s.val + 1, by omega⟩
/-- The number of the receive cell of slot `s`. -/
abbrev rIx (s : Fin 7) : Fin 15 := ⟨s.val + 8, by omega⟩
/-- The send cell of slot `s`. -/
abbrev sendCell (c : Dev nD) (s : Fin 7) : GSem nD τ sig := kcell (c, sIx s)
/-- The receive cell of slot `s`. -/
abbrev recvCell (c : Dev nD) (s : Fin 7) : GSem nD τ sig := kcell (c, rIx s)

/-- How far the copy of slot `s` travels around the ring. -/
abbrev hop : Fin 7 → ℕ := fun | 0 => 1 | 1 => 1 | 2 => 1 | 3 => 2 | 4 => 2 | 5 => 3 | 6 => 3
/-- What a copy of slot `s` counts on a semaphore. -/
abbrev amt : Fin 7 → ℕ := fun | 0 => 8192 | 1 => 8192 | 2 => 16384 | 3 => 16384 | 4 => 16384 | 5 => 16384 | 6 => 16384
/-- A copy counts at least one. -/
theorem amt_pos (s : Fin 7) : 0 < amt s := by revert s; decide

/-! ## What the cells hand over -/

/-- Slot `s` of device `c`'s send buffer, stored. -/
def sPay (c : Dev nD) : Fin 7 → sProp 𝕄
  | 0 => sP0.view.loc (c : Thread nD τ) ↦[sP0.view.set]{fullShare} (sendC m c)
  | 1 => sP1.view.loc (c : Thread nD τ) ↦[sP1.view.set]{fullShare} (sendC m c)
  | 2 => sP2.view.loc (c : Thread nD τ) ↦[sP2.view.set]{fullShare} (sendC m c)
  | 3 => sP3.view.loc (c : Thread nD τ) ↦[sP3.view.set]{fullShare} (sendC m c)
  | 4 => sP4.view.loc (c : Thread nD τ) ↦[sP4.view.set]{fullShare} (sendC m c)
  | 5 => sP5.view.loc (c : Thread nD τ) ↦[sP5.view.set]{fullShare} (sendC m c)
  | 6 => sP6.view.loc (c : Thread nD τ) ↦[sP6.view.set]{fullShare} (sendC m c)
/-- Slot `s` of device `c`'s receive buffer, landed. -/
def rPay (c : Dev nD) : Fin 7 → sProp 𝕄
  | 0 => rP0.view.loc (c : Thread nD τ) ↦[rP0.view.set]{fullShare} (recvC m c)
  | 1 => rP1.view.loc (c : Thread nD τ) ↦[rP1.view.set]{fullShare} (recvC m c)
  | 2 => rP2.view.loc (c : Thread nD τ) ↦[rP2.view.set]{fullShare} (recvC m c)
  | 3 => rP3.view.loc (c : Thread nD τ) ↦[rP3.view.set]{fullShare} (recvC m c)
  | 4 => rP4.view.loc (c : Thread nD τ) ↦[rP4.view.set]{fullShare} (recvC m c)
  | 5 => rP5.view.loc (c : Thread nD τ) ↦[rP5.view.set]{fullShare} (recvC m c)
  | 6 => rP6.view.loc (c : Thread nD τ) ↦[rP6.view.set]{fullShare} (recvC m c)
/-- Slot `s` of device `c`'s receive buffer, holding anything. -/
def rAny (c : Dev nD) : Fin 7 → sProp 𝕄
  | 0 => iprop(∃ f, rP0.view.loc (c : Thread nD τ) ↦[rP0.view.set]{fullShare} f)
  | 1 => iprop(∃ f, rP1.view.loc (c : Thread nD τ) ↦[rP1.view.set]{fullShare} f)
  | 2 => iprop(∃ f, rP2.view.loc (c : Thread nD τ) ↦[rP2.view.set]{fullShare} f)
  | 3 => iprop(∃ f, rP3.view.loc (c : Thread nD τ) ↦[rP3.view.set]{fullShare} f)
  | 4 => iprop(∃ f, rP4.view.loc (c : Thread nD τ) ↦[rP4.view.set]{fullShare} f)
  | 5 => iprop(∃ f, rP5.view.loc (c : Thread nD τ) ↦[rP5.view.set]{fullShare} f)
  | 6 => iprop(∃ f, rP6.view.loc (c : Thread nD τ) ↦[rP6.view.set]{fullShare} f)
/-- What the duties of `c`'s barrier hand it: the receive slots it is going to fill on the device that pays. -/
def barPay (c : Dev nD) : Fin 3 → sProp 𝕄
  | 0 => iprop(rAny (F := F) (up c 3) 5 ∗ rAny (F := F) (up c 3) 6)
  | 1 => iprop(rAny (F := F) (up c 2) 3 ∗ rAny (F := F) (up c 2) 4)
  | 2 => iprop(rAny (F := F) (up c 1) 0 ∗ rAny (F := F) (up c 1) 1 ∗ rAny (F := F) (up c 1) 2)

omit [FloatOps F] in
/-- A receive slot holding anything may be kept in an invariant. -/
instance rAny_storable (c : Dev nD) (s : Fin 7) : BI.Storable (upEmb : UEmb _ 𝕄) (rAny (F := F) c s) := by
  fin_cases s <;> dsimp only [rAny] <;> infer_instance
omit [FloatOps F] in
/-- What a barrier duty hands over may be kept in an invariant. -/
instance barPay_storable (c : Dev nD) (d : Fin 3) : BI.Storable (upEmb : UEmb _ 𝕄) (barPay (F := F) c d) := by
  fin_cases d <;> dsimp only [barPay] <;> infer_instance
/-- A stored send slot may be kept in an invariant. -/
instance sPay_storable (c : Dev nD) (s : Fin 7) : BI.Storable (upEmb : UEmb _ 𝕄) (sPay m c s) := by
  fin_cases s <;> dsimp only [sPay] <;> infer_instance
/-- A landed receive slot may be kept in an invariant. -/
instance rPay_storable (c : Dev nD) (s : Fin 7) : BI.Storable (upEmb : UEmb _ 𝕄) (rPay m c s) := by
  fin_cases s <;> dsimp only [rPay] <;> infer_instance

/-! ## The schedule -/

/-- The slot of the DMA semaphore `q`, counted from semaphore 13. -/
abbrev slotOf (q : ℕ) : Fin 7 := ⟨(q - 13) % 7, Nat.mod_lt _ (by decide)⟩

/-- One round. A barrier cell has three duties of one unit each; a send or receive cell one duty, the whole copy. -/
def rd : Rounds.Schedule (GSem nD τ sig) (Fin 3) 𝕄 where
  duties g r := if r = 0 ∧ g.1.2 = .tc then
      match g.2 with
      | .reg b => if b = barS then Finset.univ else ∅
      | .dma q => if 13 ≤ q.val then {0} else ∅
    else ∅
  unitless _ := False
  amount g _ _ := match g.2 with | .reg _ => 1 | .dma q => amt (slotOf q.val)
  payload g _ d := match g.2 with
    | .reg _ => barPay g.1.1 d
    | .dma q => if q.val < 20 then sPay m g.1.1 (slotOf q.val) else rPay m g.1.1 (slotOf q.val)
  amount_pos g _ _ _ := by
    rcases g with ⟨t, b | q⟩
    · exact Nat.one_pos
    · exact amt_pos _

/-- What a duty carries may be kept in an invariant. -/
instance rd_payload_storable (g : GSem nD τ sig) (r : ℕ) (d : Fin 3) :
    BI.Storable (upEmb : UEmb _ 𝕄) ((rd (F := F) m).payload g r d) := by
  rcases g with ⟨t, b | q⟩
  · show BI.Storable upEmb (barPay t.1 d); infer_instance
  · show BI.Storable upEmb (if q.val < 20 then sPay m t.1 (slotOf q.val) else rPay m t.1 (slotOf q.val))
    split <;> infer_instance

section Tables
variable (c : Dev nD)

/-- A barrier cell has three duties. -/
theorem duties_bar : (rd (F := F) m).duties (barCell c) 0 = Finset.univ := by
  dsimp only [rd]; rw [if_pos ⟨rfl, rfl⟩]; exact if_pos rfl
/-- A DMA cell of the exchange has one duty. -/
theorem duties_dma (k : ℕ) (h : 13 + k < 27) : (rd (F := F) m).duties ((c : Thread nD τ), .dma ⟨13 + k, h⟩) 0 = {0} := by
  dsimp only [rd]; rw [if_pos ⟨rfl, rfl⟩]; exact if_pos (Nat.le_add_right 13 k)
/-- A send cell has one duty. -/
theorem duties_send (s : Fin 7) : (rd (F := F) m).duties (sendCell c s) 0 = {0} := duties_dma m c _ _
/-- A receive cell has one duty. -/
theorem duties_recv (s : Fin 7) : (rd (F := F) m).duties (recvCell c s) 0 = {0} := duties_dma m c _ _
/-- There is one round only. -/
theorem duties_later (g : GSem nD τ sig) : ∀ r, 1 ≤ r → (rd (F := F) m).duties g r = ∅ := fun r hr => by
  dsimp only [rd]; exact if_neg fun h => by omega

/-- A barrier duty is one unit. -/
theorem amount_bar (d : Fin 3) : (rd (F := F) m).amount (barCell c) 0 d = 1 := rfl
/-- The duty of a send cell is the whole copy. -/
theorem amount_send (s : Fin 7) (d : Fin 3) : (rd (F := F) m).amount (sendCell c s) 0 d = amt s := by
  fin_cases s <;> rfl
/-- The duty of a receive cell is the whole copy. -/
theorem amount_recv (s : Fin 7) (d : Fin 3) : (rd (F := F) m).amount (recvCell c s) 0 d = amt s := by
  fin_cases s <;> rfl

/-- A barrier cell expects three units. -/
theorem expect_bar : (rd (F := F) m).expect (barCell c) 0 = 3 := by
  unfold Schedule.expect Schedule.amountOf
  rw [duties_bar, Finset.sum_congr rfl fun d _ => amount_bar m c d]; rfl
/-- A send cell expects the whole copy. -/
theorem expect_send (s : Fin 7) : (rd (F := F) m).expect (sendCell c s) 0 = amt s := by
  unfold Schedule.expect Schedule.amountOf; rw [duties_send, Finset.sum_singleton, amount_send]
/-- A receive cell expects the whole copy. -/
theorem expect_recv (s : Fin 7) : (rd (F := F) m).expect (recvCell c s) 0 = amt s := by
  unfold Schedule.expect Schedule.amountOf; rw [duties_recv, Finset.sum_singleton, amount_recv]

/-- A barrier duty hands over receive slots of the device that pays. -/
theorem payload_bar (d : Fin 3) : (rd (F := F) m).payload (barCell c) 0 d = barPay c d := rfl
/-- The duty of a send cell hands back the slot sent. -/
theorem payload_send (s : Fin 7) (d : Fin 3) : (rd (F := F) m).payload (sendCell c s) 0 d = sPay m c s := by
  fin_cases s <;> rfl
/-- The duty of a receive cell hands over the slot landed. -/
theorem payload_recv (s : Fin 7) (d : Fin 3) : (rd (F := F) m).payload (recvCell c s) 0 d = rPay m c s := by
  fin_cases s <;> rfl

/-- What the barrier wait takes: all three payloads. -/
theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_univ_eq_bigSepL [0, 1, 2] (by decide) (by decide)]
  rfl
/-- All that a send cell hands over is the slot sent. -/
theorem rest_send (s : Fin 7) : bigSep ((rd (F := F) m).duties (sendCell c s) 0 \ ∅) (fun d => (rd (F := F) m).payload (sendCell c s) 0 d) = sPay m c s := by
  rw [Finset.sdiff_empty, duties_send, bigSep_singleton, payload_send]
/-- All that a receive cell hands over is the slot landed. -/
theorem rest_recv (s : Fin 7) : bigSep ((rd (F := F) m).duties (recvCell c s) 0 \ ∅) (fun d => (rd (F := F) m).payload (recvCell c s) 0 d) = rPay m c s := by
  rw [Finset.sdiff_empty, duties_recv, bigSep_singleton, payload_recv]

end Tables

/-! ## Debts and levels -/

/-- The debt device `c` pays `n`-th from the end: the landings of slots `6, 5, …, 0`, then its signals to `up c 3`, `up c 2`, `up c 1`. -/
abbrev debt (c : Dev nD) : ℕ → CellTallies nD τ sig Bool
  | 0 => tallyAt (recvCell (up c 3) 6) true (amt 6)
  | 1 => tallyAt (recvCell (up c 3) 5) true (amt 5)
  | 2 => tallyAt (recvCell (up c 2) 4) true (amt 4)
  | 3 => tallyAt (recvCell (up c 2) 3) true (amt 3)
  | 4 => tallyAt (recvCell (up c 1) 2) true (amt 2)
  | 5 => tallyAt (recvCell (up c 1) 1) true (amt 1)
  | 6 => tallyAt (recvCell (up c 1) 0) true (amt 0)
  | 7 => tallyAt (barCell (up c 3)) true 1
  | 8 => tallyAt (barCell (up c 2)) true 1
  | 9 => tallyAt (barCell (up c 1)) true 1
  | _ => 0
/-- What device `c` still owes before its last `n` payments. -/
abbrev owedC (c : Dev nD) : ℕ → CellTallies nD τ sig Bool
  | 0 => 0
  | n + 1 => owedC c n + debt c n

/-- The indices a cell has levels at. -/
def L (g : GSem nD τ sig) : Finset Bool := if g.1.2 = .tc then Finset.univ else ∅
/-- A core's own local copies wait at index `false`, below everything; the exchange waits at index `true`, its barrier cells below its
    other cells. -/
def lv (g : GSem nD τ sig) (i : Bool) : ℕ := if i = false then 0 else if g.2 = .reg barS then 1 else 2

/-- Only TensorCore cells have levels. -/
theorem L_of_ne (g : GSem nD τ sig) (h : g.1.2 ≠ .tc) : L g = ∅ := if_neg h
/-- A TensorCore cell has a level at every index. -/
theorem mem_L (c : Dev nD) (sm : SemLoc sig) (i : Bool) : i ∈ L ((c : Thread nD τ), sm) := by
  unfold L; rw [if_pos rfl]; exact Finset.mem_univ _

/-- A debt that lies on the exchange's index and on TensorCore cells, and on no barrier cell unless `b`. -/
def Exch (b : Bool) (O : CellTallies nD τ sig Bool) : Prop :=
  ∀ g i, 0 < O g i → i = true ∧ g.1.2 = .tc ∧ (b = false → g.2 ≠ .reg barS)

/-- No debt is such a debt. -/
theorem exch_zero (b : Bool) : Exch b 0 := fun g i h => absurd h (Nat.lt_irrefl 0)
/-- Two such debts together are such a debt. -/
theorem exch_add {b : Bool} {O O' : CellTallies nD τ sig Bool} (h : Exch b O) (h' : Exch b O') : Exch b (O + O') := fun g i hp => by
  rw [Pi.add_apply, Finsupp.add_apply] at hp
  rcases Nat.eq_zero_or_pos (O g i) with h0 | h0
  · exact h' g i (by omega)
  · exact h g i h0
/-- One tally on a cell of the exchange is such a debt. -/
theorem exch_tally {b : Bool} (c : Dev nD) (sm : SemLoc sig) (n : ℕ) (h : b = false → sm ≠ .reg barS) :
    Exch b (tallyAt ((c : Thread nD τ), sm) true n) := fun g i hp => by
  rw [tallyAt_apply] at hp
  by_cases hg : g = ((c : Thread nD τ), sm) ∧ i = true
  · rw [hg.1]; exact ⟨hg.2, rfl, h⟩
  · rw [if_neg hg] at hp; exact absurd hp (Nat.lt_irrefl 0)

/-- So is every single payment, and the last seven lie on no barrier cell. -/
theorem exch_debt (c : Dev nD) (n : ℕ) : Exch (decide (7 ≤ n)) (debt c n) := by
  rcases n with _ | _ | _ | _ | _ | _ | _ | _ | _ | _ | n
  iterate 7 exact exch_tally _ _ _ (fun _ h => by cases h)
  iterate 3 exact exch_tally _ _ _ (fun h => absurd h (by decide))
  exact exch_zero _
/-- What lies on no barrier cell may be said to lie anywhere. -/
theorem exch_mono {O : CellTallies nD τ sig Bool} {b : Bool} (h : Exch b O) : Exch true O := fun g i hp =>
  ⟨(h g i hp).1, (h g i hp).2.1, fun h => by cases h⟩
/-- So is all that a device owes. -/
theorem exch_owed (c : Dev nD) : ∀ n, Exch true (owedC c n)
  | 0 => exch_zero _
  | n + 1 => exch_add (exch_owed c n) (exch_mono (exch_debt c n))
/-- Once its signals are paid, a device owes nothing to a barrier cell. -/
theorem exch_owed_recv (c : Dev nD) : ∀ n, n ≤ 7 → Exch false (owedC c n)
  | 0, _ => exch_zero _
  | n + 1, h => exch_add (exch_owed_recv c n (by omega)) (by
      have := exch_debt c n; rwa [decide_eq_false (by omega)] at this)

/-- Whatever it owes the exchange, a core may wait for its own copies. -/
theorem mayWaits (c : Dev nD) (n : ℕ) : (levAts L lv : sProp 𝕄) ⊢ Transfers.MayWaits (c : Thread nD τ) (default : Bool) (owedC c n) :=
  forall_intro fun sm => MayOwe.of_cut (L := L) (lev := lv) 0
    (fun p hp => by rw [Finset.mem_singleton.mp hp]; exact mem_L _ _ _)
    (fun g u hg => by obtain ⟨h1, h2, -⟩ := exch_owed c n g u hg; unfold L; rw [if_pos h2]; exact Finset.mem_univ _)
    (fun p hp => by rw [Finset.mem_singleton.mp hp]; exact le_of_eq (if_pos rfl))
    (fun g u hg => by
      obtain ⟨rfl, -, -⟩ := exch_owed c n g u hg
      unfold lv; rw [if_neg (by decide)]; split <;> decide)
/-- At its barrier wait a core owes landings only, and these lie above. -/
theorem mayWait_bar (c : Dev nD) : (levAts L lv : sProp 𝕄) ⊢ MayWait (c : Thread nD τ) (.reg barS) true (owedC c 7) :=
  MayOwe.of_cut (L := L) (lev := lv) 1
    (fun p hp => by rw [Finset.mem_singleton.mp hp]; exact mem_L _ _ _)
    (fun g u hg => by obtain ⟨h1, h2, -⟩ := exch_owed c 7 g u hg; unfold L; rw [if_pos h2]; exact Finset.mem_univ _)
    (fun p hp => by rw [Finset.mem_singleton.mp hp]; unfold lv; rw [if_neg (by decide), if_pos rfl])
    (fun g u hg => by
      obtain ⟨rfl, -, h⟩ := exch_owed_recv c 7 (le_refl _) g u hg
      unfold lv; rw [if_neg (by decide), if_neg (h rfl)]; decide)

/-- There is no loop to give a variant for. -/
abbrev 𝒱₀ : Variants := Variants.none

end Cert.KernelIdealProof

end
-- ==== Proof.PI.Facts.lean ====
/-
  What the copies and stores of the kernel read and write, in terms of the contents of whole buffers.
-/
module

public import proofs.«01_k».proof.Proof.PI.Mesh

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ)

/-! ## A view written with what another content reads there -/

/-- Written throughout with what `g` reads there, a view's elements hold `g`. -/
theorem write_agree {κ : Kind} {sp : Space} {s : Shape} {e : EltTy} (v : View sig κ sp s e) (f g : v.ty.Contents (Elt F)) (w : s.Idx → Elt F e)
    (h : w = v.read (Elt F) g) : ∀ i ∈ v.set, v.write (Elt F) f w Finset.univ i = g i := by
  intro i hi
  rw [h, View.write_read_eq_piecewise]
  exact Finset.piecewise_eq_of_mem _ _ _ hi
/-- The same of a list of writes that is one write throughout. -/
theorem writes_agree {κ : Kind} {sp : Space} {s : Shape} {e : EltTy} (v : View sig κ sp s e) (f g : v.ty.Contents (Elt F)) (w : s.Idx → Elt F e)
    (h : w = v.read (Elt F) g) : ∀ i ∈ v.set, v.writes (Elt F) f [⟨Rect.whole s, w⟩] i = g i := by
  intro i hi
  have := View.write_univ_eq_writes_whole (Val := Elt F) v f [] w
  rw [View.writes_nil] at this
  rw [← this]; exact write_agree v f g w h i hi

/-! ## The local copies -/

/-- The element of the weights at row `k 1` and column `512 * d + k 2` is the one their column block for device `d` has at `k`. -/
theorem w_index (c d : Dev nD) (i : S4096x2048.Idx) (k : S2x4096x512.Idx) (h0 : (i 0).val = (k 1).val) (h1 : (i 1).val = 512 * d.val + (k 2).val) :
    m ((c : Thread nD τ).loc main_arg1) i = wC m c d k := by
  unfold wC
  congr 1
  have := dev_lt d
  have h2 : (k 2).val < 512 := (k 2).isLt
  funext a; apply Fin.ext
  fin_cases a
  · exact h0
  · show (i 1).val = (512 * d.val + (k 2).val) % 2048
    rw [h1, Nat.mod_eq_of_lt (by omega)]

/-- The column block of the weights for device `d`, read from the weights, is what `wC` has in either plane of the weight buffer. -/
theorem w_read {p : ℕ} (inbp) (hsq) (c d : Dev nD) (off : Fin 2 → ℕ) (inb) (hoff : off = ![0, 512 * d.val]) :
    (wH.slice (Rect.unit (s := S4096x2048) off S4096x512.size inb) (fun _ => rfl)).view.read (Elt F) (m ((c : Thread nD τ).loc main_arg1))
      = ((wB.slice (Rect.unit (s := S2x4096x512) ![p, 0, 0] S1x4096x512.size inbp) (fun _ => rfl)).squeeze S4096x512 hsq).view.read (Elt F) (wC m c d) := by
  subst hoff
  funext x
  obtain ⟨a, b, rfl⟩ : ∃ (a : Fin 4096) (b : Fin 512), x = ix2 a b := ⟨x 0, x 1, eq_ix2 x⟩
  show m ((c : Thread nD τ).loc main_arg1) ((Rect.unit (s := S4096x2048) _ S4096x512.size inb).emb (ix2 a b))
    = wC m c d ((Rect.unit (s := S2x4096x512) ![p, 0, 0] S1x4096x512.size inbp).emb (Shape.reshapeEquiv _ (ix2 a b)))
  rw [reshapeEquiv_ix2_1ab]
  refine w_index m c d _ _ ?_ ?_
  · rw [ValueKit.rect_emb_unit_val, ValueKit.rect_emb_unit_val]; rfl
  · rw [ValueKit.rect_emb_unit_val, ValueKit.rect_emb_unit_val]
    show 512 * d.val + b.val = 512 * d.val + (0 + b.val); omega

/-! ## The send slots, stored and moved -/

/-- An index of the send buffer, taken to the slot that has it in row `a` and column `b`. -/
theorem slot_ix {R : ℕ} (hR : 0 < R) (i : S3x1024x512.Idx) (z : Fin 1) (a : Fin R) (b : Fin 512) (h1 : (i 1).val % R = a.val) (h2 : (i 2).val = b.val) :
    (ix3 0 ⟨(i 1).val % R, Nat.mod_lt _ hR⟩ (i 2) : (⟨3, ![1, R, 512]⟩ : Shape).Idx) = ix3 z a b := by
  funext k; apply Fin.ext
  fin_cases k
  · show 0 = z.val; omega
  · exact h1
  · exact h2
/-- The send buffer on slot 0. -/
theorem sendC_0 (c : Dev nD) (i : S3x1024x512.Idx) (z : Fin 1) (a : Fin 256) (b : Fin 512) (h0 : (i 0).val = 0) (h1 : (i 1).val = 0 + a.val) (h2 : (i 2).val = b.val) :
    (sendC m c : S3x1024x512.Idx → F .bf16) i = sV0 m c (ix3 z a b) := by
  have ha := a.isLt
  unfold sendC
  rw [if_pos h0, if_pos (by omega)]
  exact congrArg (sV0 m c) (slot_ix (by decide) i z a b (by omega) h2)
/-- The send buffer on slot 1. -/
theorem sendC_1 (c : Dev nD) (i : S3x1024x512.Idx) (z : Fin 1) (a : Fin 256) (b : Fin 512) (h0 : (i 0).val = 0) (h1 : (i 1).val = 256 + a.val) (h2 : (i 2).val = b.val) :
    (sendC m c : S3x1024x512.Idx → F .bf16) i = sV1 m c (ix3 z a b) := by
  have ha := a.isLt
  unfold sendC
  rw [if_pos h0, if_neg (by omega), if_pos (by omega)]
  exact congrArg (sV1 m c) (slot_ix (by decide) i z a b (by omega) h2)
/-- The send buffer on slot 2. -/
theorem sendC_2 (c : Dev nD) (i : S3x1024x512.Idx) (z : Fin 1) (a : Fin 512) (b : Fin 512) (h0 : (i 0).val = 0) (h1 : (i 1).val = 512 + a.val) (h2 : (i 2).val = b.val) :
    (sendC m c : S3x1024x512.Idx → F .bf16) i = sV2 m c (ix3 z a b) := by
  have ha := a.isLt
  unfold sendC
  rw [if_pos h0, if_neg (by omega), if_neg (by omega)]
  exact congrArg (sV2 m c) (slot_ix (by decide) i z a b (by omega) h2)
/-- The send buffer on slot 3. -/
theorem sendC_3 (c : Dev nD) (i : S3x1024x512.Idx) (z : Fin 1) (a : Fin 512) (b : Fin 512) (h0 : (i 0).val = 1) (h1 : (i 1).val = 0 + a.val) (h2 : (i 2).val = b.val) :
    (sendC m c : S3x1024x512.Idx → F .bf16) i = sV3 m c (ix3 z a b) := by
  have ha := a.isLt
  unfold sendC
  rw [if_neg (by omega), if_pos h0, if_pos (by omega)]
  exact congrArg (sV3 m c) (slot_ix (by decide) i z a b (by omega) h2)
/-- The send buffer on slot 4. -/
theorem sendC_4 (c : Dev nD) (i : S3x1024x512.Idx) (z : Fin 1) (a : Fin 512) (b : Fin 512) (h0 : (i 0).val = 1) (h1 : (i 1).val = 512 + a.val) (h2 : (i 2).val = b.val) :
    (sendC m c : S3x1024x512.Idx → F .bf16) i = sV4 m c (ix3 z a b) := by
  have ha := a.isLt
  unfold sendC
  rw [if_neg (by omega), if_pos h0, if_neg (by omega)]
  exact congrArg (sV4 m c) (slot_ix (by decide) i z a b (by omega) h2)
/-- The send buffer on slot 5. -/
theorem sendC_5 (c : Dev nD) (i : S3x1024x512.Idx) (z : Fin 1) (a : Fin 512) (b : Fin 512) (h0 : (i 0).val = 2) (h1 : (i 1).val = 0 + a.val) (h2 : (i 2).val = b.val) :
    (sendC m c : S3x1024x512.Idx → F .bf16) i = sV5 m c (ix3 z a b) := by
  have ha := a.isLt
  unfold sendC
  rw [if_neg (by omega), if_neg (by omega), if_pos (by omega)]
  exact congrArg (sV5 m c) (slot_ix (by decide) i z a b (by omega) h2)
/-- The send buffer on slot 6. -/
theorem sendC_6 (c : Dev nD) (i : S3x1024x512.Idx) (z : Fin 1) (a : Fin 512) (b : Fin 512) (h0 : (i 0).val = 2) (h1 : (i 1).val = 512 + a.val) (h2 : (i 2).val = b.val) :
    (sendC m c : S3x1024x512.Idx → F .bf16) i = sV6 m c (ix3 z a b) := by
  have ha := a.isLt
  unfold sendC
  rw [if_neg (by omega), if_neg (by omega), if_neg (by omega)]
  exact congrArg (sV6 m c) (slot_ix (by decide) i z a b (by omega) h2)

/-- A slot of the send buffer, `R` rows from row `o` of plane `p`, reads as any vector the buffer agrees with there. -/
theorem slot_read {p o R : ℕ} (inb) (c : Dev nD) (v : (⟨3, ![1, R, 512]⟩ : Shape).Idx → F .bf16)
    (hv : ∀ (i : S3x1024x512.Idx) (z : Fin 1) (a : Fin R) (b : Fin 512), (i 0).val = p → (i 1).val = o + a.val → (i 2).val = b.val →
      (sendC m c : S3x1024x512.Idx → F .bf16) i = v (ix3 z a b)) :
    v = (sB.access (Rect.unit (s := S3x1024x512) ![p, o, 0] (⟨3, ![1, R, 512]⟩ : Shape).size inb)).read (Elt F) (sendC m c) := by
  funext x
  obtain ⟨z, a, b, rfl⟩ : ∃ (z : Fin 1) (a : Fin R) (b : Fin 512), x = ix3 z a b := ⟨x 0, x 1, x 2, eq_ix3 x⟩
  show _ = (sendC m c : S3x1024x512.Idx → F .bf16) ((Rect.unit (s := S3x1024x512) ![p, o, 0] (⟨3, ![1, R, 512]⟩ : Shape).size inb).emb (ix3 z a b))
  have hx := z.isLt
  refine (hv _ _ _ _ ?_ ?_ ?_).symm <;> rw [ValueKit.rect_emb_unit_val]
  · show p + z.val = p; omega
  · rfl
  · show 0 + b.val = b.val; omega
/-- What is stored in slot 0 of the send buffer is what `sendC` has there. -/
theorem send_read0 (c : Dev nD) : sV0 m c = (sB.access pR0).read (Elt F) (sendC m c) := slot_read m _ c _ (sendC_0 m c)
/-- What is stored in slot 1 of the send buffer is what `sendC` has there. -/
theorem send_read1 (c : Dev nD) : sV1 m c = (sB.access pR1).read (Elt F) (sendC m c) := slot_read m _ c _ (sendC_1 m c)
/-- What is stored in slot 2 of the send buffer is what `sendC` has there. -/
theorem send_read2 (c : Dev nD) : sV2 m c = (sB.access pR2).read (Elt F) (sendC m c) := slot_read m _ c _ (sendC_2 m c)
/-- What is stored in slot 3 of the send buffer is what `sendC` has there. -/
theorem send_read3 (c : Dev nD) : sV3 m c = (sB.access pR3).read (Elt F) (sendC m c) := slot_read m _ c _ (sendC_3 m c)
/-- What is stored in slot 4 of the send buffer is what `sendC` has there. -/
theorem send_read4 (c : Dev nD) : sV4 m c = (sB.access pR4).read (Elt F) (sendC m c) := slot_read m _ c _ (sendC_4 m c)
/-- What is stored in slot 5 of the send buffer is what `sendC` has there. -/
theorem send_read5 (c : Dev nD) : sV5 m c = (sB.access pR5).read (Elt F) (sendC m c) := slot_read m _ c _ (sendC_5 m c)
/-- What is stored in slot 6 of the send buffer is what `sendC` has there. -/
theorem send_read6 (c : Dev nD) : sV6 m c = (sB.access pR6).read (Elt F) (sendC m c) := slot_read m _ c _ (sendC_6 m c)

/-- A slot in plane `p` of the send buffer of `c` reads as the same slot of the receive buffer of the device `d` that has `c` `3 - p` places on. -/
theorem slot_move {p o R : ℕ} (inb) (hsq) (c d : Dev nD) (hd : up d (3 - p) = c) :
    ((sB.slice (Rect.unit (s := S3x1024x512) ![p, o, 0] (⟨3, ![1, R, 512]⟩ : Shape).size inb) (fun _ => rfl)).squeeze ⟨2, ![R, 512]⟩ hsq).view.read (Elt F) (sendC m c)
      = ((rB.slice (Rect.unit (s := S3x1024x512) ![p, o, 0] (⟨3, ![1, R, 512]⟩ : Shape).size inb) (fun _ => rfl)).squeeze ⟨2, ![R, 512]⟩ hsq).view.read (Elt F) (recvC m d) := by
  subst hd
  funext x
  obtain ⟨a, b, rfl⟩ : ∃ (a : Fin R) (b : Fin 512), x = ix2 a b := ⟨x 0, x 1, eq_ix2 x⟩
  show (sendC m (up d (3 - p)) : S3x1024x512.Idx → F .bf16) ((Rect.unit (s := S3x1024x512) ![p, o, 0] (⟨3, ![1, R, 512]⟩ : Shape).size inb).emb (Shape.reshapeEquiv _ (ix2 a b)))
    = (recvC m d : S3x1024x512.Idx → F .bf16) ((Rect.unit (s := S3x1024x512) ![p, o, 0] (⟨3, ![1, R, 512]⟩ : Shape).size inb).emb (Shape.reshapeEquiv _ (ix2 a b)))
  rw [reshapeEquiv_ix2_1ab]
  rfl
/-- Slot 0 of the send buffer is slot 0 of the receive buffer of the device 1 on. -/
theorem move_read0 (c : Dev nD) : sP0.view.read (Elt F) (sendC m c) = rP0.view.read (Elt F) (recvC m (up c 1)) := slot_move m _ _ c _ (up_1_3 c)
/-- Slot 1 of the send buffer is slot 1 of the receive buffer of the device 1 on. -/
theorem move_read1 (c : Dev nD) : sP1.view.read (Elt F) (sendC m c) = rP1.view.read (Elt F) (recvC m (up c 1)) := slot_move m _ _ c _ (up_1_3 c)
/-- Slot 2 of the send buffer is slot 2 of the receive buffer of the device 1 on. -/
theorem move_read2 (c : Dev nD) : sP2.view.read (Elt F) (sendC m c) = rP2.view.read (Elt F) (recvC m (up c 1)) := slot_move m _ _ c _ (up_1_3 c)
/-- Slot 3 of the send buffer is slot 3 of the receive buffer of the device 2 on. -/
theorem move_read3 (c : Dev nD) : sP3.view.read (Elt F) (sendC m c) = rP3.view.read (Elt F) (recvC m (up c 2)) := slot_move m _ _ c _ (up_2_2 c)
/-- Slot 4 of the send buffer is slot 4 of the receive buffer of the device 2 on. -/
theorem move_read4 (c : Dev nD) : sP4.view.read (Elt F) (sendC m c) = rP4.view.read (Elt F) (recvC m (up c 2)) := slot_move m _ _ c _ (up_2_2 c)
/-- Slot 5 of the send buffer is slot 5 of the receive buffer of the device 3 on. -/
theorem move_read5 (c : Dev nD) : sP5.view.read (Elt F) (sendC m c) = rP5.view.read (Elt F) (recvC m (up c 3)) := slot_move m _ _ c _ (up_3_1 c)
/-- Slot 6 of the send buffer is slot 6 of the receive buffer of the device 3 on. -/
theorem move_read6 (c : Dev nD) : sP6.view.read (Elt F) (sendC m c) = rP6.view.read (Elt F) (recvC m (up c 3)) := slot_move m _ _ c _ (up_3_1 c)

/-! ## The result's row blocks -/

/-- `outC` in the device's own rows. -/
theorem outC_own (c : Dev nD) (i : S4096x512.Idx) (a : Fin 1024) (b : Fin 512) (h0 : (i 0).val = 1024 * c.val + a.val) (h1 : (i 1).val = b.val) :
    (outC m c : S4096x512.Idx → F .f32) i = ownV m c (ix2 a b) := by
  have ha := a.isLt
  unfold outC
  rw [if_pos (by omega)]
  congr 1
  funext k; apply Fin.ext
  fin_cases k
  · show (i 0).val % 1024 = a.val; omega
  · exact h1
/-- `outC` in the rows of another device, off the receive buffer. -/
theorem outC_recv (c : Dev nD) (i : S4096x512.Idx) (k : S3x1024x512.Idx) (e : ℕ) (he : e = (up c (3 - (k 0).val)).val)
    (h0 : (i 0).val = 1024 * e + (k 1).val) (h1 : (i 1).val = (k 2).val) :
    (outC m c : S4096x512.Idx → F .f32) i = FloatOps.extf .f32 bitsLt_bf16_f32 ((recvC m c : S3x1024x512.Idx → F .bf16) k) := by
  have hk0 : (k 0).val < 3 := (k 0).isLt
  have hk1 : (k 1).val < 1024 := (k 1).isLt
  have hc := dev_lt c
  rw [up_val] at he
  unfold outC
  rw [if_neg (by omega)]
  congr 2
  funext a; apply Fin.ext
  fin_cases a
  · show (c.val + 3 - (i 0).val / 1024) % 4 % 3 = (k 0).val; omega
  · show (i 0).val % 1024 = (k 1).val; omega
  · exact h1
/-- What is stored as the device's own rows is what `outC` has there. -/
theorem own_read (c : Dev nD) (off : Fin 2 → ℕ) (inb) (hoff : off = ![1024 * c.val, 0]) :
    ownV m c = (vB.access (Rect.unit (s := S4096x512) off S1024x512.size inb)).read (Elt F) (outC m c) := by
  subst hoff
  funext x
  obtain ⟨a, b, rfl⟩ : ∃ (a : Fin 1024) (b : Fin 512), x = ix2 a b := ⟨x 0, x 1, eq_ix2 x⟩
  show _ = (outC m c : S4096x512.Idx → F .f32) ((Rect.unit (s := S4096x512) _ S1024x512.size inb).emb (ix2 a b))
  refine (outC_own m c _ _ _ ?_ ?_).symm <;> rw [ValueKit.rect_emb_unit_val]
  · rfl
  · show 0 + b.val = b.val; omega

/-- A slot of the receive buffer, `R` rows from row `o` of plane `p`, widened, is what `outC` has in the rows of the device the slot came from. -/
theorem out_read {p o R : ℕ} (inbp) (hc : (⟨3, ![1, R, 512]⟩ : Shape).ShapeCasts ⟨2, ![R, 512]⟩) (hs : (⟨2, ![R, 512]⟩ : Shape).ShapeCasts ⟨2, ![R, 512]⟩)
    (c : Dev nD) (off : Fin 2 → ℕ) (inb) (hoff : off = ![1024 * (up c (3 - p)).val + o, 0]) :
    shapeCast ⟨2, ![R, 512]⟩ (fun y => FloatOps.extf .f32 bitsLt_bf16_f32 (shapeCast ⟨2, ![R, 512]⟩
        (rB.view.readAt (Elt F) (Rect.unit (s := S3x1024x512) ![p, o, 0] (⟨3, ![1, R, 512]⟩ : Shape).size inbp).toLoadRect (recvC m c)) hc y)) hs
      = (vB.access (Rect.unit (s := S4096x512) off (⟨2, ![R, 512]⟩ : Shape).size inb)).read (Elt F) (outC m c) := by
  subst hoff
  funext x
  obtain ⟨a, b, rfl⟩ : ∃ (a : Fin R) (b : Fin 512), x = ix2 a b := ⟨x 0, x 1, eq_ix2 x⟩
  refine (congrArg (fun y : (⟨2, ![R, 512]⟩ : Shape).Idx => FloatOps.extf .f32 bitsLt_bf16_f32 (shapeCast ⟨2, ![R, 512]⟩
    (rB.view.readAt (Elt F) (Rect.unit (s := S3x1024x512) ![p, o, 0] (⟨3, ![1, R, 512]⟩ : Shape).size inbp).toLoadRect (recvC m c)) hc y))
    (Shape.reshapeEquiv_self hs (ix2 a b))).trans ?_
  show FloatOps.extf .f32 bitsLt_bf16_f32 ((recvC m c : S3x1024x512.Idx → F .bf16)
      ((Rect.unit (s := S3x1024x512) ![p, o, 0] (⟨3, ![1, R, 512]⟩ : Shape).size inbp).emb (Shape.reshapeEquiv _ (ix2 a b))))
    = (outC m c : S4096x512.Idx → F .f32) ((Rect.unit (s := S4096x512) _ (⟨2, ![R, 512]⟩ : Shape).size inb).emb (ix2 a b))
  rw [reshapeEquiv_ix2_1ab]
  refine (outC_recv m c _ _ (up c (3 - p)).val ?_ ?_ ?_).symm
  · rfl
  · rw [ValueKit.rect_emb_unit_val, ValueKit.rect_emb_unit_val]
    show 1024 * (up c (3 - p)).val + o + a.val = 1024 * (up c (3 - p)).val + (o + a.val); omega
  · rw [ValueKit.rect_emb_unit_val, ValueKit.rect_emb_unit_val]
    show 0 + b.val = 0 + b.val; rfl
/-- What is stored from receive slot 0 is what `outC` has in those rows. -/
theorem out_read0 (c : Dev nD) (off : Fin 2 → ℕ) (inb) (hoff : off = ![1024 * (up c 3).val + 0, 0]) :
     k0_pay18 (rB.view.readAt (Elt F) pR0.toLoadRect (recvC m c)) = (vB.access (Rect.unit (s := S4096x512) off S256x512.size inb)).read (Elt F) (outC m c) :=
  out_read m _ shapeCasts_S1x256x512_S256x512 shapeCasts_S256x512_S256x512 c off inb hoff
/-- What is stored from receive slot 1 is what `outC` has in those rows. -/
theorem out_read1 (c : Dev nD) (off : Fin 2 → ℕ) (inb) (hoff : off = ![1024 * (up c 3).val + 256, 0]) :
     k0_pay19 (rB.view.readAt (Elt F) pR1.toLoadRect (recvC m c)) = (vB.access (Rect.unit (s := S4096x512) off S256x512.size inb)).read (Elt F) (outC m c) :=
  out_read m _ shapeCasts_S1x256x512_S256x512 shapeCasts_S256x512_S256x512 c off inb hoff
/-- What is stored from receive slot 2 is what `outC` has in those rows. -/
theorem out_read2 (c : Dev nD) (off : Fin 2 → ℕ) (inb) (hoff : off = ![1024 * (up c 3).val + 512, 0]) :
     k0_pay21 (k0_pay20 (rB.view.readAt (Elt F) pR2.toLoadRect (recvC m c))) = (vB.access (Rect.unit (s := S4096x512) off S512x512.size inb)).read (Elt F) (outC m c) :=
  out_read m _ shapeCasts_S1x512x512_S512x512 shapeCasts_S512x512_S512x512 c off inb hoff
/-- What is stored from receive slot 3 is what `outC` has in those rows. -/
theorem out_read3 (c : Dev nD) (off : Fin 2 → ℕ) (inb) (hoff : off = ![1024 * (up c 2).val + 0, 0]) :
     k0_pay22 (rB.view.readAt (Elt F) pR3.toLoadRect (recvC m c)) = (vB.access (Rect.unit (s := S4096x512) off S512x512.size inb)).read (Elt F) (outC m c) :=
  out_read m _ shapeCasts_S1x512x512_S512x512 shapeCasts_S512x512_S512x512 c off inb hoff
/-- What is stored from receive slot 4 is what `outC` has in those rows. -/
theorem out_read4 (c : Dev nD) (off : Fin 2 → ℕ) (inb) (hoff : off = ![1024 * (up c 2).val + 512, 0]) :
     k0_pay24 (k0_pay23 (rB.view.readAt (Elt F) pR4.toLoadRect (recvC m c))) = (vB.access (Rect.unit (s := S4096x512) off S512x512.size inb)).read (Elt F) (outC m c) :=
  out_read m _ shapeCasts_S1x512x512_S512x512 shapeCasts_S512x512_S512x512 c off inb hoff
/-- What is stored from receive slot 5 is what `outC` has in those rows. -/
theorem out_read5 (c : Dev nD) (off : Fin 2 → ℕ) (inb) (hoff : off = ![1024 * (up c 1).val + 0, 0]) :
     k0_pay25 (rB.view.readAt (Elt F) pR5.toLoadRect (recvC m c)) = (vB.access (Rect.unit (s := S4096x512) off S512x512.size inb)).read (Elt F) (outC m c) :=
  out_read m _ shapeCasts_S1x512x512_S512x512 shapeCasts_S512x512_S512x512 c off inb hoff
/-- What is stored from receive slot 6 is what `outC` has in those rows. -/
theorem out_read6 (c : Dev nD) (off : Fin 2 → ℕ) (inb) (hoff : off = ![1024 * (up c 1).val + 512, 0]) :
     k0_pay27 (k0_pay26 (rB.view.readAt (Elt F) pR6.toLoadRect (recvC m c))) = (vB.access (Rect.unit (s := S4096x512) off S512x512.size inb)).read (Elt F) (outC m c) :=
  out_read m _ shapeCasts_S1x512x512_S512x512 shapeCasts_S512x512_S512x512 c off inb hoff

end Cert.KernelIdealProof

end
-- ==== Proof.PI.Tails.lean ====
/-
  The kernel's body cut into stretches: each stretch is followed by the rest of the body, named.
-/
module

public import proofs.«01_k».proof.Proof.PI.Facts

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-! ## The body, cut where a printed part returns nothing -/

/-- The body from its part 25 on. -/
def tailF (d0 : Dev nD)  : Prog (TpuEff nD τ sig (Elt F) Λ₀ .tc) PUnit := do
  k0_part25 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0
  k0_part26 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9
  let v762 : Memref sig .tc .vmem S1x512x512 .bf16 := rB.slice (Rect.unit (s := S3x1024x512) ![2, 0, 0] S1x512x512.size inb_S3x1024x512_S1x512x512_2_0_0) (fun _ => rfl)
  let v763 : Memref sig .tc .vmem S512x512 .bf16 := v762.squeeze S512x512 squeezes_S1x512x512_S512x512
  let v758 : DmaSems sig S1 := cc0_scratch8.slice (Rect.unit (s := S7) ![5] S1.size inb_S7_S1_5)
  let v759 : DmaSems sig S_ := v758.squeeze S_ squeezes_S1_S_
  let v760 : Memref sig .tc .vmem S1x512x512 .bf16 := sB.slice (Rect.unit (s := S3x1024x512) ![2, 0, 0] S1x512x512.size inb_S3x1024x512_S1x512x512_2_0_0) (fun _ => rfl)
  let v761 : Memref sig .tc .vmem S512x512 .bf16 := v760.squeeze S512x512 squeezes_S1x512x512_S512x512
  Prog.lift (.waitDma2 v759.sem v763 v761 (((Memref.isWhole_whole _ : Memref.IsWhole rB).wordExact_slice rfl _ wordsbf16_S3x1024x512_S1x512x512_2_0_0).reshape _ _) (((Memref.isWhole_whole _ : Memref.IsWhole sB).wordExact_slice rfl _ wordsbf16_S3x1024x512_S1x512x512_2_0_0).reshape _ _))
  let v764 : DmaSems sig S1 := cc0_scratch8.slice (Rect.unit (s := S7) ![6] S1.size inb_S7_S1_6)
  let v765 : DmaSems sig S_ := v764.squeeze S_ squeezes_S1_S_
  let v766 : Memref sig .tc .vmem S1x512x512 .bf16 := sB.slice (Rect.unit (s := S3x1024x512) ![2, 512, 0] S1x512x512.size inb_S3x1024x512_S1x512x512_2_512_0) (fun _ => rfl)
  let v767 : Memref sig .tc .vmem S512x512 .bf16 := v766.squeeze S512x512 squeezes_S1x512x512_S512x512
  let v768 : Memref sig .tc .vmem S1x512x512 .bf16 := rB.slice (Rect.unit (s := S3x1024x512) ![2, 512, 0] S1x512x512.size inb_S3x1024x512_S1x512x512_2_512_0) (fun _ => rfl)
  let v769 : Memref sig .tc .vmem S512x512 .bf16 := v768.squeeze S512x512 squeezes_S1x512x512_S512x512
  Prog.lift (.waitDma2 v765.sem v769 v767 (((Memref.isWhole_whole _ : Memref.IsWhole rB).wordExact_slice rfl _ wordsbf16_S3x1024x512_S1x512x512_2_512_0).reshape _ _) (((Memref.isWhole_whole _ : Memref.IsWhole sB).wordExact_slice rfl _ wordsbf16_S3x1024x512_S1x512x512_2_512_0).reshape _ _))
  pure ⟨⟩
/-- The body from its part 19 on. -/
def tailE (d0 : Dev nD) (v2 v82 v240 v349 v498 : BitVec 32) : Prog (TpuEff nD τ sig (Elt F) Λ₀ .tc) PUnit := do
  let ⟨v559, v560⟩ : Σ' (v559 : FVec F S512x512 .f32), BitVec 32 ← k0_part19 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v82 v498
  let v584 : BitVec 32 ← k0_part20 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2 v240 v498 v559 v560
  let ⟨v620, v621⟩ : Σ' (v620 : FVec F S512x512 .f32), BitVec 32 ← k0_part21 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v240 v584
  let v645 : BitVec 32 ← k0_part22 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2 v349 v584 v620 v621
  let ⟨v681, v682⟩ : Σ' (v681 : FVec F S512x512 .f32), BitVec 32 ← k0_part23 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v349 v645
  k0_part24 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v645 v681 v682
  tailF (F := F) d0
/-- The body from its part 16 on. -/
def tailD (d0 : Dev nD) (v2 v82 v240 v349 : BitVec 32) : Prog (TpuEff nD τ sig (Elt F) Λ₀ .tc) PUnit := do
  let v469 : FVec F S1024x512 .f32 ← k0_part16 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2
  let v498 : BitVec 32 ← k0_part17 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2 v82 v469
  k0_part18 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v82 v498
  tailE (F := F) d0 v2 v82 v240 v349 v498
/-- The body from its part 11 on. -/
def tailC (d0 : Dev nD) (v2 v82 v240 : BitVec 32) : Prog (TpuEff nD τ sig (Elt F) Λ₀ .tc) PUnit := do
  let ⟨v322, cst_296⟩ : Σ' (v322 : FVec F S512x512 .f32), F .f32 ← k0_part11 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0
  let v349 : BitVec 32 ← k0_part12 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2 v240 v322 cst_296
  let v384 : FVec F S512x512 .f32 ← k0_part13 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2
  let ⟨v411, v412⟩ : Σ' (v411 : FVec F S512x512 .f32), Vec F S512x1024 .f32 ← k0_part14 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v349 v384
  k0_part15 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 v349 v411 v412
  tailD (F := F) d0 v2 v82 v240 v349
/-- The body from its part 6 on. -/
def tailB (d0 : Dev nD) (v2 v82 : BitVec 32) : Prog (TpuEff nD τ sig (Elt F) Λ₀ .tc) PUnit := do
  let v175 : FVec F S256x512 .bf16 ← k0_part6 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9
  let ⟨v203, v204⟩ : Σ' (v203 : FVec F S512x512 .f32), Vec F S512x1024 .f32 ← k0_part7 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v82 v175
  let ⟨v232, v233, c0_i32_210⟩ : Σ' (v232 : BitVec 32) (v233 : BitVec 32), BitVec 32 ← k0_part8 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2 v82 v203 v204
  let ⟨v240, v265, v266⟩ : Σ' (v240 : BitVec 32) (v265 : FVec F S512x512 .f32), Vec F S512x1024 .f32 ← k0_part9 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2 v232 v233 c0_i32_210
  k0_part10 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 v240 v265 v266
  tailC (F := F) d0 v2 v82 v240
/-- The whole body. -/
def tailA : Prog (TpuEff nD τ sig (Elt F) Λ₀ .tc) PUnit := do
  let ⟨d0, v2⟩ : Σ' (d0 : Dev nD), BitVec 32 ← k0_part1 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9
  let ⟨v32, v59, c4_i32_44, c0_i32_45⟩ : Σ' (v32 : Sems sig S_) (v59 : BitVec 32) (c4_i32_44 : BitVec 32), BitVec 32 ← k0_part2 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2
  let ⟨v82, v90, c4_i32_69, c0_i32_70⟩ : Σ' (v82 : BitVec 32) (v90 : BitVec 32) (c4_i32_69 : BitVec 32), BitVec 32 ← k0_part3 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v2 v32 v59 c4_i32_44 c0_i32_45
  let ⟨v116, v120⟩ : Σ' (v116 : FVec F S256x512 .f32), FVec F S256x512 .f32 ← k0_part4 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v90 c4_i32_69 c0_i32_70
  k0_part5 (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 d0 v82 v116 v120
  tailB (F := F) d0 v2 v82
set_option maxRecDepth 65536 in
/-- The body is its first stretch followed by the rest. -/
theorem body_eq_tailA : cc0_body (F := F) xH (Memref.isWhole_whole _) wH (Memref.isWhole_whole _) oH (Memref.isWhole_whole _) xB (Memref.isWhole_whole _) cc0_scratch1 wB (Memref.isWhole_whole _) cc0_scratch3 vB (Memref.isWhole_whole _) cc0_scratch5 sB (Memref.isWhole_whole _) rB (Memref.isWhole_whole _) cc0_scratch8 cc0_scratch9 = tailA (F := F) := by
  rw [cc0_body_eq_skeleton]; rfl
end Cert.KernelIdealProof

end
-- ==== Proof.PI.Steps.lean ====
/-
  The steps of the body that meet another device or a copy in flight, each stated once: signals, waits, copies started and awaited.
-/
module

public import proofs.«01_k».proof.Proof.PI.Tails

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-! ## The exchange's steps -/

/-- The records of the exchange, which every device keeps: each cell's invariant, and that each cell has reached its round. -/
def recs (K : Dev nD × Fin 15 → ℕ) : sProp 𝕄 :=
  iprop((bigSep Finset.univ fun ck : Dev nD × Fin 15 => cellInv ER (rd m) (K ck) (kcell ck))
    ∗ bigSep Finset.univ fun ck : Dev nD × Fin 15 => (reached ER (kcell ck) 0 : sProp 𝕄))
/-- The records may be used again and again. -/
instance recs_persistent (K : Dev nD × Fin 15 → ℕ) : BI.Persistent (recs m K) := by unfold recs; infer_instance
/-- The invariant of one cell, out of all. -/
theorem inv_at (K : Dev nD × Fin 15 → ℕ) (ck : Dev nD × Fin 15) :
    (bigSep Finset.univ fun ck : Dev nD × Fin 15 => (cellInv ER (rd m) (K ck) (kcell ck) : sProp 𝕄)) ⊢ cellInv ER (rd m) (K ck) (kcell ck) :=
  bigSep_elim (Finset.mem_univ ck)
omit [FloatOps F] in
/-- That one cell has reached its round, out of all. -/
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)
/-- The invariant of one cell, out of the records. -/
theorem recs_inv (K : Dev nD × Fin 15 → ℕ) (ck : Dev nD × Fin 15) : recs m K ⊢ cellInv ER (rd m) (K ck) (kcell ck) := by
  unfold recs
  iintro ⟨H, -⟩
  iapply (inv_at m K ck); iexact H
/-- That one cell has reached its round, out of the records. -/
theorem recs_reached (K : Dev nD × Fin 15 → ℕ) (ck : Dev nD × Fin 15) : recs m K ⊢ reached ER (kcell ck) 0 := by
  unfold recs
  iintro ⟨-, H⟩
  iapply (reached_at (F := F) ck); iexact H

variable (K : Dev nD × Fin 15 → ℕ) (c : Dev nD)

/-- A signal pays one duty of the barrier cell of `n`, handing over what that duty carries. -/
theorem signal_step (n n' : Dev nD) (hn : n' = n) (d : Fin 3) (O : CellTallies nD τ sig Bool) (W : Waits sig Bool)
    {Q : PUnit → sProp 𝕄} {k : PUnit → Prog (TpuEff nD τ sig (Elt F) Λ₀ .tc) PUnit} :
    iprop(recs m K ∗ owes (c : Thread nD τ) (O + tallyAt (barCell n) true 1) W ∗ dutyTok ER (barCell n) 0 d ∗ barPay (F := F) n d)
      ⊢ iprop((owes (c : Thread nD τ) O W -∗ wp frame (wpE (defs₀ (F := F)) 𝒱₀ (c : Thread nD τ) none) Set.univ (k ⟨⟩) Q) -∗ wp frame (wpE (defs₀ (F := F)) 𝒱₀ (c : Thread nD τ) none) Set.univ (.op (.semSignal (n' : Thread nD τ) barS 1) k) Q) := by
  subst hn
  iintro ⟨#HR, HO, Ht, Hp⟩
  iapply (Rounds.wp_signal 𝒱₀ ER (rd m) (c : Thread nD τ) none (dst := (n' : Thread nD τ)) (κ := K (n', 0)) (r := 0)
      (d := d) (by rw [duties_bar]; exact Finset.mem_univ _) (amount_bar m n' d) true O rfl) $$ [HO Ht Hp]
  isplitr; · iapply (recs_inv m K (n', 0)); iexact HR
  isplitl [HO]; · iexact HO
  isplitl [Ht]; · iexact Ht
  isplitl [Hp]; · iapply (Entails.of_eq (payload_bar m n' d).symm); iexact Hp
  iapply (recs_reached m K (n', 0)); iexact HR

/-- The barrier wait takes all three payloads; the cell then closes at zero. -/
theorem bar_step (W : Waits sig Bool) {Q : PUnit → sProp 𝕄} {k : PUnit → Prog (TpuEff nD τ sig (Elt F) Λ₀ .tc) PUnit} :
    iprop(recs m K ∗ levAts L lv ∗ cred (tallyAt (barCell c) true 3) ∗ owes (c : Thread nD τ) (owedC c 7) W ∗ atPos ER (barCell c) 0 ∅ 0)
      ⊢ iprop((((∃ W, owes (c : Thread nD τ) (owedC c 7) W) ∗ semVal (barCell c) 0 ∗ barPay (F := F) c 0 ∗ barPay (F := F) c 1 ∗ barPay (F := F) c 2)
          -∗ wp frame (wpE (defs₀ (F := F)) 𝒱₀ (c : Thread nD τ) none) Set.univ (k ⟨⟩) Q) -∗ wp frame (wpE (defs₀ (F := F)) 𝒱₀ (c : Thread nD τ) none) Set.univ (.op (.semWait barS 3) k) Q) := by
  iintro ⟨#HR, #HL, Hc, HO, Ha⟩ Hk
  iapply (Rounds.wp_wait_rest_token 𝒱₀ ER (rd m) (c : Thread nD τ) none (κ := K (c, 0))
      (wpE_semWait_eq 𝒱₀ (c : Thread nD τ) none Set.univ) (Set.mem_univ _) true (O := owedC c 7) (W := W) (R := 0) (m := 0) (T := ∅)
      (by rw [Nat.zero_add]; exact (expect_bar m c).symm)) $$ [Hc HO Ha]
  · isplitr; · iapply (recs_inv m K (c, 0)); iexact HR
    isplitl [Hc]; · iexact Hc
    isplitl [HO]; · iexact HO
    isplitr; · iapply (mayWait_bar (F := F) c); iexact HL
    iexact Ha
  iintro ⟨HO, Ha, -, Hp⟩
  imod (Rounds.cell_close ER (rd m) (Set.mem_univ (K (c, 0))) (fun h => h) (R := 0 + 1) (duties_later m (barCell c))) $$ [Ha] with Hz
  · isplitr; · iapply (recs_inv m K (c, 0)); iexact HR
    iexact Ha
  ihave Hp := (Entails.of_eq (rest_bar m c)) $$ Hp
  iapply Hk
  isplitl [HO]; · iexists _; iexact HO
  isplitl [Hz]; · iexact Hz
  iexact Hp

/-- A wait on a send or receive cell takes its payload; the cell then closes at zero. -/
theorem xfer_step (W : Waits sig Bool) (k' : Fin 15) (q : DmaSem sig) (hq : csem k' = .dma q) (n : ℕ) (P : sProp 𝕄) {sp sp' : Space} {s s' : Shape} {e e' : EltTy}
    {src : Memref sig .tc sp' s' e'} {κ' : Kind} {dst : Memref sig κ' sp s e} {hsrc : src.view.WordExact} {hdst : dst.view.WordExact}
    (hn : dst.view.dmaCredit = n) (hx : (rd m).expect (kcell (c, k')) 0 = n)
    (hP : bigSep ((rd (F := F) m).duties (kcell (c, k')) 0 \ ∅) (fun d => (rd (F := F) m).payload (kcell (c, k')) 0 d) = P)
    {Q : PUnit → sProp 𝕄} {k : PUnit → Prog (TpuEff nD τ sig (Elt F) Λ₀ .tc) PUnit} :
    iprop(recs m K ∗ cred (tallyAt (kcell (c, k')) true n) ∗ owes (c : Thread nD τ) 0 W ∗ atPos ER (kcell (c, k')) 0 ∅ 0)
      ⊢ iprop((((∃ W, owes (c : Thread nD τ) 0 W) ∗ semVal (kcell (c, k')) 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hcell : kcell (c, k') = ((c : Thread nD τ), .dma q) := by show ((c : Thread nD τ), csem k') = _; rw [hq]
  rw [hcell] at hx hP ⊢
  subst hn
  iintro ⟨#HR, Hc, HO, Ha⟩ Hk
  iapply (Rounds.wp_wait_rest_token 𝒱₀ ER (rd m) (c : Thread nD τ) none (κ := K (c, k'))
      (wpE_waitDma2_eq 𝒱₀ (c : Thread nD τ) none Set.univ) (Set.mem_univ _) true (O := 0) (W := W) (R := 0) (m := 0) (T := ∅)
      (by rw [Nat.zero_add]; exact hx.symm)) $$ [Hc HO Ha]
  · isplitr; · rw [← hcell]; iapply (recs_inv m K (c, k')); iexact HR
    isplitl [Hc]; · iexact Hc
    isplitl [HO]; · iexact HO
    isplitr; · rw [MayWait_zero]; iempintro
    iexact Ha
  iintro ⟨HO, Ha, -, Hp⟩
  imod (Rounds.cell_close ER (rd m) (Set.mem_univ (K (c, k'))) (fun h => h) (R := 0 + 1) (duties_later m ((c : Thread nD τ), .dma q))) $$ [Ha] with Hz
  · isplitr; · rw [← hcell]; iapply (recs_inv m K (c, k')); iexact HR
    iexact Ha
  ihave Hp := (Entails.of_eq hP) $$ Hp
  iapply Hk
  isplitl [HO]; · iexists _; iexact HO
  isplitl [Hz]; · iexact Hz
  iexact Hp

/-- The copy of slot `s` to device `d`: the slot it leaves, holding `g`, comes back with the send cell; the slot it fills goes to `d`, holding `g'`. -/
theorem send_step {S : Shape} (sP rP : Memref sig .tc .vmem S .bf16) (s : Fin 7) (d : Dev nD) (qs qr : DmaSem sig)
    (hqs : csem (sIx s) = .dma qs) (hqr : csem (rIx s) = .dma qr)
    (g : Buf (Elt F) (sP.view.loc (c : Thread nD τ))) (g' : Buf (Elt F) (rP.view.loc (d : Thread nD τ)))
    (hs : sPay m c s = (sP.view.loc (c : Thread nD τ) ↦[sP.view.set]{fullShare} g))
    (hr : rPay m d s = (rP.view.loc (d : Thread nD τ) ↦[rP.view.set]{fullShare} g'))
    (ha : rAny (F := F) d s = iprop(∃ f, rP.view.loc (d : Thread nD τ) ↦[rP.view.set]{fullShare} f))
    (hg : sP.view.read (Elt F) g = rP.view.read (Elt F) g') (hamt : rP.view.amount (.dma qr) = amt s)
    (O O' : CellTallies nD τ sig Bool) (hO : O = O' + tallyAt (recvCell d s) true (amt s)) (W : Waits sig Bool)
    {hsc : (rP : Memref sig (Dev.tc d : Thread nD τ).2.kind .vmem S .bf16).view.ref.isScScratch = false}
    {hsrc : sP.view.WordExact} {hdst : rP.view.WordExact}
    {hsem : DmaTarget.Typed .vmem (.dma qr) (.remote (Dev.tc d : Thread nD τ) rP (.dma qs) hsc)}
    {Q : PUnit → sProp 𝕄} {k : PUnit → Prog (TpuEff nD τ sig (Elt F) Λ₀ .tc) PUnit} :
    iprop(recs m K ∗ sPay m c s ∗ rAny (F := F) d s ∗ owes (c : Thread nD τ) O W
        ∗ dutyTok ER (sendCell c s) 0 0 ∗ dutyTok ER (recvCell d s) 0 0)
      ⊢ iprop(((cred (tallyAt (sendCell c s) true (amt s)) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma sP (.remote (Dev.tc d : Thread nD τ) rP (.dma qs) hsc)
                (.dma qr) hsrc hdst hsem) k) Q) := by
  have hcs : sendCell c s = ((c : Thread nD τ), .dma qs) := by show ((c : Thread nD τ), csem (sIx s)) = _; rw [hqs]
  have hcr : recvCell d s = ((d : Thread nD τ), .dma qr) := by show ((d : Thread nD τ), csem (rIx s)) = _; rw [hqr]
  have hds := duties_send m c s
  have hdr := duties_recv m d s
  have has := amount_send m c s 0
  have har := amount_recv m d s 0
  have hps := payload_send m c s 0
  have hpr := payload_recv m d s 0
  have his : recs m K ⊢ cellInv ER (rd m) (K (c, sIx s)) (sendCell c s) := recs_inv m K (c, sIx s)
  have hir : recs m K ⊢ cellInv ER (rd m) (K (d, rIx s)) (recvCell d s) := recs_inv m K (d, rIx s)
  have hrs : recs m K ⊢ reached ER (sendCell c s) 0 := recs_reached m K (c, sIx s)
  have hrr : recs m K ⊢ reached ER (recvCell d s) 0 := recs_reached m K (d, rIx s)
  rw [hcs] at hds has hps his hrs
  rw [hcr] at hdr har hpr hir hrr hO
  rw [hcs, hcr, hs, ha]
  iintro ⟨#HR, Hs, Hr, HO, Ht, Ht'⟩
  icases Hr with ⟨%fd, Hr⟩
  iapply (Rounds.wp_send_pointsTo 𝒱₀ ER (rd m) (c : Thread nD τ) none (κ₁ := K (c, sIx s)) (κ₂ := K (d, rIx s))
    (r₁ := 0) (r₂ := 0) (d₁ := 0) (d₂ := 0) (fs := g) (fd := fd)
    (by exact hds.symm ▸ Finset.mem_singleton_self _) (by exact hdr.symm ▸ Finset.mem_singleton_self _)
    true true (amt s) hamt has har O' hO (W := W)
    (by exact Entails.of_eq (hs.symm.trans hps.symm))
    (by exact (Entails.of_eq (pointsTo_congr (write_agree _ _ _ _ hg))).trans (Entails.of_eq (hr.symm.trans hpr.symm)))) $$ [Hs Hr HO Ht Ht']
  isplitr; · iapply his; iexact HR
  isplitr; · iapply hir; iexact HR
  isplitl [Hs]; · iexact Hs
  isplitl [Hr]; · iexact Hr
  isplitl [HO]; · iexact HO
  isplitl [Ht]; · iexact Ht
  isplitr; · iapply hrs; iexact HR
  isplitl [Ht']; · iexact Ht'
  iapply hrr; iexact HR

/-- The copy of slot 0, to the device 1 places on: the slot it leaves comes back with the send cell, the slot it fills goes to that device. -/
theorem send_step0 (n : Dev nD) (hn : n = up c 1) (W : Waits sig Bool)
    {hsc : (rP0 : Memref sig (Dev.tc n : Thread nD τ).2.kind .vmem S256x512 .bf16).view.ref.isScScratch = false}
    {hsrc : (sP0 : Memref sig .tc .vmem S256x512 .bf16).view.WordExact} {hdst : (rP0 : Memref sig .tc .vmem S256x512 .bf16).view.WordExact}
    {hsem : DmaTarget.Typed .vmem (.dma (⟨20, by decide⟩ : DmaSem sig)) (.remote (Dev.tc n : Thread nD τ) (rP0 : Memref sig .tc .vmem S256x512 .bf16) (.dma (⟨13, by decide⟩ : DmaSem sig)) hsc)}
    {Q : PUnit → sProp 𝕄} {k : PUnit → Prog (TpuEff nD τ sig (Elt F) Λ₀ .tc) PUnit} :
    iprop(recs m K ∗ sPay m c 0 ∗ rAny (F := F) (up c 1) 0 ∗ owes (c : Thread nD τ) (owedC c 7) W
        ∗ dutyTok ER (sendCell c 0) 0 0 ∗ dutyTok ER (recvCell (up c 1) 0) 0 0)
      ⊢ iprop(((cred (tallyAt (sendCell c 0) true (amt 0)) ∗ owes (c : Thread nD τ) (owedC c 6) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma sP0 (.remote (Dev.tc n : Thread nD τ) rP0 (.dma (⟨13, by decide⟩ : DmaSem sig)) hsc)
                (.dma (⟨20, by decide⟩ : DmaSem sig)) hsrc hdst hsem) k) Q) := by
  subst hn
  exact send_step m K c sP0 rP0 0 (up c 1) ⟨13, by decide⟩ ⟨20, by decide⟩ rfl rfl (sendC m c) (recvC m (up c 1)) rfl rfl rfl (move_read0 m c) rfl _ _ rfl W

/-- The copy of slot 1, to the device 1 places on: the slot it leaves comes back with the send cell, the slot it fills goes to that device. -/
theorem send_step1 (n : Dev nD) (hn : n = up c 1) (W : Waits sig Bool)
    {hsc : (rP1 : Memref sig (Dev.tc n : Thread nD τ).2.kind .vmem S256x512 .bf16).view.ref.isScScratch = false}
    {hsrc : (sP1 : Memref sig .tc .vmem S256x512 .bf16).view.WordExact} {hdst : (rP1 : Memref sig .tc .vmem S256x512 .bf16).view.WordExact}
    {hsem : DmaTarget.Typed .vmem (.dma (⟨21, by decide⟩ : DmaSem sig)) (.remote (Dev.tc n : Thread nD τ) (rP1 : Memref sig .tc .vmem S256x512 .bf16) (.dma (⟨14, by decide⟩ : DmaSem sig)) hsc)}
    {Q : PUnit → sProp 𝕄} {k : PUnit → Prog (TpuEff nD τ sig (Elt F) Λ₀ .tc) PUnit} :
    iprop(recs m K ∗ sPay m c 1 ∗ rAny (F := F) (up c 1) 1 ∗ owes (c : Thread nD τ) (owedC c 6) W
        ∗ dutyTok ER (sendCell c 1) 0 0 ∗ dutyTok ER (recvCell (up c 1) 1) 0 0)
      ⊢ iprop(((cred (tallyAt (sendCell c 1) true (amt 1)) ∗ owes (c : Thread nD τ) (owedC c 5) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma sP1 (.remote (Dev.tc n : Thread nD τ) rP1 (.dma (⟨14, by decide⟩ : DmaSem sig)) hsc)
                (.dma (⟨21, by decide⟩ : DmaSem sig)) hsrc hdst hsem) k) Q) := by
  subst hn
  exact send_step m K c sP1 rP1 1 (up c 1) ⟨14, by decide⟩ ⟨21, by decide⟩ rfl rfl (sendC m c) (recvC m (up c 1)) rfl rfl rfl (move_read1 m c) rfl _ _ rfl W

/-- The copy of slot 2, to the device 1 places on: the slot it leaves comes back with the send cell, the slot it fills goes to that device. -/
theorem send_step2 (n : Dev nD) (hn : n = up c 1) (W : Waits sig Bool)
    {hsc : (rP2 : Memref sig (Dev.tc n : Thread nD τ).2.kind .vmem S512x512 .bf16).view.ref.isScScratch = false}
    {hsrc : (sP2 : Memref sig .tc .vmem S512x512 .bf16).view.WordExact} {hdst : (rP2 : Memref sig .tc .vmem S512x512 .bf16).view.WordExact}
    {hsem : DmaTarget.Typed .vmem (.dma (⟨22, by decide⟩ : DmaSem sig)) (.remote (Dev.tc n : Thread nD τ) (rP2 : Memref sig .tc .vmem S512x512 .bf16) (.dma (⟨15, by decide⟩ : DmaSem sig)) hsc)}
    {Q : PUnit → sProp 𝕄} {k : PUnit → Prog (TpuEff nD τ sig (Elt F) Λ₀ .tc) PUnit} :
    iprop(recs m K ∗ sPay m c 2 ∗ rAny (F := F) (up c 1) 2 ∗ owes (c : Thread nD τ) (owedC c 5) W
        ∗ dutyTok ER (sendCell c 2) 0 0 ∗ dutyTok ER (recvCell (up c 1) 2) 0 0)
      ⊢ iprop(((cred (tallyAt (sendCell c 2) true (amt 2)) ∗ owes (c : Thread nD τ) (owedC c 4) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma sP2 (.remote (Dev.tc n : Thread nD τ) rP2 (.dma (⟨15, by decide⟩ : DmaSem sig)) hsc)
                (.dma (⟨22, by decide⟩ : DmaSem sig)) hsrc hdst hsem) k) Q) := by
  subst hn
  exact send_step m K c sP2 rP2 2 (up c 1) ⟨15, by decide⟩ ⟨22, by decide⟩ rfl rfl (sendC m c) (recvC m (up c 1)) rfl rfl rfl (move_read2 m c) rfl _ _ rfl W

/-- The copy of slot 3, to the device 2 places on: the slot it leaves comes back with the send cell, the slot it fills goes to that device. -/
theorem send_step3 (n : Dev nD) (hn : n = up c 2) (W : Waits sig Bool)
    {hsc : (rP3 : Memref sig (Dev.tc n : Thread nD τ).2.kind .vmem S512x512 .bf16).view.ref.isScScratch = false}
    {hsrc : (sP3 : Memref sig .tc .vmem S512x512 .bf16).view.WordExact} {hdst : (rP3 : Memref sig .tc .vmem S512x512 .bf16).view.WordExact}
    {hsem : DmaTarget.Typed .vmem (.dma (⟨23, by decide⟩ : DmaSem sig)) (.remote (Dev.tc n : Thread nD τ) (rP3 : Memref sig .tc .vmem S512x512 .bf16) (.dma (⟨16, by decide⟩ : DmaSem sig)) hsc)}
    {Q : PUnit → sProp 𝕄} {k : PUnit → Prog (TpuEff nD τ sig (Elt F) Λ₀ .tc) PUnit} :
    iprop(recs m K ∗ sPay m c 3 ∗ rAny (F := F) (up c 2) 3 ∗ owes (c : Thread nD τ) (owedC c 4) W
        ∗ dutyTok ER (sendCell c 3) 0 0 ∗ dutyTok ER (recvCell (up c 2) 3) 0 0)
      ⊢ iprop(((cred (tallyAt (sendCell c 3) true (amt 3)) ∗ owes (c : Thread nD τ) (owedC c 3) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma sP3 (.remote (Dev.tc n : Thread nD τ) rP3 (.dma (⟨16, by decide⟩ : DmaSem sig)) hsc)
                (.dma (⟨23, by decide⟩ : DmaSem sig)) hsrc hdst hsem) k) Q) := by
  subst hn
  exact send_step m K c sP3 rP3 3 (up c 2) ⟨16, by decide⟩ ⟨23, by decide⟩ rfl rfl (sendC m c) (recvC m (up c 2)) rfl rfl rfl (move_read3 m c) rfl _ _ rfl W

/-- The copy of slot 4, to the device 2 places on: the slot it leaves comes back with the send cell, the slot it fills goes to that device. -/
theorem send_step4 (n : Dev nD) (hn : n = up c 2) (W : Waits sig Bool)
    {hsc : (rP4 : Memref sig (Dev.tc n : Thread nD τ).2.kind .vmem S512x512 .bf16).view.ref.isScScratch = false}
    {hsrc : (sP4 : Memref sig .tc .vmem S512x512 .bf16).view.WordExact} {hdst : (rP4 : Memref sig .tc .vmem S512x512 .bf16).view.WordExact}
    {hsem : DmaTarget.Typed .vmem (.dma (⟨24, by decide⟩ : DmaSem sig)) (.remote (Dev.tc n : Thread nD τ) (rP4 : Memref sig .tc .vmem S512x512 .bf16) (.dma (⟨17, by decide⟩ : DmaSem sig)) hsc)}
    {Q : PUnit → sProp 𝕄} {k : PUnit → Prog (TpuEff nD τ sig (Elt F) Λ₀ .tc) PUnit} :
    iprop(recs m K ∗ sPay m c 4 ∗ rAny (F := F) (up c 2) 4 ∗ owes (c : Thread nD τ) (owedC c 3) W
        ∗ dutyTok ER (sendCell c 4) 0 0 ∗ dutyTok ER (recvCell (up c 2) 4) 0 0)
      ⊢ iprop(((cred (tallyAt (sendCell c 4) true (amt 4)) ∗ owes (c : Thread nD τ) (owedC c 2) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma sP4 (.remote (Dev.tc n : Thread nD τ) rP4 (.dma (⟨17, by decide⟩ : DmaSem sig)) hsc)
                (.dma (⟨24, by decide⟩ : DmaSem sig)) hsrc hdst hsem) k) Q) := by
  subst hn
  exact send_step m K c sP4 rP4 4 (up c 2) ⟨17, by decide⟩ ⟨24, by decide⟩ rfl rfl (sendC m c) (recvC m (up c 2)) rfl rfl rfl (move_read4 m c) rfl _ _ rfl W

/-- The copy of slot 5, to the device 3 places on: the slot it leaves comes back with the send cell, the slot it fills goes to that device. -/
theorem send_step5 (n : Dev nD) (hn : n = up c 3) (W : Waits sig Bool)
    {hsc : (rP5 : Memref sig (Dev.tc n : Thread nD τ).2.kind .vmem S512x512 .bf16).view.ref.isScScratch = false}
    {hsrc : (sP5 : Memref sig .tc .vmem S512x512 .bf16).view.WordExact} {hdst : (rP5 : Memref sig .tc .vmem S512x512 .bf16).view.WordExact}
    {hsem : DmaTarget.Typed .vmem (.dma (⟨25, by decide⟩ : DmaSem sig)) (.remote (Dev.tc n : Thread nD τ) (rP5 : Memref sig .tc .vmem S512x512 .bf16) (.dma (⟨18, by decide⟩ : DmaSem sig)) hsc)}
    {Q : PUnit → sProp 𝕄} {k : PUnit → Prog (TpuEff nD τ sig (Elt F) Λ₀ .tc) PUnit} :
    iprop(recs m K ∗ sPay m c 5 ∗ rAny (F := F) (up c 3) 5 ∗ owes (c : Thread nD τ) (owedC c 2) W
        ∗ dutyTok ER (sendCell c 5) 0 0 ∗ dutyTok ER (recvCell (up c 3) 5) 0 0)
      ⊢ iprop(((cred (tallyAt (sendCell c 5) true (amt 5)) ∗ owes (c : Thread nD τ) (owedC c 1) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma sP5 (.remote (Dev.tc n : Thread nD τ) rP5 (.dma (⟨18, by decide⟩ : DmaSem sig)) hsc)
                (.dma (⟨25, by decide⟩ : DmaSem sig)) hsrc hdst hsem) k) Q) := by
  subst hn
  exact send_step m K c sP5 rP5 5 (up c 3) ⟨18, by decide⟩ ⟨25, by decide⟩ rfl rfl (sendC m c) (recvC m (up c 3)) rfl rfl rfl (move_read5 m c) rfl _ _ rfl W

/-- The copy of slot 6, to the device 3 places on: the slot it leaves comes back with the send cell, the slot it fills goes to that device. -/
theorem send_step6 (n : Dev nD) (hn : n = up c 3) (W : Waits sig Bool)
    {hsc : (rP6 : Memref sig (Dev.tc n : Thread nD τ).2.kind .vmem S512x512 .bf16).view.ref.isScScratch = false}
    {hsrc : (sP6 : Memref sig .tc .vmem S512x512 .bf16).view.WordExact} {hdst : (rP6 : Memref sig .tc .vmem S512x512 .bf16).view.WordExact}
    {hsem : DmaTarget.Typed .vmem (.dma (⟨26, by decide⟩ : DmaSem sig)) (.remote (Dev.tc n : Thread nD τ) (rP6 : Memref sig .tc .vmem S512x512 .bf16) (.dma (⟨19, by decide⟩ : DmaSem sig)) hsc)}
    {Q : PUnit → sProp 𝕄} {k : PUnit → Prog (TpuEff nD τ sig (Elt F) Λ₀ .tc) PUnit} :
    iprop(recs m K ∗ sPay m c 6 ∗ rAny (F := F) (up c 3) 6 ∗ owes (c : Thread nD τ) (owedC c 1) W
        ∗ dutyTok ER (sendCell c 6) 0 0 ∗ dutyTok ER (recvCell (up c 3) 6) 0 0)
      ⊢ iprop(((cred (tallyAt (sendCell c 6) true (amt 6)) ∗ owes (c : Thread nD τ) (owedC c 0) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma sP6 (.remote (Dev.tc n : Thread nD τ) rP6 (.dma (⟨19, by decide⟩ : DmaSem sig)) hsc)
                (.dma (⟨26, by decide⟩ : DmaSem sig)) hsrc hdst hsem) k) Q) := by
  subst hn
  exact send_step m K c sP6 rP6 6 (up c 3) ⟨19, by decide⟩ ⟨26, by decide⟩ rfl rfl (sendC m c) (recvC m (up c 3)) rfl rfl rfl (move_read6 m c) rfl _ _ rfl W

end Cert.KernelIdealProof

end
-- ==== Proof.PI.Pieces.lean ====
/-
  Cutting a buffer into the pieces that the copies move, and joining them again.
-/
module

public import proofs.«01_k».proof.Proof.PI.Steps

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-! ## Membership in a piece -/

/-- A block of whole rows, by the row. -/
theorem mem_rows {H W a h : ℕ} {off : Fin 2 → ℕ} (inb : ∀ k, off k + (![h, W] : Fin 2 → ℕ) k ≤ (⟨2, ![H, W]⟩ : Shape).size k) (ho : off = ![a, 0]) (i : (⟨2, ![H, W]⟩ : Shape).Idx) :
    i ∈ (Rect.unit (s := ⟨2, ![H, W]⟩) off ![h, W] inb).set ↔ a ≤ (i 0).val ∧ (i 0).val < a + h := by
  subst ho
  refine Rect.mem_set_unit.trans ⟨fun H => H 0, fun H k => ?_⟩
  have h1 : (i 1).val < W := (i 1).isLt
  match k with
  | 0 => exact H
  | 1 => exact ⟨Nat.zero_le _, by show (i 1).val < 0 + W; omega⟩
/-- A block of whole rows within one plane, by the plane and the row. -/
theorem mem_slot {P H W p a h : ℕ} (inb : ∀ k, (![p, a, 0] : Fin 3 → ℕ) k + (![1, h, W] : Fin 3 → ℕ) k ≤ (⟨3, ![P, H, W]⟩ : Shape).size k) (i : (⟨3, ![P, H, W]⟩ : Shape).Idx) :
    i ∈ (Rect.unit (s := ⟨3, ![P, H, W]⟩) ![p, a, 0] ![1, h, W] inb).set ↔ (i 0).val = p ∧ a ≤ (i 1).val ∧ (i 1).val < a + h := by
  refine Rect.mem_set_unit.trans ⟨fun H => ?_, fun H k => ?_⟩
  · have h0 : p ≤ (i 0).val ∧ (i 0).val < p + 1 := H 0
    have h1 : a ≤ (i 1).val ∧ (i 1).val < a + h := H 1
    exact ⟨by omega, h1⟩
  have h2 : (i 2).val < W := (i 2).isLt
  obtain ⟨h0, h1⟩ := H
  match k with
  | 0 => exact ⟨by show p ≤ (i 0).val; omega, by show (i 0).val < p + 1; omega⟩
  | 1 => exact h1
  | 2 => exact ⟨Nat.zero_le _, by show (i 2).val < 0 + W; omega⟩

omit [FloatOps F] in
/-- Seven pieces, listed. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- Three pieces, listed. -/
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
/-- Two pieces, listed. -/
theorem bigSep_two (Φ : Fin 2 → sProp 𝕄) : bigSep Finset.univ Φ = iprop(Φ 0 ∗ Φ 1) :=
  bigSep_univ_eq_bigSepL [0, 1] (by decide) (by decide) Φ
omit [FloatOps F] in
/-- Eight pieces, listed. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The tables of the pieces -/

/-- First row of a piece of the input's copy. -/
def xlo : Fin 3 → ℕ := ![0, 256, 512]
/-- Number of rows of a piece of the input's copy. -/
def xht : Fin 3 → ℕ := ![256, 256, 512]
/-- No two row blocks of the input's copy overlap. -/
theorem x_apart : ∀ b b', b ≠ b' → xlo b + xht b ≤ xlo b' ∨ xlo b' + xht b' ≤ xlo b := by decide
/-- Every 256 rows of the input's copy lie in one of its row blocks. -/
theorem x_cover : ∀ k : Fin 4, ∃ b, xlo b ≤ 256 * k.val ∧ 256 * k.val + 256 ≤ xlo b + xht b := by decide
/-- Plane of a slot. -/
def pln : Fin 7 → ℕ := ![0, 0, 0, 1, 1, 2, 2]
/-- First row of a slot. -/
def plo : Fin 7 → ℕ := ![0, 256, 512, 0, 512, 0, 512]
/-- Number of rows of a slot. -/
def pht : Fin 7 → ℕ := ![256, 256, 512, 512, 512, 512, 512]
/-- No two slots overlap. -/
theorem p_apart : ∀ b b', b ≠ b' → pln b ≠ pln b' ∨ plo b + pht b ≤ plo b' ∨ plo b' + pht b' ≤ plo b := by decide
/-- Every 256 rows of a plane lie in one slot. -/
theorem p_cover : ∀ (p : Fin 3) (k : Fin 4), ∃ b, pln b = p.val ∧ plo b ≤ 256 * k.val ∧ 256 * k.val + 256 ≤ plo b + pht b := by decide
/-- First row of a block of the result of device `c`. -/
def rlo (c : Dev nD) : Fin 8 → ℕ :=
  ![1024 * (up c 3).val + 0, 1024 * (up c 3).val + 256, 1024 * (up c 3).val + 512, 1024 * (up c 2).val + 0, 1024 * (up c 2).val + 512, 1024 * (up c 1).val + 0, 1024 * (up c 1).val + 512, 1024 * c.val]
/-- Number of rows of a block of the result. -/
def rht : Fin 8 → ℕ := ![256, 256, 512, 512, 512, 512, 512, 1024]
/-- No two row blocks of the result overlap. -/
theorem r_apart : ∀ (c : Dev nD) (b b'), b ≠ b' → rlo c b + rht b ≤ rlo c b' ∨ rlo c b' + rht b' ≤ rlo c b := by decide +kernel
/-- Every 256 rows of the result lie in one of its row blocks. -/
theorem r_cover : ∀ (c : Dev nD) (k : Fin 16), ∃ b, rlo c b ≤ 256 * k.val ∧ 256 * k.val + 256 ≤ rlo c b + rht b := by decide +kernel

/-! ## Whole buffers and their pieces -/

omit [FloatOps F] in
/-- A buffer is its pieces, if no element lies in two of them and each lies in one. -/
theorem cut_eq {n : ℕ} {ℓ : Loc nD τ sig} (I : Fin n → Finset (Idx ℓ)) (P : Fin n → Idx ℓ → Prop) (hI : ∀ b i, i ∈ I b ↔ P b i)
    (hd : ∀ b b' i, b ≠ b' → P b i → ¬P b' i) (hc : ∀ i, ∃ b, P b i) (q : PosShare TreeShare) (f : Buf (Elt F) ℓ) :
    (ℓ ↦{q} f : sProp 𝕄) = bigSep Finset.univ fun b => ℓ ↦[I b]{q} f :=
  (congrArg (fun S => (ℓ ↦[S]{q} f : sProp 𝕄)) (Finset.eq_univ_of_forall fun i =>
      Finset.mem_biUnion.mpr ((hc i).imp fun b h => ⟨Finset.mem_univ _, (hI b i).mpr h⟩)).symm).trans
    (pointsTo_biUnion Finset.univ I fun b _ b' _ h => Finset.disjoint_left.mpr fun i h1 h2 => hd b b' i h ((hI b i).mp h1) ((hI b' i).mp h2))

/-- No row of the result lies in two of its blocks. -/
theorem rows_apart (c : Dev nD) {b b' : Fin 8} (h : b ≠ b') {r : ℕ} (h1 : rlo c b ≤ r ∧ r < rlo c b + rht b) : ¬(rlo c b' ≤ r ∧ r < rlo c b' + rht b') := by
  have := r_apart c b b' h
  omega
/-- Every row of the result lies in one of its blocks. -/
theorem rows_cover (c : Dev nD) {r : ℕ} (h : r < 4096) : ∃ b, rlo c b ≤ r ∧ r < rlo c b + rht b := by
  obtain ⟨b, h1, h2⟩ := r_cover c ⟨r / 256, by omega⟩
  dsimp only at h1 h2
  exact ⟨b, by omega, by omega⟩
/-- No row of a plane lies in two slots. -/
theorem slots_apart {b b' : Fin 7} (h : b ≠ b') {p r : ℕ} (h1 : p = pln b ∧ plo b ≤ r ∧ r < plo b + pht b) : ¬(p = pln b' ∧ plo b' ≤ r ∧ r < plo b' + pht b') := by
  have := p_apart b b' h
  omega
/-- Every row of every plane lies in one slot. -/
theorem slots_cover {p r : ℕ} (hp : p < 3) (hr : r < 1024) : ∃ b, p = pln b ∧ plo b ≤ r ∧ r < plo b + pht b := by
  obtain ⟨b, h0, h1, h2⟩ := p_cover ⟨p, hp⟩ ⟨r / 256, by omega⟩
  dsimp only at h0 h1 h2
  exact ⟨b, h0.symm, by omega, by omega⟩

omit [FloatOps F] in
/-- The input's copy is any three sets that are its row blocks. -/
theorem x_blocks (c : Dev nD) (I : Fin 3 → Finset (Idx (xB.view.loc (c : Thread nD τ)))) (hI : ∀ b (i : Idx (xB.view.loc (c : Thread nD τ))), i ∈ I b ↔ xlo b ≤ (i 0).val ∧ (i 0).val < xlo b + xht b) (q : PosShare TreeShare) (f : Buf (Elt F) (xB.view.loc (c : Thread nD τ))) :
    ((xB.view.loc (c : Thread nD τ)) ↦{q} f : sProp 𝕄) = bigSep Finset.univ fun b => (xB.view.loc (c : Thread nD τ)) ↦[I b]{q} f := by
  refine cut_eq I _ hI (fun b b' i h h1 h2 => ?_) (fun i => ?_) q f
  · have := x_apart b b' h
    omega
  · have hb : (i 0).val < 1024 := (i 0).isLt
    obtain ⟨b, h1, h2⟩ := x_cover ⟨(i 0).val / 256, by omega⟩
    dsimp only at h1 h2
    exact ⟨b, by omega, by omega⟩
omit [FloatOps F] in
/-- The result's copy in VMEM is any eight sets that are its row blocks. -/
theorem v_blocks (c : Dev nD) (I : Fin 8 → Finset (Idx (vB.view.loc (c : Thread nD τ)))) (hI : ∀ b (i : Idx (vB.view.loc (c : Thread nD τ))), i ∈ I b ↔ rlo c b ≤ (i 0).val ∧ (i 0).val < rlo c b + rht b) (q : PosShare TreeShare) (f : Buf (Elt F) (vB.view.loc (c : Thread nD τ))) :
    ((vB.view.loc (c : Thread nD τ)) ↦{q} f : sProp 𝕄) = bigSep Finset.univ fun b => (vB.view.loc (c : Thread nD τ)) ↦[I b]{q} f :=
  cut_eq I _ hI (fun _ _ _ h => rows_apart c h) (fun i => rows_cover c (i 0).isLt) q f
omit [FloatOps F] in
/-- The result in HBM is any eight sets that are its row blocks. -/
theorem o_blocks (c : Dev nD) (I : Fin 8 → Finset (Idx (oH.view.loc (c : Thread nD τ)))) (hI : ∀ b (i : Idx (oH.view.loc (c : Thread nD τ))), i ∈ I b ↔ rlo c b ≤ (i 0).val ∧ (i 0).val < rlo c b + rht b) (q : PosShare TreeShare) (f : Buf (Elt F) (oH.view.loc (c : Thread nD τ))) :
    ((oH.view.loc (c : Thread nD τ)) ↦{q} f : sProp 𝕄) = bigSep Finset.univ fun b => (oH.view.loc (c : Thread nD τ)) ↦[I b]{q} f :=
  cut_eq I _ hI (fun _ _ _ h => rows_apart c h) (fun i => rows_cover c (i 0).isLt) q f
omit [FloatOps F] in
/-- The send buffer is any seven sets that are its slots. -/
theorem s_blocks (c : Dev nD) (I : Fin 7 → Finset (Idx (sB.view.loc (c : Thread nD τ)))) (hI : ∀ b (i : Idx (sB.view.loc (c : Thread nD τ))), i ∈ I b ↔ (i 0).val = pln b ∧ plo b ≤ (i 1).val ∧ (i 1).val < plo b + pht b) (q : PosShare TreeShare) (f : Buf (Elt F) (sB.view.loc (c : Thread nD τ))) :
    ((sB.view.loc (c : Thread nD τ)) ↦{q} f : sProp 𝕄) = bigSep Finset.univ fun b => (sB.view.loc (c : Thread nD τ)) ↦[I b]{q} f :=
  cut_eq I _ hI (fun _ _ _ h => slots_apart h) (fun i => slots_cover (i 0).isLt (i 1).isLt) q f
omit [FloatOps F] in
/-- The receive buffer is any seven sets that are its slots. -/
theorem r_blocks (c : Dev nD) (I : Fin 7 → Finset (Idx (rB.view.loc (c : Thread nD τ)))) (hI : ∀ b (i : Idx (rB.view.loc (c : Thread nD τ))), i ∈ I b ↔ (i 0).val = pln b ∧ plo b ≤ (i 1).val ∧ (i 1).val < plo b + pht b) (q : PosShare TreeShare) (f : Buf (Elt F) (rB.view.loc (c : Thread nD τ))) :
    ((rB.view.loc (c : Thread nD τ)) ↦{q} f : sProp 𝕄) = bigSep Finset.univ fun b => (rB.view.loc (c : Thread nD τ)) ↦[I b]{q} f :=
  cut_eq I _ hI (fun _ _ _ h => slots_apart h) (fun i => slots_cover (i 0).isLt (i 1).isLt) q f
omit [FloatOps F] in
/-- The buffer of the weights' copies is any two sets that are its planes. -/
theorem w_blocks (c : Dev nD) (I : Fin 2 → Finset (Idx (wB.view.loc (c : Thread nD τ)))) (hI : ∀ b (i : Idx (wB.view.loc (c : Thread nD τ))), i ∈ I b ↔ (i 0).val = b.val) (q : PosShare TreeShare) (f : Buf (Elt F) (wB.view.loc (c : Thread nD τ))) :
    ((wB.view.loc (c : Thread nD τ)) ↦{q} f : sProp 𝕄) = bigSep Finset.univ fun b => (wB.view.loc (c : Thread nD τ)) ↦[I b]{q} f :=
  cut_eq I _ hI (fun _ _ _ h h1 h2 => h (Fin.ext (h1.symm.trans h2))) (fun i => ⟨i 0, rfl⟩) q f
omit [FloatOps F] in
/-- The input's copy is its three row blocks. -/
theorem x_eq (c : Dev nD) (f : Buf (Elt F) (xB.view.loc (c : Thread nD τ))) :
    ((xB.view.loc (c : Thread nD τ)) ↦{fullShare} f : sProp 𝕄) = iprop((xP0.view.loc (c : Thread nD τ) ↦[xP0.view.set]{fullShare} f) ∗ (xP1.view.loc (c : Thread nD τ) ↦[xP1.view.set]{fullShare} f) ∗ (xP2.view.loc (c : Thread nD τ) ↦[xP2.view.set]{fullShare} f)) := by
  refine (x_blocks c ![xP0.view.set, xP1.view.set, xP2.view.set] (fun b i => ?_) fullShare f).trans (bigSep_three _)
  match b with
    | 0 => exact (congrArg (i ∈ ·) (View.set_slice_whole _ _)).to_iff.trans (mem_rows _ rfl i)
    | 1 => exact (congrArg (i ∈ ·) (View.set_slice_whole _ _)).to_iff.trans (mem_rows _ rfl i)
    | 2 => exact (congrArg (i ∈ ·) (View.set_slice_whole _ _)).to_iff.trans (mem_rows _ rfl i)
omit [FloatOps F] in
/-- The buffer of the weights' copies is its two planes. -/
theorem w_eq (c : Dev nD) (f : Buf (Elt F) (wB.view.loc (c : Thread nD τ))) :
    ((wB.view.loc (c : Thread nD τ)) ↦{fullShare} f : sProp 𝕄) = iprop((wP0.view.loc (c : Thread nD τ) ↦[wP0.view.set]{fullShare} f) ∗ (wP1.view.loc (c : Thread nD τ) ↦[wP1.view.set]{fullShare} f)) := by
  refine (w_blocks c ![wP0.view.set, wP1.view.set] (fun b i => ?_) fullShare f).trans (bigSep_two _)
  match b with
    | 0 => exact (congrArg (i ∈ ·) ((View.set_reshape _ _).trans (View.set_slice_whole _ _))).to_iff.trans ((mem_slot _ i).trans ⟨fun h => h.1, fun h => ⟨h, Nat.zero_le _, (i 1).isLt⟩⟩)
    | 1 => exact (congrArg (i ∈ ·) ((View.set_reshape _ _).trans (View.set_slice_whole _ _))).to_iff.trans ((mem_slot _ i).trans ⟨fun h => h.1, fun h => ⟨h, Nat.zero_le _, (i 1).isLt⟩⟩)
omit [FloatOps F] in
/-- The send buffer is its seven slots. -/
theorem s_eq (c : Dev nD) (f : Buf (Elt F) (sB.view.loc (c : Thread nD τ))) :
    ((sB.view.loc (c : Thread nD τ)) ↦{fullShare} f : sProp 𝕄) = iprop((sP0.view.loc (c : Thread nD τ) ↦[sP0.view.set]{fullShare} f) ∗ (sP1.view.loc (c : Thread nD τ) ↦[sP1.view.set]{fullShare} f) ∗ (sP2.view.loc (c : Thread nD τ) ↦[sP2.view.set]{fullShare} f) ∗ (sP3.view.loc (c : Thread nD τ) ↦[sP3.view.set]{fullShare} f) ∗ (sP4.view.loc (c : Thread nD τ) ↦[sP4.view.set]{fullShare} f) ∗ (sP5.view.loc (c : Thread nD τ) ↦[sP5.view.set]{fullShare} f) ∗ (sP6.view.loc (c : Thread nD τ) ↦[sP6.view.set]{fullShare} f)) := by
  refine (s_blocks c ![sP0.view.set, sP1.view.set, sP2.view.set, sP3.view.set, sP4.view.set, sP5.view.set, sP6.view.set] (fun b i => ?_) fullShare f).trans (bigSep_seven _)
  match b with
    | 0 => exact (congrArg (i ∈ ·) ((View.set_reshape _ _).trans (View.set_slice_whole _ _))).to_iff.trans (mem_slot _ i)
    | 1 => exact (congrArg (i ∈ ·) ((View.set_reshape _ _).trans (View.set_slice_whole _ _))).to_iff.trans (mem_slot _ i)
    | 2 => exact (congrArg (i ∈ ·) ((View.set_reshape _ _).trans (View.set_slice_whole _ _))).to_iff.trans (mem_slot _ i)
    | 3 => exact (congrArg (i ∈ ·) ((View.set_reshape _ _).trans (View.set_slice_whole _ _))).to_iff.trans (mem_slot _ i)
    | 4 => exact (congrArg (i ∈ ·) ((View.set_reshape _ _).trans (View.set_slice_whole _ _))).to_iff.trans (mem_slot _ i)
    | 5 => exact (congrArg (i ∈ ·) ((View.set_reshape _ _).trans (View.set_slice_whole _ _))).to_iff.trans (mem_slot _ i)
    | 6 => exact (congrArg (i ∈ ·) ((View.set_reshape _ _).trans (View.set_slice_whole _ _))).to_iff.trans (mem_slot _ i)
omit [FloatOps F] in
/-- The receive buffer is its seven slots. -/
theorem r_eq (c : Dev nD) (f : Buf (Elt F) (rB.view.loc (c : Thread nD τ))) :
    ((rB.view.loc (c : Thread nD τ)) ↦{fullShare} f : sProp 𝕄) = iprop((rP0.view.loc (c : Thread nD τ) ↦[rP0.view.set]{fullShare} f) ∗ (rP1.view.loc (c : Thread nD τ) ↦[rP1.view.set]{fullShare} f) ∗ (rP2.view.loc (c : Thread nD τ) ↦[rP2.view.set]{fullShare} f) ∗ (rP3.view.loc (c : Thread nD τ) ↦[rP3.view.set]{fullShare} f) ∗ (rP4.view.loc (c : Thread nD τ) ↦[rP4.view.set]{fullShare} f) ∗ (rP5.view.loc (c : Thread nD τ) ↦[rP5.view.set]{fullShare} f) ∗ (rP6.view.loc (c : Thread nD τ) ↦[rP6.view.set]{fullShare} f)) := by
  refine (r_blocks c ![rP0.view.set, rP1.view.set, rP2.view.set, rP3.view.set, rP4.view.set, rP5.view.set, rP6.view.set] (fun b i => ?_) fullShare f).trans (bigSep_seven _)
  match b with
    | 0 => exact (congrArg (i ∈ ·) ((View.set_reshape _ _).trans (View.set_slice_whole _ _))).to_iff.trans (mem_slot _ i)
    | 1 => exact (congrArg (i ∈ ·) ((View.set_reshape _ _).trans (View.set_slice_whole _ _))).to_iff.trans (mem_slot _ i)
    | 2 => exact (congrArg (i ∈ ·) ((View.set_reshape _ _).trans (View.set_slice_whole _ _))).to_iff.trans (mem_slot _ i)
    | 3 => exact (congrArg (i ∈ ·) ((View.set_reshape _ _).trans (View.set_slice_whole _ _))).to_iff.trans (mem_slot _ i)
    | 4 => exact (congrArg (i ∈ ·) ((View.set_reshape _ _).trans (View.set_slice_whole _ _))).to_iff.trans (mem_slot _ i)
    | 5 => exact (congrArg (i ∈ ·) ((View.set_reshape _ _).trans (View.set_slice_whole _ _))).to_iff.trans (mem_slot _ i)
    | 6 => exact (congrArg (i ∈ ·) ((View.set_reshape _ _).trans (View.set_slice_whole _ _))).to_iff.trans (mem_slot _ i)
omit [FloatOps F] in
/-- The result's copy in VMEM is its eight row blocks, where the copies out read them. -/
theorem v_eq (c : Dev nD) (f : Buf (Elt F) (vB.view.loc (c : Thread nD τ))) :
    ((vB.view.loc (c : Thread nD τ)) ↦{fullShare} f : sProp 𝕄) = iprop(((vP0 c).view.loc (c : Thread nD τ) ↦[(vP0 c).view.set]{fullShare} f) ∗ ((vP1 c).view.loc (c : Thread nD τ) ↦[(vP1 c).view.set]{fullShare} f) ∗ ((vP2 c).view.loc (c : Thread nD τ) ↦[(vP2 c).view.set]{fullShare} f) ∗ ((vP3 c).view.loc (c : Thread nD τ) ↦[(vP3 c).view.set]{fullShare} f) ∗ ((vP4 c).view.loc (c : Thread nD τ) ↦[(vP4 c).view.set]{fullShare} f) ∗ ((vP5 c).view.loc (c : Thread nD τ) ↦[(vP5 c).view.set]{fullShare} f) ∗ ((vP6 c).view.loc (c : Thread nD τ) ↦[(vP6 c).view.set]{fullShare} f) ∗ ((vP7 c).view.loc (c : Thread nD τ) ↦[(vP7 c).view.set]{fullShare} f)) := by
  refine (v_blocks c ![(vP0 c).view.set, (vP1 c).view.set, (vP2 c).view.set, (vP3 c).view.set, (vP4 c).view.set, (vP5 c).view.set, (vP6 c).view.set, (vP7 c).view.set] (fun b i => ?_) fullShare f).trans (bigSep_eight _)
  match b with
    | 0 => exact (congrArg (i ∈ ·) (View.set_slice_whole _ _)).to_iff.trans (mem_rows _ (offo_0 c) i)
    | 1 => exact (congrArg (i ∈ ·) (View.set_slice_whole _ _)).to_iff.trans (mem_rows _ (offo_1 c) i)
    | 2 => exact (congrArg (i ∈ ·) (View.set_slice_whole _ _)).to_iff.trans (mem_rows _ (offo_2 c) i)
    | 3 => exact (congrArg (i ∈ ·) (View.set_slice_whole _ _)).to_iff.trans (mem_rows _ (offo_3 c) i)
    | 4 => exact (congrArg (i ∈ ·) (View.set_slice_whole _ _)).to_iff.trans (mem_rows _ (offo_4 c) i)
    | 5 => exact (congrArg (i ∈ ·) (View.set_slice_whole _ _)).to_iff.trans (mem_rows _ (offo_5 c) i)
    | 6 => exact (congrArg (i ∈ ·) (View.set_slice_whole _ _)).to_iff.trans (mem_rows _ (offo_6 c) i)
    | 7 => exact (congrArg (i ∈ ·) (View.set_slice_whole _ _)).to_iff.trans (mem_rows _ (off5 c) i)
omit [FloatOps F] in
/-- The result's copy in VMEM is its eight row blocks, where the stores write them. -/
theorem v_eq' (c : Dev nD) (f : Buf (Elt F) (vB.view.loc (c : Thread nD τ))) :
    ((vB.view.loc (c : Thread nD τ)) ↦{fullShare} f : sProp 𝕄) = iprop(((vB.slice (Rect.unit (s := S4096x512) (k0_off6 c 0#32) S256x512.size (k0_off6_inb c 0)) (fun _ => rfl)).view.loc (c : Thread nD τ) ↦[(vB.slice (Rect.unit (s := S4096x512) (k0_off6 c 0#32) S256x512.size (k0_off6_inb c 0)) (fun _ => rfl)).view.set]{fullShare} f) ∗ ((vB.slice (Rect.unit (s := S4096x512) (k0_off6 c 256#32) S256x512.size (k0_off6_inb c 1)) (fun _ => rfl)).view.loc (c : Thread nD τ) ↦[(vB.slice (Rect.unit (s := S4096x512) (k0_off6 c 256#32) S256x512.size (k0_off6_inb c 1)) (fun _ => rfl)).view.set]{fullShare} f) ∗ ((vB.slice (Rect.unit (s := S4096x512) (k0_off8 c 1#32 512#32) S512x512.size (k0_off8_inb c 0)) (fun _ => rfl)).view.loc (c : Thread nD τ) ↦[(vB.slice (Rect.unit (s := S4096x512) (k0_off8 c 1#32 512#32) S512x512.size (k0_off8_inb c 0)) (fun _ => rfl)).view.set]{fullShare} f) ∗ ((vB.slice (Rect.unit (s := S4096x512) (k0_off8 c 2#32 0#32) S512x512.size (k0_off8_inb c 1)) (fun _ => rfl)).view.loc (c : Thread nD τ) ↦[(vB.slice (Rect.unit (s := S4096x512) (k0_off8 c 2#32 0#32) S512x512.size (k0_off8_inb c 1)) (fun _ => rfl)).view.set]{fullShare} f) ∗ ((vB.slice (Rect.unit (s := S4096x512) (k0_off8 c 2#32 512#32) S512x512.size (k0_off8_inb c 2)) (fun _ => rfl)).view.loc (c : Thread nD τ) ↦[(vB.slice (Rect.unit (s := S4096x512) (k0_off8 c 2#32 512#32) S512x512.size (k0_off8_inb c 2)) (fun _ => rfl)).view.set]{fullShare} f) ∗ ((vB.slice (Rect.unit (s := S4096x512) (k0_off8 c 3#32 0#32) S512x512.size (k0_off8_inb c 3)) (fun _ => rfl)).view.loc (c : Thread nD τ) ↦[(vB.slice (Rect.unit (s := S4096x512) (k0_off8 c 3#32 0#32) S512x512.size (k0_off8_inb c 3)) (fun _ => rfl)).view.set]{fullShare} f) ∗ ((vB.slice (Rect.unit (s := S4096x512) (k0_off8 c 3#32 512#32) S512x512.size (k0_off8_inb c 4)) (fun _ => rfl)).view.loc (c : Thread nD τ) ↦[(vB.slice (Rect.unit (s := S4096x512) (k0_off8 c 3#32 512#32) S512x512.size (k0_off8_inb c 4)) (fun _ => rfl)).view.set]{fullShare} f) ∗ ((vB.slice (Rect.unit (s := S4096x512) (k0_off4 c) S1024x512.size (k0_off4_inb c)) (fun _ => rfl)).view.loc (c : Thread nD τ) ↦[(vB.slice (Rect.unit (s := S4096x512) (k0_off4 c) S1024x512.size (k0_off4_inb c)) (fun _ => rfl)).view.set]{fullShare} f)) := by
  refine (v_blocks c ![(vB.slice (Rect.unit (s := S4096x512) (k0_off6 c 0#32) S256x512.size (k0_off6_inb c 0)) (fun _ => rfl)).view.set, (vB.slice (Rect.unit (s := S4096x512) (k0_off6 c 256#32) S256x512.size (k0_off6_inb c 1)) (fun _ => rfl)).view.set, (vB.slice (Rect.unit (s := S4096x512) (k0_off8 c 1#32 512#32) S512x512.size (k0_off8_inb c 0)) (fun _ => rfl)).view.set, (vB.slice (Rect.unit (s := S4096x512) (k0_off8 c 2#32 0#32) S512x512.size (k0_off8_inb c 1)) (fun _ => rfl)).view.set, (vB.slice (Rect.unit (s := S4096x512) (k0_off8 c 2#32 512#32) S512x512.size (k0_off8_inb c 2)) (fun _ => rfl)).view.set, (vB.slice (Rect.unit (s := S4096x512) (k0_off8 c 3#32 0#32) S512x512.size (k0_off8_inb c 3)) (fun _ => rfl)).view.set, (vB.slice (Rect.unit (s := S4096x512) (k0_off8 c 3#32 512#32) S512x512.size (k0_off8_inb c 4)) (fun _ => rfl)).view.set, (vB.slice (Rect.unit (s := S4096x512) (k0_off4 c) S1024x512.size (k0_off4_inb c)) (fun _ => rfl)).view.set] (fun b i => ?_) fullShare f).trans (bigSep_eight _)
  match b with
    | 0 => exact (congrArg (i ∈ ·) (View.set_slice_whole _ _)).to_iff.trans (mem_rows _ (offv_0 c) i)
    | 1 => exact (congrArg (i ∈ ·) (View.set_slice_whole _ _)).to_iff.trans (mem_rows _ (offv_1 c) i)
    | 2 => exact (congrArg (i ∈ ·) (View.set_slice_whole _ _)).to_iff.trans (mem_rows _ (offv_2 c) i)
    | 3 => exact (congrArg (i ∈ ·) (View.set_slice_whole _ _)).to_iff.trans (mem_rows _ (offv_3 c) i)
    | 4 => exact (congrArg (i ∈ ·) (View.set_slice_whole _ _)).to_iff.trans (mem_rows _ (offv_4 c) i)
    | 5 => exact (congrArg (i ∈ ·) (View.set_slice_whole _ _)).to_iff.trans (mem_rows _ (offv_5 c) i)
    | 6 => exact (congrArg (i ∈ ·) (View.set_slice_whole _ _)).to_iff.trans (mem_rows _ (offv_6 c) i)
    | 7 => exact (congrArg (i ∈ ·) (View.set_slice_whole _ _)).to_iff.trans (mem_rows _ (off4 c) i)
omit [FloatOps F] in
/-- The result in HBM is its eight row blocks. -/
theorem o_eq (c : Dev nD) (f : Buf (Elt F) (oH.view.loc (c : Thread nD τ))) :
    ((oH.view.loc (c : Thread nD τ)) ↦{fullShare} f : sProp 𝕄) = iprop(((oP0 c).view.loc (c : Thread nD τ) ↦[(oP0 c).view.set]{fullShare} f) ∗ ((oP1 c).view.loc (c : Thread nD τ) ↦[(oP1 c).view.set]{fullShare} f) ∗ ((oP2 c).view.loc (c : Thread nD τ) ↦[(oP2 c).view.set]{fullShare} f) ∗ ((oP3 c).view.loc (c : Thread nD τ) ↦[(oP3 c).view.set]{fullShare} f) ∗ ((oP4 c).view.loc (c : Thread nD τ) ↦[(oP4 c).view.set]{fullShare} f) ∗ ((oP5 c).view.loc (c : Thread nD τ) ↦[(oP5 c).view.set]{fullShare} f) ∗ ((oP6 c).view.loc (c : Thread nD τ) ↦[(oP6 c).view.set]{fullShare} f) ∗ ((oP7 c).view.loc (c : Thread nD τ) ↦[(oP7 c).view.set]{fullShare} f)) := by
  refine (o_blocks c ![(oP0 c).view.set, (oP1 c).view.set, (oP2 c).view.set, (oP3 c).view.set, (oP4 c).view.set, (oP5 c).view.set, (oP6 c).view.set, (oP7 c).view.set] (fun b i => ?_) fullShare f).trans (bigSep_eight _)
  match b with
    | 0 => exact (congrArg (i ∈ ·) (View.set_slice_whole _ _)).to_iff.trans (mem_rows _ (offo_0 c) i)
    | 1 => exact (congrArg (i ∈ ·) (View.set_slice_whole _ _)).to_iff.trans (mem_rows _ (offo_1 c) i)
    | 2 => exact (congrArg (i ∈ ·) (View.set_slice_whole _ _)).to_iff.trans (mem_rows _ (offo_2 c) i)
    | 3 => exact (congrArg (i ∈ ·) (View.set_slice_whole _ _)).to_iff.trans (mem_rows _ (offo_3 c) i)
    | 4 => exact (congrArg (i ∈ ·) (View.set_slice_whole _ _)).to_iff.trans (mem_rows _ (offo_4 c) i)
    | 5 => exact (congrArg (i ∈ ·) (View.set_slice_whole _ _)).to_iff.trans (mem_rows _ (offo_5 c) i)
    | 6 => exact (congrArg (i ∈ ·) (View.set_slice_whole _ _)).to_iff.trans (mem_rows _ (offo_6 c) i)
    | 7 => exact (congrArg (i ∈ ·) (View.set_slice_whole _ _)).to_iff.trans (mem_rows _ (off5 c) i)
omit [FloatOps F] in
/-- The three row blocks of the input's copy make up the whole. -/
theorem x_join (c : Dev nD) (f : Buf (Elt F) (xB.view.loc (c : Thread nD τ))) :
    (iprop((xP0.view.loc (c : Thread nD τ) ↦[xP0.view.set]{fullShare} f) ∗ (xP1.view.loc (c : Thread nD τ) ↦[xP1.view.set]{fullShare} f) ∗ (xP2.view.loc (c : Thread nD τ) ↦[xP2.view.set]{fullShare} f)) : sProp 𝕄)
      ⊢ (xB.view.loc (c : Thread nD τ) ↦{fullShare} f) := Entails.of_eq (x_eq c f).symm
omit [FloatOps F] in
/-- The two planes of the weights' buffer, each holding anything, make up the whole. -/
theorem w_join (c : Dev nD) (f g : Buf (Elt F) (wB.view.loc (c : Thread nD τ))) :
    (iprop((wP0.view.loc (c : Thread nD τ) ↦[wP0.view.set]{fullShare} f) ∗ (wP1.view.loc (c : Thread nD τ) ↦[wP1.view.set]{fullShare} g)) : sProp 𝕄)
      ⊢ iprop(∃ h, wB.view.loc (c : Thread nD τ) ↦{fullShare} h) := by
  have hs : (wP0.view.set : Finset (Idx (wB.view.loc (c : Thread nD τ)))) ∪ wP1.view.set = Finset.univ := by
    refine Finset.eq_univ_of_forall fun i => ?_
    have h0 : (i 0).val < 2 := (i 0).isLt
    refine Finset.mem_union.mpr ?_
    rcases Nat.lt_or_ge (i 0).val 1 with h | h
    · exact Or.inl ((((congrArg (i ∈ ·) ((View.set_reshape _ _).trans (View.set_slice_whole _ _))).to_iff.trans ((mem_slot _ i).trans ⟨fun h => h.1, fun h => ⟨h, Nat.zero_le _, (i 1).isLt⟩⟩)) : i ∈ wP0.view.set ↔ (i 0).val = 0).mpr (by omega))
    · exact Or.inr ((((congrArg (i ∈ ·) ((View.set_reshape _ _).trans (View.set_slice_whole _ _))).to_iff.trans ((mem_slot _ i).trans ⟨fun h => h.1, fun h => ⟨h, Nat.zero_le _, (i 1).isLt⟩⟩)) : i ∈ wP1.view.set ↔ (i 0).val = 1).mpr (by omega))
  have hd : Disjoint (wP0.view.set : Finset (Idx (wB.view.loc (c : Thread nD τ)))) wP1.view.set := by
    rw [Finset.disjoint_left]
    intro i h1 h2
    have e0 := (((congrArg (i ∈ ·) ((View.set_reshape _ _).trans (View.set_slice_whole _ _))).to_iff.trans ((mem_slot _ i).trans ⟨fun h => h.1, fun h => ⟨h, Nat.zero_le _, (i 1).isLt⟩⟩)) : i ∈ wP0.view.set ↔ (i 0).val = 0).mp h1
    have e1 := (((congrArg (i ∈ ·) ((View.set_reshape _ _).trans (View.set_slice_whole _ _))).to_iff.trans ((mem_slot _ i).trans ⟨fun h => h.1, fun h => ⟨h, Nat.zero_le _, (i 1).isLt⟩⟩)) : i ∈ wP1.view.set ↔ (i 0).val = 1).mp h2
    omega
  refine (pointsTo_join hd).trans ?_
  rw [hs]
  iintro H
  iexists _; iexact H

end Cert.KernelIdealProof

end
-- ==== Proof.PI.Land.lean ====
/-
  What a piece holds once a copy has landed in it, as a restriction of the contents of the whole buffer.
-/
module

public import proofs.«01_k».proof.Proof.PI.Pieces

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-! ## Copies under way -/

/-- A copy under way may be said to leave `g` where it lands, if it carries what `g` reads there. -/
theorem flight_agree (c : Dev nD) {sm : SemLoc sig} {N : ℕ} {sp : Space} {s : Shape} {e : EltTy} (v : Memref sig .tc sp s e) (f g : v.view.ty.Contents (Elt F))
    (w : s.Idx → Elt F e) (h : w = v.view.read (Elt F) g) (R : sProp 𝕄) :
    (Transfers.Flight countersEmb (c : Thread nD τ) sm (default : Bool) N
        iprop((v.view.loc (c : Thread nD τ) ↦[v.view.set]{fullShare} v.view.writes (Elt F) f [⟨Rect.whole s, w⟩]) ∗ R) : sProp 𝕄)
      ⊢ Transfers.Flight countersEmb (c : Thread nD τ) sm (default : Bool) N iprop((v.view.loc (c : Thread nD τ) ↦[v.view.set]{fullShare} g) ∗ R) :=
  Transfers.Flight_mono countersEmb (c : Thread nD τ) (by
    iintro ⟨H, HR⟩
    isplitl [H]
    · iapply (Entails.of_eq (pointsTo_congr (writes_agree v.view f g w h))); iexact H
    iexact HR)

/-- A core that owes nothing may wait for its own copies. -/
theorem mayWaits0 (c : Dev nD) : (levAts L lv : sProp 𝕄) ⊢ Transfers.MayWaits (c : Thread nD τ) (default : Bool) 0 := mayWaits c 0

/-! ## Stores -/

/-- One store leaves `g` on its window, if it stores what `g` reads there. -/
theorem store_agree {κ : Kind} {sp : Space} {s : Shape} {e : EltTy} (v : View sig κ sp s e) (r : Rect s) (f g : v.ty.Contents (Elt F)) (w : r.shape.Idx → Elt F e)
    (h : w = (v.slice r).read (Elt F) g) : ∀ i ∈ (v.slice r).set, v.writes (Elt F) f [⟨r, w⟩] i = g i := by
  rw [View.writes_singleton]; exact write_agree (v.slice r) f g w h
/-- A slot of the send buffer holds its part of `sendC` once that part is stored in it. -/
theorem slot_stored {r : Rect S3x1024x512} {hr} {s : Shape} {hsq} (c : Dev nD) (f g : Buf (Elt F) (sB.view.loc (c : Thread nD τ))) (v : r.shape.Idx → F .bf16)
    (hv : v = (sB.access r).read (Elt F) (sendC m c)) (h : g = sB.view.writes (Elt F) f [⟨r, v⟩]) :
    (sB.view.loc (c : Thread nD τ) ↦[((sB.slice r hr).squeeze s hsq).view.set]{fullShare} g : sProp 𝕄)
      ⊢ sB.view.loc (c : Thread nD τ) ↦[((sB.slice r hr).squeeze s hsq).view.set]{fullShare} (sendC m c) := by
  subst h
  have e : ((sB.slice r hr).squeeze s hsq).view.set = (sB.view.slice r).set := View.set_reshape _ _
  exact Entails.of_eq (pointsTo_congr fun i hi => store_agree sB.view r f (sendC m c) _ hv i (e ▸ hi))
/-- Slot 0 of the send buffer, stored. -/
theorem slot_pay0 (c : Dev nD) (f g : Buf (Elt F) (sP0.view.loc (c : Thread nD τ))) (h : g = sB.view.writes (Elt F) f [⟨pR0, sV0 m c⟩]) :
    (sP0.view.loc (c : Thread nD τ) ↦[sP0.view.set]{fullShare} g) ⊢ sPay m c 0 :=
  slot_stored m c f g _ (send_read0 m c) h
/-- Slot 1 of the send buffer, stored. -/
theorem slot_pay1 (c : Dev nD) (f g : Buf (Elt F) (sP1.view.loc (c : Thread nD τ))) (h : g = sB.view.writes (Elt F) f [⟨pR1, sV1 m c⟩]) :
    (sP1.view.loc (c : Thread nD τ) ↦[sP1.view.set]{fullShare} g) ⊢ sPay m c 1 :=
  slot_stored m c f g _ (send_read1 m c) h
/-- Slot 2 of the send buffer, stored. -/
theorem slot_pay2 (c : Dev nD) (f g : Buf (Elt F) (sP2.view.loc (c : Thread nD τ))) (h : g = sB.view.writes (Elt F) f [⟨pR2, sV2 m c⟩]) :
    (sP2.view.loc (c : Thread nD τ) ↦[sP2.view.set]{fullShare} g) ⊢ sPay m c 2 :=
  slot_stored m c f g _ (send_read2 m c) h
/-- Slot 3 of the send buffer, stored. -/
theorem slot_pay3 (c : Dev nD) (f g : Buf (Elt F) (sP3.view.loc (c : Thread nD τ))) (h : g = sB.view.writes (Elt F) f [⟨pR3, sV3 m c⟩]) :
    (sP3.view.loc (c : Thread nD τ) ↦[sP3.view.set]{fullShare} g) ⊢ sPay m c 3 :=
  slot_stored m c f g _ (send_read3 m c) h
/-- Slot 4 of the send buffer, stored. -/
theorem slot_pay4 (c : Dev nD) (f g : Buf (Elt F) (sP4.view.loc (c : Thread nD τ))) (h : g = sB.view.writes (Elt F) f [⟨pR4, sV4 m c⟩]) :
    (sP4.view.loc (c : Thread nD τ) ↦[sP4.view.set]{fullShare} g) ⊢ sPay m c 4 :=
  slot_stored m c f g _ (send_read4 m c) h
/-- Slot 5 of the send buffer, stored. -/
theorem slot_pay5 (c : Dev nD) (f g : Buf (Elt F) (sP5.view.loc (c : Thread nD τ))) (h : g = sB.view.writes (Elt F) f [⟨pR5, sV5 m c⟩]) :
    (sP5.view.loc (c : Thread nD τ) ↦[sP5.view.set]{fullShare} g) ⊢ sPay m c 5 :=
  slot_stored m c f g _ (send_read5 m c) h
/-- Slot 6 of the send buffer, stored. -/
theorem slot_pay6 (c : Dev nD) (f g : Buf (Elt F) (sP6.view.loc (c : Thread nD τ))) (h : g = sB.view.writes (Elt F) f [⟨pR6, sV6 m c⟩]) :
    (sP6.view.loc (c : Thread nD τ) ↦[sP6.view.set]{fullShare} g) ⊢ sPay m c 6 :=
  slot_stored m c f g _ (send_read6 m c) h
/-- Rows of the result, stored in VMEM and on their way to HBM: both ends may be said to hold the device's result. -/
theorem out_flight (c : Dev nD) {sm : SemLoc sig} {N : ℕ} (sz : Fin 2 → ℕ) (off off' : Fin 2 → ℕ) (inb : ∀ a, off a + sz a ≤ S4096x512.size a) (inb' : ∀ a, off' a + sz a ≤ S4096x512.size a) (ho : off = off')
    (o : Buf (Elt F) (oH.view.loc (c : Thread nD τ))) (f g : Buf (Elt F) (vB.view.loc (c : Thread nD τ))) (w w' : (Rect.unit (s := S4096x512) off sz inb).shape.Idx → F .f32)
    (h : g = vB.view.writes (Elt F) f [⟨Rect.unit (s := S4096x512) off sz inb, w⟩]) (hw : w = (vB.access (Rect.unit (s := S4096x512) off sz inb)).read (Elt F) (outC m c))
    (hw' : w' = (vB.slice (Rect.unit (s := S4096x512) off' sz inb') (fun _ => rfl)).view.read (Elt F) g) :
    (Transfers.Flight countersEmb (c : Thread nD τ) sm (default : Bool) N
        iprop(((oH.slice (Rect.unit (s := S4096x512) off' sz inb') (fun _ => rfl)).view.loc (c : Thread nD τ) ↦[(oH.slice (Rect.unit (s := S4096x512) off' sz inb') (fun _ => rfl)).view.set]{fullShare}
            (oH.slice (Rect.unit (s := S4096x512) off' sz inb') (fun _ => rfl)).view.writes (Elt F) o [⟨Rect.whole _, w'⟩])
          ∗ (vB.view.loc (c : Thread nD τ) ↦[(vB.slice (Rect.unit (s := S4096x512) off' sz inb') (fun _ => rfl)).view.set]{fullShare} g)) : sProp 𝕄)
      ⊢ Transfers.Flight countersEmb (c : Thread nD τ) sm (default : Bool) N
        iprop(((oH.slice (Rect.unit (s := S4096x512) off' sz inb') (fun _ => rfl)).view.loc (c : Thread nD τ) ↦[(oH.slice (Rect.unit (s := S4096x512) off' sz inb') (fun _ => rfl)).view.set]{fullShare} (outC m c))
          ∗ (vB.view.loc (c : Thread nD τ) ↦[(vB.slice (Rect.unit (s := S4096x512) off' sz inb') (fun _ => rfl)).view.set]{fullShare} (outC m c))) := by
  subst ho
  have hg : ∀ i ∈ (vB.slice (Rect.unit (s := S4096x512) off sz inb) (fun _ => rfl)).view.set, g i = outC m c i := by
    rw [h]; exact store_agree vB.view (Rect.unit (s := S4096x512) off sz inb) f (outC m c) w hw
  have hr : w' = (oH.slice (Rect.unit (s := S4096x512) off sz inb) (fun _ => rfl)).view.read (Elt F) (outC m c) := by
    rw [hw']; exact View.read_congr hg
  refine Transfers.Flight_mono countersEmb (c : Thread nD τ) ?_
  iintro ⟨H, HG⟩
  isplitl [H]
  · iapply (Entails.of_eq (pointsTo_congr (writes_agree (oH.slice (Rect.unit (s := S4096x512) off sz inb) (fun _ => rfl)).view o (outC m c) w' hr))); iexact H
  iapply (Entails.of_eq (pointsTo_congr hg)); iexact HG

/-! ## Rows on their way out, slot by slot -/

/-- The rows of receive slot 0, on their way to HBM. -/
theorem out_flight0 (c : Dev nD) {sm : SemLoc sig} {N : ℕ} (o : Buf (Elt F) ((oP0 c).view.loc (c : Thread nD τ))) (b g : Buf (Elt F) ((vB.slice (Rect.unit (s := S4096x512) (k0_off6 c 0#32) S256x512.size (k0_off6_inb c 0)) (fun _ => rfl)).view.loc (c : Thread nD τ)))
    (w : S256x512.Idx → F .f32) (h : g = vB.view.writes (Elt F) b [⟨Rect.unit (s := S4096x512) (k0_off6 c 0#32) S256x512.size (k0_off6_inb c 0), k0_pay18 (rB.view.readAt (Elt F) pR0.toLoadRect (recvC m c))⟩]) (hw : w = (vP0 c).view.read (Elt F) g) :
    (Transfers.Flight countersEmb (c : Thread nD τ) sm (default : Bool) N
        iprop(((oP0 c).view.loc (c : Thread nD τ) ↦[(oP0 c).view.set]{fullShare} (oP0 c).view.writes (Elt F) o [⟨Rect.whole S256x512, w⟩])
          ∗ ((vB.slice (Rect.unit (s := S4096x512) (k0_off6 c 0#32) S256x512.size (k0_off6_inb c 0)) (fun _ => rfl)).view.loc (c : Thread nD τ) ↦[(vP0 c).view.set]{fullShare} g)) : sProp 𝕄)
      ⊢ Transfers.Flight countersEmb (c : Thread nD τ) sm (default : Bool) N iprop(((oP0 c).view.loc (c : Thread nD τ) ↦[(oP0 c).view.set]{fullShare} (outC m c)) ∗ ((vP0 c).view.loc (c : Thread nD τ) ↦[(vP0 c).view.set]{fullShare} (outC m c))) :=
  out_flight m c S256x512.size (k0_off6 c 0#32) _ (k0_off6_inb c 0) _ ((offv_0 c).trans (offo_0 c).symm) o b g _ w h (out_read0 m c _ _ (offv_0 c)) hw
/-- The rows of receive slot 1, on their way to HBM. -/
theorem out_flight1 (c : Dev nD) {sm : SemLoc sig} {N : ℕ} (o : Buf (Elt F) ((oP1 c).view.loc (c : Thread nD τ))) (b g : Buf (Elt F) ((vB.slice (Rect.unit (s := S4096x512) (k0_off6 c 256#32) S256x512.size (k0_off6_inb c 1)) (fun _ => rfl)).view.loc (c : Thread nD τ)))
    (w : S256x512.Idx → F .f32) (h : g = vB.view.writes (Elt F) b [⟨Rect.unit (s := S4096x512) (k0_off6 c 256#32) S256x512.size (k0_off6_inb c 1), k0_pay19 (rB.view.readAt (Elt F) pR1.toLoadRect (recvC m c))⟩]) (hw : w = (vP1 c).view.read (Elt F) g) :
    (Transfers.Flight countersEmb (c : Thread nD τ) sm (default : Bool) N
        iprop(((oP1 c).view.loc (c : Thread nD τ) ↦[(oP1 c).view.set]{fullShare} (oP1 c).view.writes (Elt F) o [⟨Rect.whole S256x512, w⟩])
          ∗ ((vB.slice (Rect.unit (s := S4096x512) (k0_off6 c 256#32) S256x512.size (k0_off6_inb c 1)) (fun _ => rfl)).view.loc (c : Thread nD τ) ↦[(vP1 c).view.set]{fullShare} g)) : sProp 𝕄)
      ⊢ Transfers.Flight countersEmb (c : Thread nD τ) sm (default : Bool) N iprop(((oP1 c).view.loc (c : Thread nD τ) ↦[(oP1 c).view.set]{fullShare} (outC m c)) ∗ ((vP1 c).view.loc (c : Thread nD τ) ↦[(vP1 c).view.set]{fullShare} (outC m c))) :=
  out_flight m c S256x512.size (k0_off6 c 256#32) _ (k0_off6_inb c 1) _ ((offv_1 c).trans (offo_1 c).symm) o b g _ w h (out_read1 m c _ _ (offv_1 c)) hw
/-- The rows of receive slot 2, on their way to HBM. -/
theorem out_flight2 (c : Dev nD) {sm : SemLoc sig} {N : ℕ} (o : Buf (Elt F) ((oP2 c).view.loc (c : Thread nD τ))) (b g : Buf (Elt F) ((vB.slice (Rect.unit (s := S4096x512) (k0_off8 c 1#32 512#32) S512x512.size (k0_off8_inb c 0)) (fun _ => rfl)).view.loc (c : Thread nD τ)))
    (w : S512x512.Idx → F .f32) (h : g = vB.view.writes (Elt F) b [⟨Rect.unit (s := S4096x512) (k0_off8 c 1#32 512#32) S512x512.size (k0_off8_inb c 0), k0_pay21 (k0_pay20 (rB.view.readAt (Elt F) pR2.toLoadRect (recvC m c)))⟩]) (hw : w = (vP2 c).view.read (Elt F) g) :
    (Transfers.Flight countersEmb (c : Thread nD τ) sm (default : Bool) N
        iprop(((oP2 c).view.loc (c : Thread nD τ) ↦[(oP2 c).view.set]{fullShare} (oP2 c).view.writes (Elt F) o [⟨Rect.whole S512x512, w⟩])
          ∗ ((vB.slice (Rect.unit (s := S4096x512) (k0_off8 c 1#32 512#32) S512x512.size (k0_off8_inb c 0)) (fun _ => rfl)).view.loc (c : Thread nD τ) ↦[(vP2 c).view.set]{fullShare} g)) : sProp 𝕄)
      ⊢ Transfers.Flight countersEmb (c : Thread nD τ) sm (default : Bool) N iprop(((oP2 c).view.loc (c : Thread nD τ) ↦[(oP2 c).view.set]{fullShare} (outC m c)) ∗ ((vP2 c).view.loc (c : Thread nD τ) ↦[(vP2 c).view.set]{fullShare} (outC m c))) :=
  out_flight m c S512x512.size (k0_off8 c 1#32 512#32) _ (k0_off8_inb c 0) _ ((offv_2 c).trans (offo_2 c).symm) o b g _ w h (out_read2 m c _ _ (offv_2 c)) hw
/-- The rows of receive slot 3, on their way to HBM. -/
theorem out_flight3 (c : Dev nD) {sm : SemLoc sig} {N : ℕ} (o : Buf (Elt F) ((oP3 c).view.loc (c : Thread nD τ))) (b g : Buf (Elt F) ((vB.slice (Rect.unit (s := S4096x512) (k0_off8 c 2#32 0#32) S512x512.size (k0_off8_inb c 1)) (fun _ => rfl)).view.loc (c : Thread nD τ)))
    (w : S512x512.Idx → F .f32) (h : g = vB.view.writes (Elt F) b [⟨Rect.unit (s := S4096x512) (k0_off8 c 2#32 0#32) S512x512.size (k0_off8_inb c 1), k0_pay22 (rB.view.readAt (Elt F) pR3.toLoadRect (recvC m c))⟩]) (hw : w = (vP3 c).view.read (Elt F) g) :
    (Transfers.Flight countersEmb (c : Thread nD τ) sm (default : Bool) N
        iprop(((oP3 c).view.loc (c : Thread nD τ) ↦[(oP3 c).view.set]{fullShare} (oP3 c).view.writes (Elt F) o [⟨Rect.whole S512x512, w⟩])
          ∗ ((vB.slice (Rect.unit (s := S4096x512) (k0_off8 c 2#32 0#32) S512x512.size (k0_off8_inb c 1)) (fun _ => rfl)).view.loc (c : Thread nD τ) ↦[(vP3 c).view.set]{fullShare} g)) : sProp 𝕄)
      ⊢ Transfers.Flight countersEmb (c : Thread nD τ) sm (default : Bool) N iprop(((oP3 c).view.loc (c : Thread nD τ) ↦[(oP3 c).view.set]{fullShare} (outC m c)) ∗ ((vP3 c).view.loc (c : Thread nD τ) ↦[(vP3 c).view.set]{fullShare} (outC m c))) :=
  out_flight m c S512x512.size (k0_off8 c 2#32 0#32) _ (k0_off8_inb c 1) _ ((offv_3 c).trans (offo_3 c).symm) o b g _ w h (out_read3 m c _ _ (offv_3 c)) hw
/-- The rows of receive slot 4, on their way to HBM. -/
theorem out_flight4 (c : Dev nD) {sm : SemLoc sig} {N : ℕ} (o : Buf (Elt F) ((oP4 c).view.loc (c : Thread nD τ))) (b g : Buf (Elt F) ((vB.slice (Rect.unit (s := S4096x512) (k0_off8 c 2#32 512#32) S512x512.size (k0_off8_inb c 2)) (fun _ => rfl)).view.loc (c : Thread nD τ)))
    (w : S512x512.Idx → F .f32) (h : g = vB.view.writes (Elt F) b [⟨Rect.unit (s := S4096x512) (k0_off8 c 2#32 512#32) S512x512.size (k0_off8_inb c 2), k0_pay24 (k0_pay23 (rB.view.readAt (Elt F) pR4.toLoadRect (recvC m c)))⟩]) (hw : w = (vP4 c).view.read (Elt F) g) :
    (Transfers.Flight countersEmb (c : Thread nD τ) sm (default : Bool) N
        iprop(((oP4 c).view.loc (c : Thread nD τ) ↦[(oP4 c).view.set]{fullShare} (oP4 c).view.writes (Elt F) o [⟨Rect.whole S512x512, w⟩])
          ∗ ((vB.slice (Rect.unit (s := S4096x512) (k0_off8 c 2#32 512#32) S512x512.size (k0_off8_inb c 2)) (fun _ => rfl)).view.loc (c : Thread nD τ) ↦[(vP4 c).view.set]{fullShare} g)) : sProp 𝕄)
      ⊢ Transfers.Flight countersEmb (c : Thread nD τ) sm (default : Bool) N iprop(((oP4 c).view.loc (c : Thread nD τ) ↦[(oP4 c).view.set]{fullShare} (outC m c)) ∗ ((vP4 c).view.loc (c : Thread nD τ) ↦[(vP4 c).view.set]{fullShare} (outC m c))) :=
  out_flight m c S512x512.size (k0_off8 c 2#32 512#32) _ (k0_off8_inb c 2) _ ((offv_4 c).trans (offo_4 c).symm) o b g _ w h (out_read4 m c _ _ (offv_4 c)) hw
/-- The rows of receive slot 5, on their way to HBM. -/
theorem out_flight5 (c : Dev nD) {sm : SemLoc sig} {N : ℕ} (o : Buf (Elt F) ((oP5 c).view.loc (c : Thread nD τ))) (b g : Buf (Elt F) ((vB.slice (Rect.unit (s := S4096x512) (k0_off8 c 3#32 0#32) S512x512.size (k0_off8_inb c 3)) (fun _ => rfl)).view.loc (c : Thread nD τ)))
    (w : S512x512.Idx → F .f32) (h : g = vB.view.writes (Elt F) b [⟨Rect.unit (s := S4096x512) (k0_off8 c 3#32 0#32) S512x512.size (k0_off8_inb c 3), k0_pay25 (rB.view.readAt (Elt F) pR5.toLoadRect (recvC m c))⟩]) (hw : w = (vP5 c).view.read (Elt F) g) :
    (Transfers.Flight countersEmb (c : Thread nD τ) sm (default : Bool) N
        iprop(((oP5 c).view.loc (c : Thread nD τ) ↦[(oP5 c).view.set]{fullShare} (oP5 c).view.writes (Elt F) o [⟨Rect.whole S512x512, w⟩])
          ∗ ((vB.slice (Rect.unit (s := S4096x512) (k0_off8 c 3#32 0#32) S512x512.size (k0_off8_inb c 3)) (fun _ => rfl)).view.loc (c : Thread nD τ) ↦[(vP5 c).view.set]{fullShare} g)) : sProp 𝕄)
      ⊢ Transfers.Flight countersEmb (c : Thread nD τ) sm (default : Bool) N iprop(((oP5 c).view.loc (c : Thread nD τ) ↦[(oP5 c).view.set]{fullShare} (outC m c)) ∗ ((vP5 c).view.loc (c : Thread nD τ) ↦[(vP5 c).view.set]{fullShare} (outC m c))) :=
  out_flight m c S512x512.size (k0_off8 c 3#32 0#32) _ (k0_off8_inb c 3) _ ((offv_5 c).trans (offo_5 c).symm) o b g _ w h (out_read5 m c _ _ (offv_5 c)) hw
/-- The rows of receive slot 6, on their way to HBM. -/
theorem out_flight6 (c : Dev nD) {sm : SemLoc sig} {N : ℕ} (o : Buf (Elt F) ((oP6 c).view.loc (c : Thread nD τ))) (b g : Buf (Elt F) ((vB.slice (Rect.unit (s := S4096x512) (k0_off8 c 3#32 512#32) S512x512.size (k0_off8_inb c 4)) (fun _ => rfl)).view.loc (c : Thread nD τ)))
    (w : S512x512.Idx → F .f32) (h : g = vB.view.writes (Elt F) b [⟨Rect.unit (s := S4096x512) (k0_off8 c 3#32 512#32) S512x512.size (k0_off8_inb c 4), k0_pay27 (k0_pay26 (rB.view.readAt (Elt F) pR6.toLoadRect (recvC m c)))⟩]) (hw : w = (vP6 c).view.read (Elt F) g) :
    (Transfers.Flight countersEmb (c : Thread nD τ) sm (default : Bool) N
        iprop(((oP6 c).view.loc (c : Thread nD τ) ↦[(oP6 c).view.set]{fullShare} (oP6 c).view.writes (Elt F) o [⟨Rect.whole S512x512, w⟩])
          ∗ ((vB.slice (Rect.unit (s := S4096x512) (k0_off8 c 3#32 512#32) S512x512.size (k0_off8_inb c 4)) (fun _ => rfl)).view.loc (c : Thread nD τ) ↦[(vP6 c).view.set]{fullShare} g)) : sProp 𝕄)
      ⊢ Transfers.Flight countersEmb (c : Thread nD τ) sm (default : Bool) N iprop(((oP6 c).view.loc (c : Thread nD τ) ↦[(oP6 c).view.set]{fullShare} (outC m c)) ∗ ((vP6 c).view.loc (c : Thread nD τ) ↦[(vP6 c).view.set]{fullShare} (outC m c))) :=
  out_flight m c S512x512.size (k0_off8 c 3#32 512#32) _ (k0_off8_inb c 4) _ ((offv_6 c).trans (offo_6 c).symm) o b g _ w h (out_read6 m c _ _ (offv_6 c)) hw
/-- The device's own rows, on their way to HBM. -/
theorem out_flight7 (c : Dev nD) {sm : SemLoc sig} {N : ℕ} (o : Buf (Elt F) ((oP7 c).view.loc (c : Thread nD τ))) (b g : Buf (Elt F) ((vB.slice (Rect.unit (s := S4096x512) (k0_off4 c) S1024x512.size (k0_off4_inb c)) (fun _ => rfl)).view.loc (c : Thread nD τ)))
    (w : S1024x512.Idx → F .f32) (h : g = vB.view.writes (Elt F) b [⟨Rect.unit (s := S4096x512) (k0_off4 c) S1024x512.size (k0_off4_inb c), ownV m c⟩]) (hw : w = (vP7 c).view.read (Elt F) g) :
    (Transfers.Flight countersEmb (c : Thread nD τ) sm (default : Bool) N
        iprop(((oP7 c).view.loc (c : Thread nD τ) ↦[(oP7 c).view.set]{fullShare} (oP7 c).view.writes (Elt F) o [⟨Rect.whole S1024x512, w⟩])
          ∗ ((vB.slice (Rect.unit (s := S4096x512) (k0_off4 c) S1024x512.size (k0_off4_inb c)) (fun _ => rfl)).view.loc (c : Thread nD τ) ↦[(vP7 c).view.set]{fullShare} g)) : sProp 𝕄)
      ⊢ Transfers.Flight countersEmb (c : Thread nD τ) sm (default : Bool) N iprop(((oP7 c).view.loc (c : Thread nD τ) ↦[(oP7 c).view.set]{fullShare} (outC m c)) ∗ ((vP7 c).view.loc (c : Thread nD τ) ↦[(vP7 c).view.set]{fullShare} (outC m c))) :=
  out_flight m c S1024x512.size (k0_off4 c) _ (k0_off4_inb c) _ ((off4 c).trans (off5 c).symm) o b g _ w h (own_read m c _ _ (off4 c)) hw

end Cert.KernelIdealProof

end
-- ==== Proof.PI.SegA.lean ====
/-
  The first stretch of the body.
-/
module

public import proofs.«01_k».proof.Proof.PI.Land

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-- The entry: the copies in are started, the barrier passed, and slot 0 stored and sent. -/
theorem segA (K : Dev nD × Fin 15 → ℕ) (c : Dev nD) (q0 q1 q2 : PosShare TreeShare)
    (x0 : Buf (Elt F) (xP0.view.loc (c : Thread nD τ))) (x1 : Buf (Elt F) (xP1.view.loc (c : Thread nD τ))) (x2 : Buf (Elt F) (xP2.view.loc (c : Thread nD τ))) (w0 : Buf (Elt F) (wP0.view.loc (c : Thread nD τ))) (w1 : Buf (Elt F) (wP1.view.loc (c : Thread nD τ))) (s0 : Buf (Elt F) (sP0.view.loc (c : Thread nD τ))) (W : Waits sig Bool)
    (Rest : sProp 𝕄) (Q : PUnit → sProp 𝕄)
    (hnext : ∀ (v2 v82 : BitVec 32) (W : Waits sig Bool), iprop(recs m K
      ∗ levAts L lv
      ∗ (xH.view.loc (c : Thread nD τ) ↦{q0} (m ((c : Thread nD τ).loc main_arg0)))
      ∗ (xH.view.loc (c : Thread nD τ) ↦[Finset.univ \ xH1.view.set]{q1} (m ((c : Thread nD τ).loc main_arg0)))
      ∗ (xH.view.loc (c : Thread nD τ) ↦[Finset.univ \ xH2.view.set]{q2} (m ((c : Thread nD τ).loc main_arg0)))
      ∗ Transfers.Flight countersEmb (c : Thread nD τ) (SemLoc.dma (sig := sig) ⟨1, by decide⟩) (default : Bool) 131072 iprop((xP1.view.loc (c : Thread nD τ) ↦[xP1.view.set]{fullShare} (xC m c)) ∗ (xH.view.loc (c : Thread nD τ) ↦[xH1.view.set]{q1} (m ((c : Thread nD τ).loc main_arg0))))
      ∗ Transfers.Flight countersEmb (c : Thread nD τ) (SemLoc.dma (sig := sig) ⟨2, by decide⟩) (default : Bool) 262144 iprop((xP2.view.loc (c : Thread nD τ) ↦[xP2.view.set]{fullShare} (xC m c)) ∗ (xH.view.loc (c : Thread nD τ) ↦[xH2.view.set]{q2} (m ((c : Thread nD τ).loc main_arg0))))
      ∗ (xP0.view.loc (c : Thread nD τ) ↦[xP0.view.set]{fullShare} (xC m c))
      ∗ (wP0.view.loc (c : Thread nD τ) ↦[wP0.view.set]{fullShare} (wC m c (up c 1)))
      ∗ Transfers.Flight countersEmb (c : Thread nD τ) (SemLoc.dma (sig := sig) ⟨4, by decide⟩) (default : Bool) 262144 iprop((wP1.view.loc (c : Thread nD τ) ↦[wP1.view.set]{fullShare} (wC m c (up c 2))) ∗ (wH.view.loc (c : Thread nD τ) ↦[(wH.slice (Rect.unit (s := S4096x2048) (k0_off2 c 1#32) S4096x512.size (k0_off2_inb c 0)) (fun _ => rfl)).view.set]{fullShare} (m ((c : Thread nD τ).loc main_arg1))))
      ∗ (wH.view.loc (c : Thread nD τ) ↦[Finset.univ \ (wH.slice (Rect.unit (s := S4096x2048) (k0_off2 c 1#32) S4096x512.size (k0_off2_inb c 0)) (fun _ => rfl)).view.set]{fullShare} (m ((c : Thread nD τ).loc main_arg1)))
      ∗ semVal ((c : Thread nD τ), SemLoc.dma (sig := sig) ⟨0, by decide⟩) 0
      ∗ semVal ((c : Thread nD τ), SemLoc.dma (sig := sig) ⟨3, by decide⟩) 0
      ∗ semVal (barCell c) 0
      ∗ cred (tallyAt (sendCell c 0) true (amt 0))
      ∗ rAny (F := F) (up c 1) 1
      ∗ rAny (F := F) (up c 1) 2
      ∗ rAny (F := F) (up c 2) 3
      ∗ rAny (F := F) (up c 2) 4
      ∗ rAny (F := F) (up c 3) 5
      ∗ rAny (F := F) (up c 3) 6
      ∗ owes (c : Thread nD τ) (owedC c 6) W
      ∗ Rest)
      ⊢ wp frame (wpE (defs₀ (F := F)) 𝒱₀ (c : Thread nD τ) none) Set.univ (tailB (F := F) c v2 v82) Q) :
    iprop(recs m K
      ∗ levAts L lv
      ∗ (xH.view.loc (c : Thread nD τ) ↦{q0} (m ((c : Thread nD τ).loc main_arg0)))
      ∗ (xH.view.loc (c : Thread nD τ) ↦{q1} (m ((c : Thread nD τ).loc main_arg0)))
      ∗ (xH.view.loc (c : Thread nD τ) ↦{q2} (m ((c : Thread nD τ).loc main_arg0)))
      ∗ (wH.view.loc (c : Thread nD τ) ↦{fullShare} (m ((c : Thread nD τ).loc main_arg1)))
      ∗ (xP0.view.loc (c : Thread nD τ) ↦[xP0.view.set]{fullShare} x0)
      ∗ (xP1.view.loc (c : Thread nD τ) ↦[xP1.view.set]{fullShare} x1)
      ∗ (xP2.view.loc (c : Thread nD τ) ↦[xP2.view.set]{fullShare} x2)
      ∗ (wP0.view.loc (c : Thread nD τ) ↦[wP0.view.set]{fullShare} w0)
      ∗ (wP1.view.loc (c : Thread nD τ) ↦[wP1.view.set]{fullShare} w1)
      ∗ (sP0.view.loc (c : Thread nD τ) ↦[sP0.view.set]{fullShare} s0)
      ∗ semVal ((c : Thread nD τ), SemLoc.dma (sig := sig) ⟨0, by decide⟩) 0
      ∗ semVal ((c : Thread nD τ), SemLoc.dma (sig := sig) ⟨1, by decide⟩) 0
      ∗ semVal ((c : Thread nD τ), SemLoc.dma (sig := sig) ⟨2, by decide⟩) 0
      ∗ semVal ((c : Thread nD τ), SemLoc.dma (sig := sig) ⟨3, by decide⟩) 0
      ∗ semVal ((c : Thread nD τ), SemLoc.dma (sig := sig) ⟨4, by decide⟩) 0
      ∗ dutyTok ER (barCell (up c 1)) 0 0
      ∗ dutyTok ER (barCell (up c 2)) 0 1
      ∗ dutyTok ER (barCell (up c 3)) 0 2
      ∗ rAny (F := F) c 0
      ∗ rAny (F := F) c 1
      ∗ rAny (F := F) c 2
      ∗ rAny (F := F) c 3
      ∗ rAny (F := F) c 4
      ∗ rAny (F := F) c 5
      ∗ rAny (F := F) c 6
      ∗ atPos ER (barCell c) 0 ∅ 0
      ∗ cred (tallyAt (barCell c) true 3)
      ∗ dutyTok ER (sendCell c 0) 0 0
      ∗ dutyTok ER (recvCell (up c 1) 0) 0 0
      ∗ owes (c : Thread nD τ) (owedC c 10) W
      ∗ Rest)
    ⊢ wp frame (wpE (defs₀ (F := F)) 𝒱₀ (c : Thread nD τ) none) Set.univ (tailA (F := F)) Q := by
  iintro ⟨#HR, #HL, Hx0, Hx1, Hx2, Hw, HX0, HX1, HX2, HW0, HW1, HS0, Hs0, Hs1, Hs2, Hs3, Hs4, Ht0, Ht1, Ht2, HA0, HA1, HA2, HA3, HA4, HA5, HA6, HaB, HcB, HtS0, HtR0, HO, HF⟩
  ihave #HM := (mayWaits (F := F) c 10) $$ HL
  unfold tailA
  rw [k0_part1_eq_skeleton, k0_part2_eq_skeleton, k0_part3_eq_skeleton, k0_part4_eq_skeleton, k0_part5_eq_skeleton]
  unfold k0_part1_skel k0_part2_skel k0_part3_skel k0_part4_skel k0_part5_skel
  sl_exec
  iclear HM
  ihave Hs3 := (flight_agree c wP0 _ (wC m c (up c 1)) (segA.sl.dma0 m c) (w_read m _ _ c (up c 1) _ _ (off1_1 c)) _) $$ Hs3
  ihave Hs0 := (flight_agree c xP0 _ (xC m c) (segA.sl.dma0_1 m c) rfl _) $$ Hs0
  ihave Hs1 := (flight_agree c xP1 _ (xC m c) (segA.sl.dma0_2 m c) rfl _) $$ Hs1
  ihave Hs2 := (flight_agree c xP2 _ (xC m c) (segA.sl.dma0_3 m c) rfl _) $$ Hs2
  iapply (signal_step m K c (up c 1) _ (dev1_eq c) 0 (owedC c 9) _) $$ [HO Ht0 HA5 HA6]
  · isplitr; · iexact HR
    isplitl [HO]; · iexact HO
    isplitl [Ht0]; · iexact Ht0
    unfold barPay
    rw [up_1_3]
    isplitl [HA5]; · iexact HA5
    iexact HA6
  iintro HO
  sl_exec
  iapply (signal_step m K c (up c 2) _ (dev2_eq c) 1 (owedC c 8) _) $$ [HO Ht1 HA3 HA4]
  · isplitr; · iexact HR
    isplitl [HO]; · iexact HO
    isplitl [Ht1]; · iexact Ht1
    unfold barPay
    rw [up_2_2]
    isplitl [HA3]; · iexact HA3
    iexact HA4
  iintro HO
  sl_exec
  iapply (signal_step m K c (up c 3) _ (dev3_eq c) 2 (owedC c 7) _) $$ [HO Ht2 HA0 HA1 HA2]
  · isplitr; · iexact HR
    isplitl [HO]; · iexact HO
    isplitl [Ht2]; · iexact Ht2
    unfold barPay
    rw [up_3_1]
    isplitl [HA0]; · iexact HA0
    isplitl [HA1]; · iexact HA1
    iexact HA2
  iintro HO
  sl_exec
  iapply (bar_step m K c _) $$ [HcB HO HaB]
  · isplitr; · iexact HR
    isplitr; · iexact HL
    isplitl [HcB]; · iexact HcB
    isplitl [HO]; · iexact HO
    iexact HaB
  unfold barPay
  iintro ⟨⟨%W', HO⟩, HzB, ⟨HA5, HA6⟩, ⟨HA3, HA4⟩, ⟨HA0, HA1, HA2⟩⟩
  ihave #HM := (mayWaits (F := F) c 7) $$ HL
  sl_exec
  iclear HM
  ihave Hs4 := (flight_agree c wP1 _ (wC m c (up c 2)) (segA.sl.dma0_4 m c) (w_read m _ _ c (up c 2) _ _ (off2_1 c)) _) $$ Hs4
  ihave HS0 := (slot_pay0 m c s0 (segA.sl.HS0_w1 m c s0) rfl) $$ HS0
  iapply (send_step0 m K c _ (dev4_eq c) _) $$ [HS0 HA0 HO HtS0 HtR0]
  · isplitr; · iexact HR
    isplitl [HS0]; · iexact HS0
    isplitl [HA0]; · iexact HA0
    isplitl [HO]; · iexact HO
    isplitl [HtS0]; · iexact HtS0
    iexact HtR0
  iintro ⟨HC0, HO⟩
  set_option sl_exec.stopBefore "tailB" in sl_exec
  iapply (hnext _ _ _)
  isplitr; · iexact HR
  isplitr; · iexact HL
  isplitl [Hx0]; · iexact Hx0
  isplitl [Hx1]; · iexact Hx1
  isplitl [Hx2]; · iexact Hx2
  isplitl [Hs1]; · iexact Hs1
  isplitl [Hs2]; · iexact Hs2
  isplitl [Hs0_dst]; · iexact Hs0_dst
  isplitl [Hs3_dst]; · iexact Hs3_dst
  isplitl [Hs4]; · iexact Hs4
  isplitl [Hw]; · iexact Hw
  isplitl [Hs0]; · iexact Hs0
  isplitl [Hs3]; · iexact Hs3
  isplitl [HzB]; · iexact HzB
  isplitl [HC0]; · iexact HC0
  isplitl [HA1]; · iexact HA1
  isplitl [HA2]; · iexact HA2
  isplitl [HA3]; · iexact HA3
  isplitl [HA4]; · iexact HA4
  isplitl [HA5]; · iexact HA5
  isplitl [HA6]; · iexact HA6
  isplitl [HO]; · iexact HO
  iexact HF

end Cert.KernelIdealProof

end
-- ==== Proof.PI.SegB.lean ====
/-
  The second stretch of the body.
-/
module

public import proofs.«01_k».proof.Proof.PI.Land

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-- Slots 1 and 2 are stored and sent, slot 3 stored. -/
theorem segB (K : Dev nD × Fin 15 → ℕ) (c : Dev nD) (q1 q2 : PosShare TreeShare) (v2 v82 : BitVec 32)
    (s1 : Buf (Elt F) (sP1.view.loc (c : Thread nD τ))) (s2 : Buf (Elt F) (sP2.view.loc (c : Thread nD τ))) (s3 : Buf (Elt F) (sP3.view.loc (c : Thread nD τ))) (W : Waits sig Bool)
    (Rest : sProp 𝕄) (Q : PUnit → sProp 𝕄)
    (hnext : ∀ (v240 : BitVec 32) (W : Waits sig Bool), iprop(recs m K
      ∗ levAts L lv
      ∗ (xH.view.loc (c : Thread nD τ) ↦{q1} (m ((c : Thread nD τ).loc main_arg0)))
      ∗ (xH.view.loc (c : Thread nD τ) ↦{q2} (m ((c : Thread nD τ).loc main_arg0)))
      ∗ semVal ((c : Thread nD τ), SemLoc.dma (sig := sig) ⟨1, by decide⟩) 0
      ∗ semVal ((c : Thread nD τ), SemLoc.dma (sig := sig) ⟨2, by decide⟩) 0
      ∗ semVal ((c : Thread nD τ), SemLoc.dma (sig := sig) ⟨4, by decide⟩) 0
      ∗ (xB.view.loc (c : Thread nD τ) ↦{fullShare} (xC m c))
      ∗ (wP1.view.loc (c : Thread nD τ) ↦[wP1.view.set]{fullShare} (wC m c (up c 2)))
      ∗ Transfers.Flight countersEmb (c : Thread nD τ) (SemLoc.dma (sig := sig) ⟨3, by decide⟩) (default : Bool) 262144 iprop((wP0.view.loc (c : Thread nD τ) ↦[wP0.view.set]{fullShare} (wC m c (up c 3))) ∗ (wH.view.loc (c : Thread nD τ) ↦[(wH.slice (Rect.unit (s := S4096x2048) (k0_off2 c 2#32) S4096x512.size (k0_off2_inb c 1)) (fun _ => rfl)).view.set]{fullShare} (m ((c : Thread nD τ).loc main_arg1))))
      ∗ (wH.view.loc (c : Thread nD τ) ↦[Finset.univ \ (wH.slice (Rect.unit (s := S4096x2048) (k0_off2 c 2#32) S4096x512.size (k0_off2_inb c 1)) (fun _ => rfl)).view.set]{fullShare} (m ((c : Thread nD τ).loc main_arg1)))
      ∗ sPay m c 3
      ∗ cred (tallyAt (sendCell c 1) true (amt 1))
      ∗ cred (tallyAt (sendCell c 2) true (amt 2))
      ∗ owes (c : Thread nD τ) (owedC c 4) W
      ∗ Rest)
      ⊢ wp frame (wpE (defs₀ (F := F)) 𝒱₀ (c : Thread nD τ) none) Set.univ (tailC (F := F) c v2 v82 v240) Q) :
    iprop(recs m K
      ∗ levAts L lv
      ∗ (xH.view.loc (c : Thread nD τ) ↦[Finset.univ \ xH1.view.set]{q1} (m ((c : Thread nD τ).loc main_arg0)))
      ∗ (xH.view.loc (c : Thread nD τ) ↦[Finset.univ \ xH2.view.set]{q2} (m ((c : Thread nD τ).loc main_arg0)))
      ∗ Transfers.Flight countersEmb (c : Thread nD τ) (SemLoc.dma (sig := sig) ⟨1, by decide⟩) (default : Bool) 131072 iprop((xP1.view.loc (c : Thread nD τ) ↦[xP1.view.set]{fullShare} (xC m c)) ∗ (xH.view.loc (c : Thread nD τ) ↦[xH1.view.set]{q1} (m ((c : Thread nD τ).loc main_arg0))))
      ∗ Transfers.Flight countersEmb (c : Thread nD τ) (SemLoc.dma (sig := sig) ⟨2, by decide⟩) (default : Bool) 262144 iprop((xP2.view.loc (c : Thread nD τ) ↦[xP2.view.set]{fullShare} (xC m c)) ∗ (xH.view.loc (c : Thread nD τ) ↦[xH2.view.set]{q2} (m ((c : Thread nD τ).loc main_arg0))))
      ∗ (xP0.view.loc (c : Thread nD τ) ↦[xP0.view.set]{fullShare} (xC m c))
      ∗ (wP0.view.loc (c : Thread nD τ) ↦[wP0.view.set]{fullShare} (wC m c (up c 1)))
      ∗ Transfers.Flight countersEmb (c : Thread nD τ) (SemLoc.dma (sig := sig) ⟨4, by decide⟩) (default : Bool) 262144 iprop((wP1.view.loc (c : Thread nD τ) ↦[wP1.view.set]{fullShare} (wC m c (up c 2))) ∗ (wH.view.loc (c : Thread nD τ) ↦[(wH.slice (Rect.unit (s := S4096x2048) (k0_off2 c 1#32) S4096x512.size (k0_off2_inb c 0)) (fun _ => rfl)).view.set]{fullShare} (m ((c : Thread nD τ).loc main_arg1))))
      ∗ (wH.view.loc (c : Thread nD τ) ↦[Finset.univ \ (wH.slice (Rect.unit (s := S4096x2048) (k0_off2 c 1#32) S4096x512.size (k0_off2_inb c 0)) (fun _ => rfl)).view.set]{fullShare} (m ((c : Thread nD τ).loc main_arg1)))
      ∗ semVal ((c : Thread nD τ), SemLoc.dma (sig := sig) ⟨3, by decide⟩) 0
      ∗ (sP1.view.loc (c : Thread nD τ) ↦[sP1.view.set]{fullShare} s1)
      ∗ (sP2.view.loc (c : Thread nD τ) ↦[sP2.view.set]{fullShare} s2)
      ∗ (sP3.view.loc (c : Thread nD τ) ↦[sP3.view.set]{fullShare} s3)
      ∗ rAny (F := F) (up c 1) 1
      ∗ rAny (F := F) (up c 1) 2
      ∗ dutyTok ER (sendCell c 1) 0 0
      ∗ dutyTok ER (recvCell (up c 1) 1) 0 0
      ∗ dutyTok ER (sendCell c 2) 0 0
      ∗ dutyTok ER (recvCell (up c 1) 2) 0 0
      ∗ owes (c : Thread nD τ) (owedC c 6) W
      ∗ Rest)
    ⊢ wp frame (wpE (defs₀ (F := F)) 𝒱₀ (c : Thread nD τ) none) Set.univ (tailB (F := F) c v2 v82) Q := by
  iintro ⟨#HR, #HL, Hx1, Hx2, Hs1, Hs2, HX0, HW0, Hs4, Hw, Hs3, HS1, HS2, HS3, HA1, HA2, HtS1, HtR1, HtS2, HtR2, HO, HF⟩
  ihave #HM := (mayWaits (F := F) c 6) $$ HL
  unfold tailB
  rw [k0_part6_eq_skeleton, k0_part7_eq_skeleton, k0_part8_eq_skeleton, k0_part9_eq_skeleton, k0_part10_eq_skeleton]
  unfold k0_part6_skel k0_part7_skel k0_part8_skel k0_part9_skel k0_part10_skel
  sl_exec
  iclear HM
  ihave HS1 := (slot_pay1 m c s1 (segB.sl.HS1_w1 m c s1) rfl) $$ HS1
  iapply (send_step1 m K c _ (dev5_eq c) _) $$ [HS1 HA1 HO HtS1 HtR1]
  · isplitr; · iexact HR
    isplitl [HS1]; · iexact HS1
    isplitl [HA1]; · iexact HA1
    isplitl [HO]; · iexact HO
    isplitl [HtS1]; · iexact HtS1
    iexact HtR1
  iintro ⟨HC1, HO⟩
  ihave #HM := (mayWaits (F := F) c 5) $$ HL
  sl_exec
  iclear HM
  ihave HS2 := (slot_pay2 m c s2 (segB.sl.HS2_w1 m c s2) rfl) $$ HS2
  iapply (send_step2 m K c _ (dev6_eq c) _) $$ [HS2 HA2 HO HtS2 HtR2]
  · isplitr; · iexact HR
    isplitl [HS2]; · iexact HS2
    isplitl [HA2]; · iexact HA2
    isplitl [HO]; · iexact HO
    isplitl [HtS2]; · iexact HtS2
    iexact HtR2
  iintro ⟨HC2, HO⟩
  ihave #HM := (mayWaits (F := F) c 4) $$ HL
  ihave HXX := (x_join c (xC m c)) $$ [HX0 Hs1_dst Hs2_dst]
  · isplitl [HX0]; · iexact HX0
    isplitl [Hs1_dst]; · iexact Hs1_dst
    iexact Hs2_dst
  set_option sl_exec.stopBefore "tailC" in sl_exec
  iclear HM
  ihave HS3 := (slot_pay3 m c s3 (segB.sl.HS3_w1 m c s3) rfl) $$ HS3
  ihave Hs3 := (flight_agree c wP0 _ (wC m c (up c 3)) (segB.sl.dma0 m c) (w_read m _ _ c (up c 3) _ _ (off2_2 c)) _) $$ Hs3
  iapply (hnext _ _)
  isplitr; · iexact HR
  isplitr; · iexact HL
  isplitl [Hx1]; · iexact Hx1
  isplitl [Hx2]; · iexact Hx2
  isplitl [Hs1]; · iexact Hs1
  isplitl [Hs2]; · iexact Hs2
  isplitl [Hs4]; · iexact Hs4
  isplitl [HXX]; · iexact HXX
  isplitl [Hs4_dst]; · iexact Hs4_dst
  isplitl [Hs3]; · iexact Hs3
  isplitl [Hw]; · iexact Hw
  isplitl [HS3]; · iexact HS3
  isplitl [HC1]; · iexact HC1
  isplitl [HC2]; · iexact HC2
  isplitl [HO]; · iexact HO
  iexact HF

end Cert.KernelIdealProof

end
-- ==== Proof.PI.SegC.lean ====
/-
  The third stretch of the body.
-/
module

public import proofs.«01_k».proof.Proof.PI.Land

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-- Slots 3, 4 and 5 are sent, slots 4, 5 and 6 stored. -/
theorem segC (K : Dev nD × Fin 15 → ℕ) (c : Dev nD) (v2 v82 v240 : BitVec 32)
    (s4 : Buf (Elt F) (sP4.view.loc (c : Thread nD τ))) (s5 : Buf (Elt F) (sP5.view.loc (c : Thread nD τ))) (s6 : Buf (Elt F) (sP6.view.loc (c : Thread nD τ))) (W : Waits sig Bool)
    (Rest : sProp 𝕄) (Q : PUnit → sProp 𝕄)
    (hnext : ∀ (v349 : BitVec 32) (W : Waits sig Bool), iprop(recs m K
      ∗ levAts L lv
      ∗ (xB.view.loc (c : Thread nD τ) ↦{fullShare} (xC m c))
      ∗ (wP0.view.loc (c : Thread nD τ) ↦[wP0.view.set]{fullShare} (wC m c (up c 3)))
      ∗ Transfers.Flight countersEmb (c : Thread nD τ) (SemLoc.dma (sig := sig) ⟨4, by decide⟩) (default : Bool) 262144 iprop((wP1.view.loc (c : Thread nD τ) ↦[wP1.view.set]{fullShare} (wC m c c)) ∗ (wH.view.loc (c : Thread nD τ) ↦[(wH.slice (Rect.unit (s := S4096x2048) (k0_off2 c 3#32) S4096x512.size (k0_off2_inb c 2)) (fun _ => rfl)).view.set]{fullShare} (m ((c : Thread nD τ).loc main_arg1))))
      ∗ (wH.view.loc (c : Thread nD τ) ↦[Finset.univ \ (wH.slice (Rect.unit (s := S4096x2048) (k0_off2 c 3#32) S4096x512.size (k0_off2_inb c 2)) (fun _ => rfl)).view.set]{fullShare} (m ((c : Thread nD τ).loc main_arg1)))
      ∗ semVal ((c : Thread nD τ), SemLoc.dma (sig := sig) ⟨3, by decide⟩) 0
      ∗ sPay m c 6
      ∗ cred (tallyAt (sendCell c 3) true (amt 3))
      ∗ cred (tallyAt (sendCell c 4) true (amt 4))
      ∗ cred (tallyAt (sendCell c 5) true (amt 5))
      ∗ owes (c : Thread nD τ) (owedC c 1) W
      ∗ Rest)
      ⊢ wp frame (wpE (defs₀ (F := F)) 𝒱₀ (c : Thread nD τ) none) Set.univ (tailD (F := F) c v2 v82 v240 v349) Q) :
    iprop(recs m K
      ∗ levAts L lv
      ∗ (xB.view.loc (c : Thread nD τ) ↦{fullShare} (xC m c))
      ∗ (wP1.view.loc (c : Thread nD τ) ↦[wP1.view.set]{fullShare} (wC m c (up c 2)))
      ∗ Transfers.Flight countersEmb (c : Thread nD τ) (SemLoc.dma (sig := sig) ⟨3, by decide⟩) (default : Bool) 262144 iprop((wP0.view.loc (c : Thread nD τ) ↦[wP0.view.set]{fullShare} (wC m c (up c 3))) ∗ (wH.view.loc (c : Thread nD τ) ↦[(wH.slice (Rect.unit (s := S4096x2048) (k0_off2 c 2#32) S4096x512.size (k0_off2_inb c 1)) (fun _ => rfl)).view.set]{fullShare} (m ((c : Thread nD τ).loc main_arg1))))
      ∗ (wH.view.loc (c : Thread nD τ) ↦[Finset.univ \ (wH.slice (Rect.unit (s := S4096x2048) (k0_off2 c 2#32) S4096x512.size (k0_off2_inb c 1)) (fun _ => rfl)).view.set]{fullShare} (m ((c : Thread nD τ).loc main_arg1)))
      ∗ semVal ((c : Thread nD τ), SemLoc.dma (sig := sig) ⟨4, by decide⟩) 0
      ∗ sPay m c 3
      ∗ (sP4.view.loc (c : Thread nD τ) ↦[sP4.view.set]{fullShare} s4)
      ∗ (sP5.view.loc (c : Thread nD τ) ↦[sP5.view.set]{fullShare} s5)
      ∗ (sP6.view.loc (c : Thread nD τ) ↦[sP6.view.set]{fullShare} s6)
      ∗ rAny (F := F) (up c 2) 3
      ∗ rAny (F := F) (up c 2) 4
      ∗ rAny (F := F) (up c 3) 5
      ∗ dutyTok ER (sendCell c 3) 0 0
      ∗ dutyTok ER (recvCell (up c 2) 3) 0 0
      ∗ dutyTok ER (sendCell c 4) 0 0
      ∗ dutyTok ER (recvCell (up c 2) 4) 0 0
      ∗ dutyTok ER (sendCell c 5) 0 0
      ∗ dutyTok ER (recvCell (up c 3) 5) 0 0
      ∗ owes (c : Thread nD τ) (owedC c 4) W
      ∗ Rest)
    ⊢ wp frame (wpE (defs₀ (F := F)) 𝒱₀ (c : Thread nD τ) none) Set.univ (tailC (F := F) c v2 v82 v240) Q := by
  iintro ⟨#HR, #HL, HXX, HW1, Hs3, Hw, Hs4, HS3, HS4, HS5, HS6, HA3, HA4, HA5, HtS3, HtR3, HtS4, HtR4, HtS5, HtR5, HO, HF⟩
  unfold tailC
  rw [k0_part11_eq_skeleton, k0_part12_eq_skeleton, k0_part13_eq_skeleton, k0_part14_eq_skeleton, k0_part15_eq_skeleton]
  unfold k0_part11_skel k0_part12_skel k0_part13_skel k0_part14_skel k0_part15_skel
  sl_exec
  iapply (send_step3 m K c _ (dev7_eq c) _) $$ [HS3 HA3 HO HtS3 HtR3]
  · isplitr; · iexact HR
    isplitl [HS3]; · iexact HS3
    isplitl [HA3]; · iexact HA3
    isplitl [HO]; · iexact HO
    isplitl [HtS3]; · iexact HtS3
    iexact HtR3
  iintro ⟨HC3, HO⟩
  ihave #HM := (mayWaits (F := F) c 3) $$ HL
  sl_exec
  iclear HM
  ihave HS4 := (slot_pay4 m c s4 (segC.sl.HS4_w1 m c s4) rfl) $$ HS4
  iapply (send_step4 m K c _ (dev8_eq c) _) $$ [HS4 HA4 HO HtS4 HtR4]
  · isplitr; · iexact HR
    isplitl [HS4]; · iexact HS4
    isplitl [HA4]; · iexact HA4
    isplitl [HO]; · iexact HO
    isplitl [HtS4]; · iexact HtS4
    iexact HtR4
  iintro ⟨HC4, HO⟩
  ihave #HM := (mayWaits (F := F) c 2) $$ HL
  sl_exec
  iclear HM
  ihave HS5 := (slot_pay5 m c s5 (segC.sl.HS5_w1 m c s5) rfl) $$ HS5
  iapply (send_step5 m K c _ (dev9_eq c) _) $$ [HS5 HA5 HO HtS5 HtR5]
  · isplitr; · iexact HR
    isplitl [HS5]; · iexact HS5
    isplitl [HA5]; · iexact HA5
    isplitl [HO]; · iexact HO
    isplitl [HtS5]; · iexact HtS5
    iexact HtR5
  iintro ⟨HC5, HO⟩
  ihave #HM := (mayWaits (F := F) c 1) $$ HL
  set_option sl_exec.stopBefore "tailD" in sl_exec
  iclear HM
  ihave HS6 := (slot_pay6 m c s6 (segC.sl.HS6_w1 m c s6) rfl) $$ HS6
  ihave Hs4 := (flight_agree c wP1 _ (wC m c c) (segC.sl.dma0 m c) (w_read m _ _ c c _ _ (off2_3 c)) _) $$ Hs4
  iapply (hnext _ _)
  isplitr; · iexact HR
  isplitr; · iexact HL
  isplitl [HXX]; · iexact HXX
  isplitl [Hs3_dst]; · iexact Hs3_dst
  isplitl [Hs4]; · iexact Hs4
  isplitl [Hw]; · iexact Hw
  isplitl [Hs3]; · iexact Hs3
  isplitl [HS6]; · iexact HS6
  isplitl [HC3]; · iexact HC3
  isplitl [HC4]; · iexact HC4
  isplitl [HC5]; · iexact HC5
  isplitl [HO]; · iexact HO
  iexact HF

end Cert.KernelIdealProof

end
-- ==== Proof.PI.SegD.lean ====
/-
  The fourth stretch of the body.
-/
module

public import proofs.«01_k».proof.Proof.PI.Land

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-- Slot 6 is sent; the device's own rows and those of receive slot 0 are written and their copies out started. -/
theorem segD (K : Dev nD × Fin 15 → ℕ) (c : Dev nD) (v2 v82 v240 v349 : BitVec 32)
    (b0 : Buf (Elt F) (vB.view.loc (c : Thread nD τ))) (b7 : Buf (Elt F) (vB.view.loc (c : Thread nD τ))) (o0 : Buf (Elt F) ((oP0 c).view.loc (c : Thread nD τ))) (o7 : Buf (Elt F) ((oP7 c).view.loc (c : Thread nD τ))) (W : Waits sig Bool)
    (Rest : sProp 𝕄) (Q : PUnit → sProp 𝕄)
    (hnext : ∀ (v498 : BitVec 32) (W : Waits sig Bool), iprop(recs m K
      ∗ levAts L lv
      ∗ (xB.view.loc (c : Thread nD τ) ↦{fullShare} (xC m c))
      ∗ (wP1.view.loc (c : Thread nD τ) ↦[wP1.view.set]{fullShare} (wC m c c))
      ∗ (wH.view.loc (c : Thread nD τ) ↦{fullShare} (m ((c : Thread nD τ).loc main_arg1)))
      ∗ semVal ((c : Thread nD τ), SemLoc.dma (sig := sig) ⟨4, by decide⟩) 0
      ∗ cred (tallyAt (sendCell c 6) true (amt 6))
      ∗ Transfers.Flight countersEmb (c : Thread nD τ) (SemLoc.dma (sig := sig) ⟨12, by decide⟩) (default : Bool) (oP7 c).view.dmaCredit iprop(((oP7 c).view.loc (c : Thread nD τ) ↦[(oP7 c).view.set]{fullShare} (outC m c)) ∗ ((vP7 c).view.loc (c : Thread nD τ) ↦[(vP7 c).view.set]{fullShare} (outC m c)))
      ∗ Transfers.Flight countersEmb (c : Thread nD τ) (SemLoc.dma (sig := sig) ⟨5, by decide⟩) (default : Bool) (oP0 c).view.dmaCredit iprop(((oP0 c).view.loc (c : Thread nD τ) ↦[(oP0 c).view.set]{fullShare} (outC m c)) ∗ ((vP0 c).view.loc (c : Thread nD τ) ↦[(vP0 c).view.set]{fullShare} (outC m c)))
      ∗ semVal (recvCell c 0) 0
      ∗ rPay m c 0
      ∗ owes (c : Thread nD τ) 0 W
      ∗ Rest)
      ⊢ wp frame (wpE (defs₀ (F := F)) 𝒱₀ (c : Thread nD τ) none) Set.univ (tailE (F := F) c v2 v82 v240 v349 v498) Q) :
    iprop(recs m K
      ∗ levAts L lv
      ∗ (xB.view.loc (c : Thread nD τ) ↦{fullShare} (xC m c))
      ∗ Transfers.Flight countersEmb (c : Thread nD τ) (SemLoc.dma (sig := sig) ⟨4, by decide⟩) (default : Bool) 262144 iprop((wP1.view.loc (c : Thread nD τ) ↦[wP1.view.set]{fullShare} (wC m c c)) ∗ (wH.view.loc (c : Thread nD τ) ↦[(wH.slice (Rect.unit (s := S4096x2048) (k0_off2 c 3#32) S4096x512.size (k0_off2_inb c 2)) (fun _ => rfl)).view.set]{fullShare} (m ((c : Thread nD τ).loc main_arg1))))
      ∗ (wH.view.loc (c : Thread nD τ) ↦[Finset.univ \ (wH.slice (Rect.unit (s := S4096x2048) (k0_off2 c 3#32) S4096x512.size (k0_off2_inb c 2)) (fun _ => rfl)).view.set]{fullShare} (m ((c : Thread nD τ).loc main_arg1)))
      ∗ sPay m c 6
      ∗ rAny (F := F) (up c 3) 6
      ∗ dutyTok ER (sendCell c 6) 0 0
      ∗ dutyTok ER (recvCell (up c 3) 6) 0 0
      ∗ ((vB.slice (Rect.unit (s := S4096x512) (k0_off4 c) S1024x512.size (k0_off4_inb c)) (fun _ => rfl)).view.loc (c : Thread nD τ) ↦[(vB.slice (Rect.unit (s := S4096x512) (k0_off4 c) S1024x512.size (k0_off4_inb c)) (fun _ => rfl)).view.set]{fullShare} b7)
      ∗ ((vB.slice (Rect.unit (s := S4096x512) (k0_off6 c 0#32) S256x512.size (k0_off6_inb c 0)) (fun _ => rfl)).view.loc (c : Thread nD τ) ↦[(vB.slice (Rect.unit (s := S4096x512) (k0_off6 c 0#32) S256x512.size (k0_off6_inb c 0)) (fun _ => rfl)).view.set]{fullShare} b0)
      ∗ ((oP7 c).view.loc (c : Thread nD τ) ↦[(oP7 c).view.set]{fullShare} o7)
      ∗ ((oP0 c).view.loc (c : Thread nD τ) ↦[(oP0 c).view.set]{fullShare} o0)
      ∗ semVal ((c : Thread nD τ), SemLoc.dma (sig := sig) ⟨12, by decide⟩) 0
      ∗ semVal ((c : Thread nD τ), SemLoc.dma (sig := sig) ⟨5, by decide⟩) 0
      ∗ atPos ER (recvCell c 0) 0 ∅ 0
      ∗ cred (tallyAt (recvCell c 0) true (amt 0))
      ∗ owes (c : Thread nD τ) (owedC c 1) W
      ∗ Rest)
    ⊢ wp frame (wpE (defs₀ (F := F)) 𝒱₀ (c : Thread nD τ) none) Set.univ (tailD (F := F) c v2 v82 v240 v349) Q := by
  iintro ⟨#HR, #HL, HXX, Hs4, Hw, HS6, HA6, HtS6, HtR6, HV7, HV0, HB7, HB0, Hs12, Hs5, Ha0, Hc0, HO, HF⟩
  unfold tailD
  rw [k0_part16_eq_skeleton, k0_part17_eq_skeleton, k0_part18_eq_skeleton]
  unfold k0_part16_skel k0_part17_skel k0_part18_skel
  sl_exec
  iapply (send_step6 m K c _ (dev10_eq c) _) $$ [HS6 HA6 HO HtS6 HtR6]
  · isplitr; · iexact HR
    isplitl [HS6]; · iexact HS6
    isplitl [HA6]; · iexact HA6
    isplitl [HO]; · iexact HO
    isplitl [HtS6]; · iexact HtS6
    iexact HtR6
  iintro ⟨HC6, HO⟩
  ihave #HM := (mayWaits0 (F := F) c) $$ HL
  sl_exec
  ihave Hs12 := (out_flight7 m c _ b7 (segD.sl.HV7_w1 m c b7) (segD.sl.dma10 m c b7) rfl rfl) $$ Hs12
  iapply (xfer_step m K c _ (rIx 0) ⟨20, by decide⟩ rfl (amt 0) (rPay m c 0) rfl (expect_recv m c 0) (rest_recv m c 0)) $$ [Hc0 HO Ha0]
  · isplitr; · iexact HR
    isplitl [Hc0]; · iexact Hc0
    isplitl [HO]; · iexact HO
    iexact Ha0
  iintro ⟨⟨%W', HO⟩, Hz0, HP0⟩
  unfold rPay
  set_option sl_exec.stopBefore "tailE" in sl_exec
  ihave Hs5 := (out_flight0 m c _ b0 (segD.sl.HV0_w1 m c b0) (segD.sl.dma3 m c b0) rfl rfl) $$ Hs5
  iapply (hnext _ _)
  unfold rPay
  isplitr; · iexact HR
  isplitr; · iexact HL
  isplitl [HXX]; · iexact HXX
  isplitl [Hs4_dst]; · iexact Hs4_dst
  isplitl [Hw]; · iexact Hw
  isplitl [Hs4]; · iexact Hs4
  isplitl [HC6]; · iexact HC6
  isplitl [Hs12]; · iexact Hs12
  isplitl [Hs5]; · iexact Hs5
  isplitl [Hz0]; · iexact Hz0
  isplitl [HP0]; · iexact HP0
  isplitl [HO]; · iexact HO
  iexact HF

end Cert.KernelIdealProof

end
-- ==== Proof.PI.SegE.lean ====
/-
  The fifth stretch of the body.
-/
module

public import proofs.«01_k».proof.Proof.PI.Land

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-- The rows of receive slots 1 to 6 are written and copied out; four of the copies out are waited for. -/
theorem segE (K : Dev nD × Fin 15 → ℕ) (c : Dev nD) (v2 v82 v240 v349 v498 : BitVec 32)
    (b1 : Buf (Elt F) (vB.view.loc (c : Thread nD τ))) (b2 : Buf (Elt F) (vB.view.loc (c : Thread nD τ))) (b3 : Buf (Elt F) (vB.view.loc (c : Thread nD τ))) (b4 : Buf (Elt F) (vB.view.loc (c : Thread nD τ))) (b5 : Buf (Elt F) (vB.view.loc (c : Thread nD τ))) (b6 : Buf (Elt F) (vB.view.loc (c : Thread nD τ))) (o1 : Buf (Elt F) ((oP1 c).view.loc (c : Thread nD τ))) (o2 : Buf (Elt F) ((oP2 c).view.loc (c : Thread nD τ))) (o3 : Buf (Elt F) ((oP3 c).view.loc (c : Thread nD τ))) (o4 : Buf (Elt F) ((oP4 c).view.loc (c : Thread nD τ))) (o5 : Buf (Elt F) ((oP5 c).view.loc (c : Thread nD τ))) (o6 : Buf (Elt F) ((oP6 c).view.loc (c : Thread nD τ))) (W : Waits sig Bool)
    (Rest : sProp 𝕄) (Q : PUnit → sProp 𝕄)
    (hnext : ∀ (W : Waits sig Bool), iprop(recs m K
      ∗ levAts L lv
      ∗ owes (c : Thread nD τ) 0 W
      ∗ semVal ((c : Thread nD τ), SemLoc.dma (sig := sig) ⟨12, by decide⟩) 0
      ∗ ((oP7 c).view.loc (c : Thread nD τ) ↦[(oP7 c).view.set]{fullShare} (outC m c))
      ∗ ((vP7 c).view.loc (c : Thread nD τ) ↦[(vP7 c).view.set]{fullShare} (outC m c))
      ∗ semVal ((c : Thread nD τ), SemLoc.dma (sig := sig) ⟨5, by decide⟩) 0
      ∗ ((oP0 c).view.loc (c : Thread nD τ) ↦[(oP0 c).view.set]{fullShare} (outC m c))
      ∗ ((vP0 c).view.loc (c : Thread nD τ) ↦[(vP0 c).view.set]{fullShare} (outC m c))
      ∗ semVal ((c : Thread nD τ), SemLoc.dma (sig := sig) ⟨6, by decide⟩) 0
      ∗ ((oP1 c).view.loc (c : Thread nD τ) ↦[(oP1 c).view.set]{fullShare} (outC m c))
      ∗ ((vP1 c).view.loc (c : Thread nD τ) ↦[(vP1 c).view.set]{fullShare} (outC m c))
      ∗ semVal ((c : Thread nD τ), SemLoc.dma (sig := sig) ⟨7, by decide⟩) 0
      ∗ ((oP2 c).view.loc (c : Thread nD τ) ↦[(oP2 c).view.set]{fullShare} (outC m c))
      ∗ ((vP2 c).view.loc (c : Thread nD τ) ↦[(vP2 c).view.set]{fullShare} (outC m c))
      ∗ Transfers.Flight countersEmb (c : Thread nD τ) (SemLoc.dma (sig := sig) ⟨8, by decide⟩) (default : Bool) (oP3 c).view.dmaCredit iprop(((oP3 c).view.loc (c : Thread nD τ) ↦[(oP3 c).view.set]{fullShare} (outC m c)) ∗ ((vP3 c).view.loc (c : Thread nD τ) ↦[(vP3 c).view.set]{fullShare} (outC m c)))
      ∗ Transfers.Flight countersEmb (c : Thread nD τ) (SemLoc.dma (sig := sig) ⟨9, by decide⟩) (default : Bool) (oP4 c).view.dmaCredit iprop(((oP4 c).view.loc (c : Thread nD τ) ↦[(oP4 c).view.set]{fullShare} (outC m c)) ∗ ((vP4 c).view.loc (c : Thread nD τ) ↦[(vP4 c).view.set]{fullShare} (outC m c)))
      ∗ Transfers.Flight countersEmb (c : Thread nD τ) (SemLoc.dma (sig := sig) ⟨10, by decide⟩) (default : Bool) (oP5 c).view.dmaCredit iprop(((oP5 c).view.loc (c : Thread nD τ) ↦[(oP5 c).view.set]{fullShare} (outC m c)) ∗ ((vP5 c).view.loc (c : Thread nD τ) ↦[(vP5 c).view.set]{fullShare} (outC m c)))
      ∗ Transfers.Flight countersEmb (c : Thread nD τ) (SemLoc.dma (sig := sig) ⟨11, by decide⟩) (default : Bool) (oP6 c).view.dmaCredit iprop(((oP6 c).view.loc (c : Thread nD τ) ↦[(oP6 c).view.set]{fullShare} (outC m c)) ∗ ((vP6 c).view.loc (c : Thread nD τ) ↦[(vP6 c).view.set]{fullShare} (outC m c)))
      ∗ semVal (recvCell c 1) 0
      ∗ rPay m c 1
      ∗ semVal (recvCell c 2) 0
      ∗ rPay m c 2
      ∗ semVal (recvCell c 3) 0
      ∗ rPay m c 3
      ∗ semVal (recvCell c 4) 0
      ∗ rPay m c 4
      ∗ semVal (recvCell c 5) 0
      ∗ rPay m c 5
      ∗ semVal (recvCell c 6) 0
      ∗ rPay m c 6
      ∗ Rest)
      ⊢ wp frame (wpE (defs₀ (F := F)) 𝒱₀ (c : Thread nD τ) none) Set.univ (tailF (F := F) c) Q) :
    iprop(recs m K
      ∗ levAts L lv
      ∗ owes (c : Thread nD τ) 0 W
      ∗ ((vB.slice (Rect.unit (s := S4096x512) (k0_off6 c 256#32) S256x512.size (k0_off6_inb c 1)) (fun _ => rfl)).view.loc (c : Thread nD τ) ↦[(vB.slice (Rect.unit (s := S4096x512) (k0_off6 c 256#32) S256x512.size (k0_off6_inb c 1)) (fun _ => rfl)).view.set]{fullShare} b1)
      ∗ ((oP1 c).view.loc (c : Thread nD τ) ↦[(oP1 c).view.set]{fullShare} o1)
      ∗ semVal ((c : Thread nD τ), SemLoc.dma (sig := sig) ⟨6, by decide⟩) 0
      ∗ atPos ER (recvCell c 1) 0 ∅ 0
      ∗ cred (tallyAt (recvCell c 1) true (amt 1))
      ∗ ((vB.slice (Rect.unit (s := S4096x512) (k0_off8 c 1#32 512#32) S512x512.size (k0_off8_inb c 0)) (fun _ => rfl)).view.loc (c : Thread nD τ) ↦[(vB.slice (Rect.unit (s := S4096x512) (k0_off8 c 1#32 512#32) S512x512.size (k0_off8_inb c 0)) (fun _ => rfl)).view.set]{fullShare} b2)
      ∗ ((oP2 c).view.loc (c : Thread nD τ) ↦[(oP2 c).view.set]{fullShare} o2)
      ∗ semVal ((c : Thread nD τ), SemLoc.dma (sig := sig) ⟨7, by decide⟩) 0
      ∗ atPos ER (recvCell c 2) 0 ∅ 0
      ∗ cred (tallyAt (recvCell c 2) true (amt 2))
      ∗ ((vB.slice (Rect.unit (s := S4096x512) (k0_off8 c 2#32 0#32) S512x512.size (k0_off8_inb c 1)) (fun _ => rfl)).view.loc (c : Thread nD τ) ↦[(vB.slice (Rect.unit (s := S4096x512) (k0_off8 c 2#32 0#32) S512x512.size (k0_off8_inb c 1)) (fun _ => rfl)).view.set]{fullShare} b3)
      ∗ ((oP3 c).view.loc (c : Thread nD τ) ↦[(oP3 c).view.set]{fullShare} o3)
      ∗ semVal ((c : Thread nD τ), SemLoc.dma (sig := sig) ⟨8, by decide⟩) 0
      ∗ atPos ER (recvCell c 3) 0 ∅ 0
      ∗ cred (tallyAt (recvCell c 3) true (amt 3))
      ∗ ((vB.slice (Rect.unit (s := S4096x512) (k0_off8 c 2#32 512#32) S512x512.size (k0_off8_inb c 2)) (fun _ => rfl)).view.loc (c : Thread nD τ) ↦[(vB.slice (Rect.unit (s := S4096x512) (k0_off8 c 2#32 512#32) S512x512.size (k0_off8_inb c 2)) (fun _ => rfl)).view.set]{fullShare} b4)
      ∗ ((oP4 c).view.loc (c : Thread nD τ) ↦[(oP4 c).view.set]{fullShare} o4)
      ∗ semVal ((c : Thread nD τ), SemLoc.dma (sig := sig) ⟨9, by decide⟩) 0
      ∗ atPos ER (recvCell c 4) 0 ∅ 0
      ∗ cred (tallyAt (recvCell c 4) true (amt 4))
      ∗ ((vB.slice (Rect.unit (s := S4096x512) (k0_off8 c 3#32 0#32) S512x512.size (k0_off8_inb c 3)) (fun _ => rfl)).view.loc (c : Thread nD τ) ↦[(vB.slice (Rect.unit (s := S4096x512) (k0_off8 c 3#32 0#32) S512x512.size (k0_off8_inb c 3)) (fun _ => rfl)).view.set]{fullShare} b5)
      ∗ ((oP5 c).view.loc (c : Thread nD τ) ↦[(oP5 c).view.set]{fullShare} o5)
      ∗ semVal ((c : Thread nD τ), SemLoc.dma (sig := sig) ⟨10, by decide⟩) 0
      ∗ atPos ER (recvCell c 5) 0 ∅ 0
      ∗ cred (tallyAt (recvCell c 5) true (amt 5))
      ∗ ((vB.slice (Rect.unit (s := S4096x512) (k0_off8 c 3#32 512#32) S512x512.size (k0_off8_inb c 4)) (fun _ => rfl)).view.loc (c : Thread nD τ) ↦[(vB.slice (Rect.unit (s := S4096x512) (k0_off8 c 3#32 512#32) S512x512.size (k0_off8_inb c 4)) (fun _ => rfl)).view.set]{fullShare} b6)
      ∗ ((oP6 c).view.loc (c : Thread nD τ) ↦[(oP6 c).view.set]{fullShare} o6)
      ∗ semVal ((c : Thread nD τ), SemLoc.dma (sig := sig) ⟨11, by decide⟩) 0
      ∗ atPos ER (recvCell c 6) 0 ∅ 0
      ∗ cred (tallyAt (recvCell c 6) true (amt 6))
      ∗ Transfers.Flight countersEmb (c : Thread nD τ) (SemLoc.dma (sig := sig) ⟨12, by decide⟩) (default : Bool) (oP7 c).view.dmaCredit iprop(((oP7 c).view.loc (c : Thread nD τ) ↦[(oP7 c).view.set]{fullShare} (outC m c)) ∗ ((vP7 c).view.loc (c : Thread nD τ) ↦[(vP7 c).view.set]{fullShare} (outC m c)))
      ∗ Transfers.Flight countersEmb (c : Thread nD τ) (SemLoc.dma (sig := sig) ⟨5, by decide⟩) (default : Bool) (oP0 c).view.dmaCredit iprop(((oP0 c).view.loc (c : Thread nD τ) ↦[(oP0 c).view.set]{fullShare} (outC m c)) ∗ ((vP0 c).view.loc (c : Thread nD τ) ↦[(vP0 c).view.set]{fullShare} (outC m c)))
      ∗ Rest)
    ⊢ wp frame (wpE (defs₀ (F := F)) 𝒱₀ (c : Thread nD τ) none) Set.univ (tailE (F := F) c v2 v82 v240 v349 v498) Q := by
  iintro ⟨#HR, #HL, HO, HV1, HB1, Hs6, Ha1, Hc1, HV2, HB2, Hs7, Ha2, Hc2, HV3, HB3, Hs8, Ha3, Hc3, HV4, HB4, Hs9, Ha4, Hc4, HV5, HB5, Hs10, Ha5, Hc5, HV6, HB6, Hs11, Ha6, Hc6, Hs12, Hs5, HF⟩
  unfold tailE
  rw [k0_part19_eq_skeleton, k0_part20_eq_skeleton, k0_part21_eq_skeleton, k0_part22_eq_skeleton, k0_part23_eq_skeleton, k0_part24_eq_skeleton]
  unfold k0_part19_skel k0_part20_skel k0_part21_skel k0_part22_skel k0_part23_skel k0_part24_skel
  sl_exec
  iapply (xfer_step m K c _ (rIx 1) ⟨21, by decide⟩ rfl (amt 1) (rPay m c 1) rfl (expect_recv m c 1) (rest_recv m c 1)) $$ [Hc1 HO Ha1]
  · isplitr; · iexact HR
    isplitl [Hc1]; · iexact Hc1
    isplitl [HO]; · iexact HO
    iexact Ha1
  iintro ⟨⟨%W', HO⟩, Hz1, HP1⟩
  ihave #HM := (mayWaits0 (F := F) c) $$ HL
  unfold rPay
  sl_exec
  ihave Hs6 := (out_flight1 m c _ b1 (segE.sl.HV1_w1 m c b1) (segE.sl.dma3 m c b1) rfl rfl) $$ Hs6
  iapply (xfer_step m K c _ (rIx 2) ⟨22, by decide⟩ rfl (amt 2) (rPay m c 2) rfl (expect_recv m c 2) (rest_recv m c 2)) $$ [Hc2 HO Ha2]
  · isplitr; · iexact HR
    isplitl [Hc2]; · iexact Hc2
    isplitl [HO]; · iexact HO
    iexact Ha2
  iintro ⟨⟨%W', HO⟩, Hz2, HP2⟩
  unfold rPay
  sl_exec
  ihave Hs7 := (out_flight2 m c _ b2 (segE.sl.HV2_w1 m c b2) (segE.sl.dma3_1 m c b2) rfl rfl) $$ Hs7
  iapply (xfer_step m K c _ (rIx 3) ⟨23, by decide⟩ rfl (amt 3) (rPay m c 3) rfl (expect_recv m c 3) (rest_recv m c 3)) $$ [Hc3 HO Ha3]
  · isplitr; · iexact HR
    isplitl [Hc3]; · iexact Hc3
    isplitl [HO]; · iexact HO
    iexact Ha3
  iintro ⟨⟨%W', HO⟩, Hz3, HP3⟩
  unfold rPay
  sl_exec
  ihave Hs8 := (out_flight3 m c _ b3 (segE.sl.HV3_w1 m c b3) (segE.sl.dma3_2 m c b3) rfl rfl) $$ Hs8
  iapply (xfer_step m K c _ (rIx 4) ⟨24, by decide⟩ rfl (amt 4) (rPay m c 4) rfl (expect_recv m c 4) (rest_recv m c 4)) $$ [Hc4 HO Ha4]
  · isplitr; · iexact HR
    isplitl [Hc4]; · iexact Hc4
    isplitl [HO]; · iexact HO
    iexact Ha4
  iintro ⟨⟨%W', HO⟩, Hz4, HP4⟩
  unfold rPay
  sl_exec
  ihave Hs9 := (out_flight4 m c _ b4 (segE.sl.HV4_w1 m c b4) (segE.sl.dma3_3 m c b4) rfl rfl) $$ Hs9
  iapply (xfer_step m K c _ (rIx 5) ⟨25, by decide⟩ rfl (amt 5) (rPay m c 5) rfl (expect_recv m c 5) (rest_recv m c 5)) $$ [Hc5 HO Ha5]
  · isplitr; · iexact HR
    isplitl [Hc5]; · iexact Hc5
    isplitl [HO]; · iexact HO
    iexact Ha5
  iintro ⟨⟨%W', HO⟩, Hz5, HP5⟩
  unfold rPay
  sl_exec
  ihave Hs10 := (out_flight5 m c _ b5 (segE.sl.HV5_w1 m c b5) (segE.sl.dma3_4 m c b5) rfl rfl) $$ Hs10
  iapply (xfer_step m K c _ (rIx 6) ⟨26, by decide⟩ rfl (amt 6) (rPay m c 6) rfl (expect_recv m c 6) (rest_recv m c 6)) $$ [Hc6 HO Ha6]
  · isplitr; · iexact HR
    isplitl [Hc6]; · iexact Hc6
    isplitl [HO]; · iexact HO
    iexact Ha6
  iintro ⟨⟨%W', HO⟩, Hz6, HP6⟩
  unfold rPay
  set_option sl_exec.stopBefore "tailF" in sl_exec
  ihave Hs11 := (out_flight6 m c _ b6 (segE.sl.HV6_w1 m c b6) (segE.sl.dma3_5 m c b6) rfl rfl) $$ Hs11
  iapply (hnext _)
  unfold rPay
  isplitr; · iexact HR
  isplitr; · iexact HL
  isplitl [HO]; · iexact HO
  isplitl [Hs12]; · iexact Hs12
  isplitl [Hs12_dst]; · iexact Hs12_dst
  isplitl [Hs12_src]; · iexact Hs12_src
  isplitl [Hs5]; · iexact Hs5
  isplitl [Hs5_dst]; · iexact Hs5_dst
  isplitl [Hs5_src]; · iexact Hs5_src
  isplitl [Hs6]; · iexact Hs6
  isplitl [Hs6_dst]; · iexact Hs6_dst
  isplitl [Hs6_src]; · iexact Hs6_src
  isplitl [Hs7]; · iexact Hs7
  isplitl [Hs7_dst]; · iexact Hs7_dst
  isplitl [Hs7_src]; · iexact Hs7_src
  isplitl [Hs8]; · iexact Hs8
  isplitl [Hs9]; · iexact Hs9
  isplitl [Hs10]; · iexact Hs10
  isplitl [Hs11]; · iexact Hs11
  isplitl [Hz1]; · iexact Hz1
  isplitl [HP1]; · iexact HP1
  isplitl [Hz2]; · iexact Hz2
  isplitl [HP2]; · iexact HP2
  isplitl [Hz3]; · iexact Hz3
  isplitl [HP3]; · iexact HP3
  isplitl [Hz4]; · iexact Hz4
  isplitl [HP4]; · iexact HP4
  isplitl [Hz5]; · iexact Hz5
  isplitl [HP5]; · iexact HP5
  isplitl [Hz6]; · iexact Hz6
  isplitl [HP6]; · iexact HP6
  iexact HF

end Cert.KernelIdealProof

end
-- ==== Proof.PI.SegF.lean ====
/-
  The sixth stretch of the body.
-/
module

public import proofs.«01_k».proof.Proof.PI.Land

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-- The last waits. -/
theorem segF (K : Dev nD × Fin 15 → ℕ) (c : Dev nD)  (W : Waits sig Bool)
    (Rest : sProp 𝕄) (Q : PUnit → sProp 𝕄)
    (hnext : ∀ (W : Waits sig Bool), iprop(owes (c : Thread nD τ) 0 W
      ∗ semVal ((c : Thread nD τ), SemLoc.dma (sig := sig) ⟨8, by decide⟩) 0
      ∗ ((oP3 c).view.loc (c : Thread nD τ) ↦[(oP3 c).view.set]{fullShare} (outC m c))
      ∗ ((vP3 c).view.loc (c : Thread nD τ) ↦[(vP3 c).view.set]{fullShare} (outC m c))
      ∗ semVal ((c : Thread nD τ), SemLoc.dma (sig := sig) ⟨9, by decide⟩) 0
      ∗ ((oP4 c).view.loc (c : Thread nD τ) ↦[(oP4 c).view.set]{fullShare} (outC m c))
      ∗ ((vP4 c).view.loc (c : Thread nD τ) ↦[(vP4 c).view.set]{fullShare} (outC m c))
      ∗ semVal ((c : Thread nD τ), SemLoc.dma (sig := sig) ⟨10, by decide⟩) 0
      ∗ ((oP5 c).view.loc (c : Thread nD τ) ↦[(oP5 c).view.set]{fullShare} (outC m c))
      ∗ ((vP5 c).view.loc (c : Thread nD τ) ↦[(vP5 c).view.set]{fullShare} (outC m c))
      ∗ semVal ((c : Thread nD τ), SemLoc.dma (sig := sig) ⟨11, by decide⟩) 0
      ∗ ((oP6 c).view.loc (c : Thread nD τ) ↦[(oP6 c).view.set]{fullShare} (outC m c))
      ∗ ((vP6 c).view.loc (c : Thread nD τ) ↦[(vP6 c).view.set]{fullShare} (outC m c))
      ∗ semVal (sendCell c 0) 0
      ∗ sPay m c 0
      ∗ semVal (sendCell c 1) 0
      ∗ sPay m c 1
      ∗ semVal (sendCell c 2) 0
      ∗ sPay m c 2
      ∗ semVal (sendCell c 3) 0
      ∗ sPay m c 3
      ∗ semVal (sendCell c 4) 0
      ∗ sPay m c 4
      ∗ semVal (sendCell c 5) 0
      ∗ sPay m c 5
      ∗ semVal (sendCell c 6) 0
      ∗ sPay m c 6
      ∗ Rest)
      ⊢ wp frame (wpE (defs₀ (F := F)) 𝒱₀ (c : Thread nD τ) none) Set.univ (Prog.ret ⟨⟩) Q) :
    iprop(recs m K
      ∗ levAts L lv
      ∗ owes (c : Thread nD τ) 0 W
      ∗ Transfers.Flight countersEmb (c : Thread nD τ) (SemLoc.dma (sig := sig) ⟨8, by decide⟩) (default : Bool) (oP3 c).view.dmaCredit iprop(((oP3 c).view.loc (c : Thread nD τ) ↦[(oP3 c).view.set]{fullShare} (outC m c)) ∗ ((vP3 c).view.loc (c : Thread nD τ) ↦[(vP3 c).view.set]{fullShare} (outC m c)))
      ∗ Transfers.Flight countersEmb (c : Thread nD τ) (SemLoc.dma (sig := sig) ⟨9, by decide⟩) (default : Bool) (oP4 c).view.dmaCredit iprop(((oP4 c).view.loc (c : Thread nD τ) ↦[(oP4 c).view.set]{fullShare} (outC m c)) ∗ ((vP4 c).view.loc (c : Thread nD τ) ↦[(vP4 c).view.set]{fullShare} (outC m c)))
      ∗ Transfers.Flight countersEmb (c : Thread nD τ) (SemLoc.dma (sig := sig) ⟨10, by decide⟩) (default : Bool) (oP5 c).view.dmaCredit iprop(((oP5 c).view.loc (c : Thread nD τ) ↦[(oP5 c).view.set]{fullShare} (outC m c)) ∗ ((vP5 c).view.loc (c : Thread nD τ) ↦[(vP5 c).view.set]{fullShare} (outC m c)))
      ∗ Transfers.Flight countersEmb (c : Thread nD τ) (SemLoc.dma (sig := sig) ⟨11, by decide⟩) (default : Bool) (oP6 c).view.dmaCredit iprop(((oP6 c).view.loc (c : Thread nD τ) ↦[(oP6 c).view.set]{fullShare} (outC m c)) ∗ ((vP6 c).view.loc (c : Thread nD τ) ↦[(vP6 c).view.set]{fullShare} (outC m c)))
      ∗ atPos ER (sendCell c 0) 0 ∅ 0
      ∗ cred (tallyAt (sendCell c 0) true (amt 0))
      ∗ atPos ER (sendCell c 1) 0 ∅ 0
      ∗ cred (tallyAt (sendCell c 1) true (amt 1))
      ∗ atPos ER (sendCell c 2) 0 ∅ 0
      ∗ cred (tallyAt (sendCell c 2) true (amt 2))
      ∗ atPos ER (sendCell c 3) 0 ∅ 0
      ∗ cred (tallyAt (sendCell c 3) true (amt 3))
      ∗ atPos ER (sendCell c 4) 0 ∅ 0
      ∗ cred (tallyAt (sendCell c 4) true (amt 4))
      ∗ atPos ER (sendCell c 5) 0 ∅ 0
      ∗ cred (tallyAt (sendCell c 5) true (amt 5))
      ∗ atPos ER (sendCell c 6) 0 ∅ 0
      ∗ cred (tallyAt (sendCell c 6) true (amt 6))
      ∗ Rest)
    ⊢ wp frame (wpE (defs₀ (F := F)) 𝒱₀ (c : Thread nD τ) none) Set.univ (tailF (F := F) c) Q := by
  iintro ⟨#HR, #HL, HO, Hs8, Hs9, Hs10, Hs11, Hb0, HC0, Hb1, HC1, Hb2, HC2, Hb3, HC3, Hb4, HC4, Hb5, HC5, Hb6, HC6, HF⟩
  ihave #HM := (mayWaits0 (F := F) c) $$ HL
  unfold tailF
  rw [k0_part25_eq_skeleton, k0_part26_eq_skeleton]
  unfold k0_part25_skel k0_part26_skel
  sl_exec
  iapply (xfer_step m K c _ (sIx 0) ⟨13, by decide⟩ rfl (amt 0) (sPay m c 0) rfl (expect_send m c 0) (rest_send m c 0)) $$ [HC0 HO Hb0]
  · isplitr; · iexact HR
    isplitl [HC0]; · iexact HC0
    isplitl [HO]; · iexact HO
    iexact Hb0
  iintro ⟨⟨%W', HO⟩, Hy0, HS0⟩
  sl_exec
  iapply (xfer_step m K c _ (sIx 1) ⟨14, by decide⟩ rfl (amt 1) (sPay m c 1) rfl (expect_send m c 1) (rest_send m c 1)) $$ [HC1 HO Hb1]
  · isplitr; · iexact HR
    isplitl [HC1]; · iexact HC1
    isplitl [HO]; · iexact HO
    iexact Hb1
  iintro ⟨⟨%W', HO⟩, Hy1, HS1⟩
  sl_exec
  iapply (xfer_step m K c _ (sIx 2) ⟨15, by decide⟩ rfl (amt 2) (sPay m c 2) rfl (expect_send m c 2) (rest_send m c 2)) $$ [HC2 HO Hb2]
  · isplitr; · iexact HR
    isplitl [HC2]; · iexact HC2
    isplitl [HO]; · iexact HO
    iexact Hb2
  iintro ⟨⟨%W', HO⟩, Hy2, HS2⟩
  sl_exec
  iapply (xfer_step m K c _ (sIx 3) ⟨16, by decide⟩ rfl (amt 3) (sPay m c 3) rfl (expect_send m c 3) (rest_send m c 3)) $$ [HC3 HO Hb3]
  · isplitr; · iexact HR
    isplitl [HC3]; · iexact HC3
    isplitl [HO]; · iexact HO
    iexact Hb3
  iintro ⟨⟨%W', HO⟩, Hy3, HS3⟩
  sl_exec
  iapply (xfer_step m K c _ (sIx 4) ⟨17, by decide⟩ rfl (amt 4) (sPay m c 4) rfl (expect_send m c 4) (rest_send m c 4)) $$ [HC4 HO Hb4]
  · isplitr; · iexact HR
    isplitl [HC4]; · iexact HC4
    isplitl [HO]; · iexact HO
    iexact Hb4
  iintro ⟨⟨%W', HO⟩, Hy4, HS4⟩
  sl_exec
  iapply (xfer_step m K c _ (sIx 5) ⟨18, by decide⟩ rfl (amt 5) (sPay m c 5) rfl (expect_send m c 5) (rest_send m c 5)) $$ [HC5 HO Hb5]
  · isplitr; · iexact HR
    isplitl [HC5]; · iexact HC5
    isplitl [HO]; · iexact HO
    iexact Hb5
  iintro ⟨⟨%W', HO⟩, Hy5, HS5⟩
  sl_exec
  iapply (xfer_step m K c _ (sIx 6) ⟨19, by decide⟩ rfl (amt 6) (sPay m c 6) rfl (expect_send m c 6) (rest_send m c 6)) $$ [HC6 HO Hb6]
  · isplitr; · iexact HR
    isplitl [HC6]; · iexact HC6
    isplitl [HO]; · iexact HO
    iexact Hb6
  iintro ⟨⟨%W', HO⟩, Hy6, HS6⟩
  sl_exec
  iapply (hnext _)
  isplitl [HO]; · iexact HO
  isplitl [Hs8]; · iexact Hs8
  isplitl [Hs8_dst]; · iexact Hs8_dst
  isplitl [Hs8_src]; · iexact Hs8_src
  isplitl [Hs9]; · iexact Hs9
  isplitl [Hs9_dst]; · iexact Hs9_dst
  isplitl [Hs9_src]; · iexact Hs9_src
  isplitl [Hs10]; · iexact Hs10
  isplitl [Hs10_dst]; · iexact Hs10_dst
  isplitl [Hs10_src]; · iexact Hs10_src
  isplitl [Hs11]; · iexact Hs11
  isplitl [Hs11_dst]; · iexact Hs11_dst
  isplitl [Hs11_src]; · iexact Hs11_src
  isplitl [Hy0]; · iexact Hy0
  isplitl [HS0]; · iexact HS0
  isplitl [Hy1]; · iexact Hy1
  isplitl [HS1]; · iexact HS1
  isplitl [Hy2]; · iexact Hy2
  isplitl [HS2]; · iexact HS2
  isplitl [Hy3]; · iexact Hy3
  isplitl [HS3]; · iexact HS3
  isplitl [Hy4]; · iexact Hy4
  isplitl [HS4]; · iexact HS4
  isplitl [Hy5]; · iexact Hy5
  isplitl [HS5]; · iexact HS5
  isplitl [Hy6]; · iexact Hy6
  isplitl [HS6]; · iexact HS6
  iexact HF

end Cert.KernelIdealProof

end
-- ==== Proof.PI.Body.lean ====
/-
  The whole body: the stretches joined, from what a device holds when it enters to what it leaves.
-/
module

public import proofs.«01_k».proof.Proof.PI.SegA
public import proofs.«01_k».proof.Proof.PI.SegB
public import proofs.«01_k».proof.Proof.PI.SegC
public import proofs.«01_k».proof.Proof.PI.SegD
public import proofs.«01_k».proof.Proof.PI.SegE
public import proofs.«01_k».proof.Proof.PI.SegF

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-! ## What a device's body takes and leaves -/

/-- Device `c`'s positions in its fifteen cells. -/
def posC (c : Dev nD) : sProp 𝕄 :=
  iprop(atPos ER (barCell c) 0 ∅ 0
      ∗ atPos ER (sendCell c 0) 0 ∅ 0
      ∗ atPos ER (sendCell c 1) 0 ∅ 0
      ∗ atPos ER (sendCell c 2) 0 ∅ 0
      ∗ atPos ER (sendCell c 3) 0 ∅ 0
      ∗ atPos ER (sendCell c 4) 0 ∅ 0
      ∗ atPos ER (sendCell c 5) 0 ∅ 0
      ∗ atPos ER (sendCell c 6) 0 ∅ 0
      ∗ atPos ER (recvCell c 0) 0 ∅ 0
      ∗ atPos ER (recvCell c 1) 0 ∅ 0
      ∗ atPos ER (recvCell c 2) 0 ∅ 0
      ∗ atPos ER (recvCell c 3) 0 ∅ 0
      ∗ atPos ER (recvCell c 4) 0 ∅ 0
      ∗ atPos ER (recvCell c 5) 0 ∅ 0
      ∗ atPos ER (recvCell c 6) 0 ∅ 0)
/-- The tokens of the duties device `c` pays. -/
def payC (c : Dev nD) : sProp 𝕄 :=
  iprop(dutyTok ER (barCell (up c 1)) 0 0
      ∗ dutyTok ER (barCell (up c 2)) 0 1
      ∗ dutyTok ER (barCell (up c 3)) 0 2
      ∗ dutyTok ER (sendCell c 0) 0 0
      ∗ dutyTok ER (sendCell c 1) 0 0
      ∗ dutyTok ER (sendCell c 2) 0 0
      ∗ dutyTok ER (sendCell c 3) 0 0
      ∗ dutyTok ER (sendCell c 4) 0 0
      ∗ dutyTok ER (sendCell c 5) 0 0
      ∗ dutyTok ER (sendCell c 6) 0 0
      ∗ dutyTok ER (recvCell (up c 1) 0) 0 0
      ∗ dutyTok ER (recvCell (up c 1) 1) 0 0
      ∗ dutyTok ER (recvCell (up c 1) 2) 0 0
      ∗ dutyTok ER (recvCell (up c 2) 3) 0 0
      ∗ dutyTok ER (recvCell (up c 2) 4) 0 0
      ∗ dutyTok ER (recvCell (up c 3) 5) 0 0
      ∗ dutyTok ER (recvCell (up c 3) 6) 0 0)
/-- The credit device `c` waits with. -/
def credC (c : Dev nD) : sProp 𝕄 :=
  iprop(cred (tallyAt (barCell c) true 3)
      ∗ cred (tallyAt (recvCell c 0) true (amt 0))
      ∗ cred (tallyAt (recvCell c 1) true (amt 1))
      ∗ cred (tallyAt (recvCell c 2) true (amt 2))
      ∗ cred (tallyAt (recvCell c 3) true (amt 3))
      ∗ cred (tallyAt (recvCell c 4) true (amt 4))
      ∗ cred (tallyAt (recvCell c 5) true (amt 5))
      ∗ cred (tallyAt (recvCell c 6) true (amt 6)))
/-- The three arrays, as the launch finds them. -/
def hbmIn (c : Dev nD) : sProp 𝕄 :=
  iprop((xH.view.loc (c : Thread nD τ) ↦{fullShare} (m ((c : Thread nD τ).loc main_arg0)))
      ∗ (wH.view.loc (c : Thread nD τ) ↦{fullShare} (m ((c : Thread nD τ).loc main_arg1)))
      ∗ (oH.view.loc (c : Thread nD τ) ↦{fullShare} (m ((c : Thread nD τ).loc main_v1))))
/-- The three arrays, the result computed. -/
def hbmOut (c : Dev nD) : sProp 𝕄 :=
  iprop((xH.view.loc (c : Thread nD τ) ↦{fullShare} (m ((c : Thread nD τ).loc main_arg0)))
      ∗ (wH.view.loc (c : Thread nD τ) ↦{fullShare} (m ((c : Thread nD τ).loc main_arg1)))
      ∗ (oH.view.loc (c : Thread nD τ) ↦{fullShare} (outC m c)))
/-- The five buffers in VMEM, holding anything. -/
def scrC (c : Dev nD) : sProp 𝕄 :=
  iprop((∃ f : Buf (Elt F) ((c : Thread nD τ).loc cc0_scratch0), ((c : Thread nD τ).loc cc0_scratch0) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f))
/-- The semaphores of the local copies, at zero. -/
def locC (c : Dev nD) : sProp 𝕄 :=
  iprop(semVal ((c : Thread nD τ), SemLoc.dma (sig := sig) ⟨0, by decide⟩) 0
      ∗ semVal ((c : Thread nD τ), SemLoc.dma (sig := sig) ⟨1, by decide⟩) 0
      ∗ semVal ((c : Thread nD τ), SemLoc.dma (sig := sig) ⟨2, by decide⟩) 0
      ∗ semVal ((c : Thread nD τ), SemLoc.dma (sig := sig) ⟨3, by decide⟩) 0
      ∗ semVal ((c : Thread nD τ), SemLoc.dma (sig := sig) ⟨4, by decide⟩) 0
      ∗ semVal ((c : Thread nD τ), SemLoc.dma (sig := sig) ⟨5, by decide⟩) 0
      ∗ semVal ((c : Thread nD τ), SemLoc.dma (sig := sig) ⟨6, by decide⟩) 0
      ∗ semVal ((c : Thread nD τ), SemLoc.dma (sig := sig) ⟨7, by decide⟩) 0
      ∗ semVal ((c : Thread nD τ), SemLoc.dma (sig := sig) ⟨8, by decide⟩) 0
      ∗ semVal ((c : Thread nD τ), SemLoc.dma (sig := sig) ⟨9, by decide⟩) 0
      ∗ semVal ((c : Thread nD τ), SemLoc.dma (sig := sig) ⟨10, by decide⟩) 0
      ∗ semVal ((c : Thread nD τ), SemLoc.dma (sig := sig) ⟨11, by decide⟩) 0
      ∗ semVal ((c : Thread nD τ), SemLoc.dma (sig := sig) ⟨12, by decide⟩) 0)
/-- The semaphores of the exchange's copies, at zero. -/
def excC (c : Dev nD) : sProp 𝕄 :=
  iprop(semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (recvCell c 0) 0
      ∗ semVal (recvCell c 1) 0
      ∗ semVal (recvCell c 2) 0
      ∗ semVal (recvCell c 3) 0
      ∗ semVal (recvCell c 4) 0
      ∗ semVal (recvCell c 5) 0
      ∗ semVal (recvCell c 6) 0)

/-! ## The body, segment after segment -/

/-- The pieces put together, and the end. -/
theorem body_end (c : Dev nD) (Q : PUnit → sProp 𝕄)
    (hQ : ∀ W : Waits sig Bool, iprop(hbmOut m c ∗ scrC c ∗ locC c ∗ semVal (barCell c) 0 ∗ excC c ∗ owes (c : Thread nD τ) 0 W) ⊢ Q ⟨⟩)
    (W : Waits sig Bool) :
    iprop((xH.view.loc (c : Thread nD τ) ↦{fullShare.left} (m ((c : Thread nD τ).loc main_arg0)))
      ∗ semVal ((c : Thread nD τ), SemLoc.dma (sig := sig) ⟨0, by decide⟩) 0
      ∗ semVal (barCell c) 0
      ∗ (xH.view.loc (c : Thread nD τ) ↦{fullShare.right.left} (m ((c : Thread nD τ).loc main_arg0)))
      ∗ (xH.view.loc (c : Thread nD τ) ↦{fullShare.right.right} (m ((c : Thread nD τ).loc main_arg0)))
      ∗ semVal ((c : Thread nD τ), SemLoc.dma (sig := sig) ⟨1, by decide⟩) 0
      ∗ semVal ((c : Thread nD τ), SemLoc.dma (sig := sig) ⟨2, by decide⟩) 0
      ∗ (wP0.view.loc (c : Thread nD τ) ↦[wP0.view.set]{fullShare} (wC m c (up c 3)))
      ∗ semVal ((c : Thread nD τ), SemLoc.dma (sig := sig) ⟨3, by decide⟩) 0
      ∗ (xB.view.loc (c : Thread nD τ) ↦{fullShare} (xC m c))
      ∗ (wP1.view.loc (c : Thread nD τ) ↦[wP1.view.set]{fullShare} (wC m c c))
      ∗ (wH.view.loc (c : Thread nD τ) ↦{fullShare} (m ((c : Thread nD τ).loc main_arg1)))
      ∗ semVal ((c : Thread nD τ), SemLoc.dma (sig := sig) ⟨4, by decide⟩) 0
      ∗ semVal (recvCell c 0) 0
      ∗ rPay m c 0
      ∗ semVal ((c : Thread nD τ), SemLoc.dma (sig := sig) ⟨12, by decide⟩) 0
      ∗ ((oP7 c).view.loc (c : Thread nD τ) ↦[(oP7 c).view.set]{fullShare} (outC m c))
      ∗ ((vP7 c).view.loc (c : Thread nD τ) ↦[(vP7 c).view.set]{fullShare} (outC m c))
      ∗ semVal ((c : Thread nD τ), SemLoc.dma (sig := sig) ⟨5, by decide⟩) 0
      ∗ ((oP0 c).view.loc (c : Thread nD τ) ↦[(oP0 c).view.set]{fullShare} (outC m c))
      ∗ ((vP0 c).view.loc (c : Thread nD τ) ↦[(vP0 c).view.set]{fullShare} (outC m c))
      ∗ semVal ((c : Thread nD τ), SemLoc.dma (sig := sig) ⟨6, by decide⟩) 0
      ∗ ((oP1 c).view.loc (c : Thread nD τ) ↦[(oP1 c).view.set]{fullShare} (outC m c))
      ∗ ((vP1 c).view.loc (c : Thread nD τ) ↦[(vP1 c).view.set]{fullShare} (outC m c))
      ∗ semVal ((c : Thread nD τ), SemLoc.dma (sig := sig) ⟨7, by decide⟩) 0
      ∗ ((oP2 c).view.loc (c : Thread nD τ) ↦[(oP2 c).view.set]{fullShare} (outC m c))
      ∗ ((vP2 c).view.loc (c : Thread nD τ) ↦[(vP2 c).view.set]{fullShare} (outC m c))
      ∗ semVal (recvCell c 1) 0
      ∗ rPay m c 1
      ∗ semVal (recvCell c 2) 0
      ∗ rPay m c 2
      ∗ semVal (recvCell c 3) 0
      ∗ rPay m c 3
      ∗ semVal (recvCell c 4) 0
      ∗ rPay m c 4
      ∗ semVal (recvCell c 5) 0
      ∗ rPay m c 5
      ∗ semVal (recvCell c 6) 0
      ∗ rPay m c 6
      ∗ owes (c : Thread nD τ) 0 W
      ∗ semVal ((c : Thread nD τ), SemLoc.dma (sig := sig) ⟨8, by decide⟩) 0
      ∗ ((oP3 c).view.loc (c : Thread nD τ) ↦[(oP3 c).view.set]{fullShare} (outC m c))
      ∗ ((vP3 c).view.loc (c : Thread nD τ) ↦[(vP3 c).view.set]{fullShare} (outC m c))
      ∗ semVal ((c : Thread nD τ), SemLoc.dma (sig := sig) ⟨9, by decide⟩) 0
      ∗ ((oP4 c).view.loc (c : Thread nD τ) ↦[(oP4 c).view.set]{fullShare} (outC m c))
      ∗ ((vP4 c).view.loc (c : Thread nD τ) ↦[(vP4 c).view.set]{fullShare} (outC m c))
      ∗ semVal ((c : Thread nD τ), SemLoc.dma (sig := sig) ⟨10, by decide⟩) 0
      ∗ ((oP5 c).view.loc (c : Thread nD τ) ↦[(oP5 c).view.set]{fullShare} (outC m c))
      ∗ ((vP5 c).view.loc (c : Thread nD τ) ↦[(vP5 c).view.set]{fullShare} (outC m c))
      ∗ semVal ((c : Thread nD τ), SemLoc.dma (sig := sig) ⟨11, by decide⟩) 0
      ∗ ((oP6 c).view.loc (c : Thread nD τ) ↦[(oP6 c).view.set]{fullShare} (outC m c))
      ∗ ((vP6 c).view.loc (c : Thread nD τ) ↦[(vP6 c).view.set]{fullShare} (outC m c))
      ∗ semVal (sendCell c 0) 0
      ∗ sPay m c 0
      ∗ semVal (sendCell c 1) 0
      ∗ sPay m c 1
      ∗ semVal (sendCell c 2) 0
      ∗ sPay m c 2
      ∗ semVal (sendCell c 3) 0
      ∗ sPay m c 3
      ∗ semVal (sendCell c 4) 0
      ∗ sPay m c 4
      ∗ semVal (sendCell c 5) 0
      ∗ sPay m c 5
      ∗ semVal (sendCell c 6) 0
      ∗ sPay m c 6)
    ⊢ wp frame (wpE (defs₀ (F := F)) 𝒱₀ (c : Thread nD τ) none) Set.univ (Prog.ret PUnit.unit) Q := by
  iintro ⟨Hx0, Hs0, HzB, Hx1, Hx2, Hs1, Hs2, HW0, Hs3, HXX, HW1, Hw, Hs4, Hz0, HP0, Hs12, HB7, HV7, Hs5, HB0, HV0, Hs6, HB1, HV1, Hs7, HB2, HV2, Hz1, HP1, Hz2, HP2, Hz3, HP3, Hz4, HP4, Hz5, HP5, Hz6, HP6, HO, Hs8, HB3, HV3, Hs9, HB4, HV4, Hs10, HB5, HV5, Hs11, HB6, HV6, Hy0, HS0, Hy1, HS1, Hy2, HS2, Hy3, HS3, Hy4, HS4, Hy5, HS5, Hy6, HS6⟩
  rw [wp_ret]
  imodintro
  iapply (hQ W)
  ihave Hx' := (pointsTo_share (PosShare.mem_left_op_right fullShare.right)).2 $$ [Hx1 Hx2]
  · isplitl [Hx1]; · iexact Hx1
    iexact Hx2
  ihave Hx := (pointsTo_share (PosShare.mem_left_op_right fullShare)).2 $$ [Hx0 Hx']
  · isplitl [Hx0]; · iexact Hx0
    iexact Hx'
  ihave Ho := (Entails.of_eq (o_eq c (outC m c)).symm) $$ [HB0 HB1 HB2 HB3 HB4 HB5 HB6 HB7]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    iexact HB7
  ihave HVV := (Entails.of_eq (v_eq c (outC m c)).symm) $$ [HV0 HV1 HV2 HV3 HV4 HV5 HV6 HV7]
  · isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    iexact HV7
  ihave HWW := (w_join c _ _) $$ [HW0 HW1]
  · isplitl [HW0]; · iexact HW0
    iexact HW1
  unfold sPay rPay
  ihave HSS := (Entails.of_eq (s_eq c (sendC m c)).symm) $$ [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexact HS6
  ihave HRR := (Entails.of_eq (r_eq c (recvC m c)).symm) $$ [HP0 HP1 HP2 HP3 HP4 HP5 HP6]
  · isplitl [HP0]; · iexact HP0
    isplitl [HP1]; · iexact HP1
    isplitl [HP2]; · iexact HP2
    isplitl [HP3]; · iexact HP3
    isplitl [HP4]; · iexact HP4
    isplitl [HP5]; · iexact HP5
    iexact HP6
  unfold hbmOut scrC locC excC
  isplitl [Hx Hw Ho]
  · isplitl [Hx]; · iexact Hx
    isplitl [Hw]; · iexact Hw
    iexact Ho
  isplitl [HXX HWW HVV HSS HRR]
  · isplitl [HXX]; · iexists _; iexact HXX
    isplitl [HWW]; · iexact HWW
    isplitl [HVV]; · iexists _; iexact HVV
    isplitl [HSS]; · iexists _; iexact HSS
    iexists _; iexact HRR
  isplitl [Hs0 Hs1 Hs2 Hs3 Hs4 Hs5 Hs6 Hs7 Hs8 Hs9 Hs10 Hs11 Hs12]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact Hs12
  isplitl [HzB]; · iexact HzB
  isplitl [Hy0 Hy1 Hy2 Hy3 Hy4 Hy5 Hy6 Hz0 Hz1 Hz2 Hz3 Hz4 Hz5 Hz6]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  iexact HO
/-- Device `c`'s body, from what the launch and the exchange's set-up give it. -/
theorem body_run (K : Dev nD × Fin 15 → ℕ) (c : Dev nD) (Q : PUnit → sProp 𝕄)
    (hQ : ∀ W : Waits sig Bool, iprop(hbmOut m c ∗ scrC c ∗ locC c ∗ semVal (barCell c) 0 ∗ excC c ∗ owes (c : Thread nD τ) 0 W) ⊢ Q ⟨⟩)
    (W : Waits sig Bool) :
    iprop(recs m K ∗ levAts L lv ∗ hbmIn m c ∗ scrC c ∗ locC c ∗ posC c ∗ payC c ∗ credC c ∗ owes (c : Thread nD τ) (owedC c 10) W)
    ⊢ wp frame (wpE (defs₀ (F := F)) 𝒱₀ (c : Thread nD τ) none) Set.univ (tailA (F := F)) Q := by
  unfold hbmIn scrC locC posC payC credC
  iintro ⟨#HR, #HL, ⟨Hx, Hw, Ho⟩, ⟨⟨%fX, HX⟩, ⟨%fW, HW⟩, ⟨%fV, HV⟩, ⟨%fS, HS⟩, ⟨%fR, HRR⟩⟩, ⟨Hs0, Hs1, Hs2, Hs3, Hs4, Hs5, Hs6, Hs7, Hs8, Hs9, Hs10, Hs11, Hs12⟩, ⟨HaB, Hb0, Hb1, Hb2, Hb3, Hb4, Hb5, Hb6, Ha0, Ha1, Ha2, Ha3, Ha4, Ha5, Ha6⟩, ⟨Ht0, Ht1, Ht2, HtS0, HtS1, HtS2, HtS3, HtS4, HtS5, HtS6, HtR0, HtR1, HtR2, HtR3, HtR4, HtR5, HtR6⟩, ⟨HcB, Hc0, Hc1, Hc2, Hc3, Hc4, Hc5, Hc6⟩, HO⟩
  ihave Hx := (pointsTo_share (PosShare.mem_left_op_right fullShare)).1 $$ Hx
  icases Hx with ⟨Hx0, Hx⟩
  ihave Hx := (pointsTo_share (PosShare.mem_left_op_right fullShare.right)).1 $$ Hx
  icases Hx with ⟨Hx1, Hx2⟩
  ihave HX := (Entails.of_eq (x_eq c fX)) $$ HX
  icases HX with ⟨HX0, HX1, HX2⟩
  ihave HW := (Entails.of_eq (w_eq c fW)) $$ HW
  icases HW with ⟨HW0, HW1⟩
  ihave HS := (Entails.of_eq (s_eq c fS)) $$ HS
  icases HS with ⟨HS0, HS1, HS2, HS3, HS4, HS5, HS6⟩
  ihave HRR := (Entails.of_eq (r_eq c fR)) $$ HRR
  icases HRR with ⟨HA0, HA1, HA2, HA3, HA4, HA5, HA6⟩
  ihave HV := (Entails.of_eq (v_eq' c fV)) $$ HV
  icases HV with ⟨HV0, HV1, HV2, HV3, HV4, HV5, HV6, HV7⟩
  ihave Ho := (Entails.of_eq (o_eq c _)) $$ Ho
  icases Ho with ⟨HB0, HB1, HB2, HB3, HB4, HB5, HB6, HB7⟩
  iapply (segA m K c (fullShare.left) (fullShare.right.left) (fullShare.right.right)  fX fX fX fW fW fS W
    iprop((∀ v2 : BitVec 32, (∀ v82 : BitVec 32, ∀ W : Waits sig Bool, ((xH.view.loc (c : Thread nD τ) ↦{fullShare.left} (m ((c : Thread nD τ).loc main_arg0)))
      ∗ (xH.view.loc (c : Thread nD τ) ↦[Finset.univ \ xH1.view.set]{fullShare.right.left} (m ((c : Thread nD τ).loc main_arg0)))
      ∗ (xH.view.loc (c : Thread nD τ) ↦[Finset.univ \ xH2.view.set]{fullShare.right.right} (m ((c : Thread nD τ).loc main_arg0)))
      ∗ Transfers.Flight countersEmb (c : Thread nD τ) (SemLoc.dma (sig := sig) ⟨1, by decide⟩) (default : Bool) 131072 iprop((xP1.view.loc (c : Thread nD τ) ↦[xP1.view.set]{fullShare} (xC m c)) ∗ (xH.view.loc (c : Thread nD τ) ↦[xH1.view.set]{fullShare.right.left} (m ((c : Thread nD τ).loc main_arg0))))
      ∗ Transfers.Flight countersEmb (c : Thread nD τ) (SemLoc.dma (sig := sig) ⟨2, by decide⟩) (default : Bool) 262144 iprop((xP2.view.loc (c : Thread nD τ) ↦[xP2.view.set]{fullShare} (xC m c)) ∗ (xH.view.loc (c : Thread nD τ) ↦[xH2.view.set]{fullShare.right.right} (m ((c : Thread nD τ).loc main_arg0))))
      ∗ (xP0.view.loc (c : Thread nD τ) ↦[xP0.view.set]{fullShare} (xC m c))
      ∗ (wP0.view.loc (c : Thread nD τ) ↦[wP0.view.set]{fullShare} (wC m c (up c 1)))
      ∗ Transfers.Flight countersEmb (c : Thread nD τ) (SemLoc.dma (sig := sig) ⟨4, by decide⟩) (default : Bool) 262144 iprop((wP1.view.loc (c : Thread nD τ) ↦[wP1.view.set]{fullShare} (wC m c (up c 2))) ∗ (wH.view.loc (c : Thread nD τ) ↦[(wH.slice (Rect.unit (s := S4096x2048) (k0_off2 c 1#32) S4096x512.size (k0_off2_inb c 0)) (fun _ => rfl)).view.set]{fullShare} (m ((c : Thread nD τ).loc main_arg1))))
      ∗ (wH.view.loc (c : Thread nD τ) ↦[Finset.univ \ (wH.slice (Rect.unit (s := S4096x2048) (k0_off2 c 1#32) S4096x512.size (k0_off2_inb c 0)) (fun _ => rfl)).view.set]{fullShare} (m ((c : Thread nD τ).loc main_arg1)))
      ∗ semVal ((c : Thread nD τ), SemLoc.dma (sig := sig) ⟨0, by decide⟩) 0
      ∗ semVal ((c : Thread nD τ), SemLoc.dma (sig := sig) ⟨3, by decide⟩) 0
      ∗ semVal (barCell c) 0
      ∗ cred (tallyAt (sendCell c 0) true (amt 0))
      ∗ rAny (F := F) (up c 1) 1
      ∗ rAny (F := F) (up c 1) 2
      ∗ rAny (F := F) (up c 2) 3
      ∗ rAny (F := F) (up c 2) 4
      ∗ rAny (F := F) (up c 3) 5
      ∗ rAny (F := F) (up c 3) 6
      ∗ owes (c : Thread nD τ) (owedC c 6) W) -∗ wp frame (wpE (defs₀ (F := F)) 𝒱₀ (c : Thread nD τ) none) Set.univ (tailB (F := F) c v2 v82) Q))) Q (fun v2 v82 W => by
      iintro ⟨#HR, #HL, Hx0, Hx1, Hx2, Hs1, Hs2, HX0, HW0, Hs4, Hw, Hs0, Hs3, HzB, HC0, HA1, HA2, HA3, HA4, HA5, HA6, HO, HK⟩
      ispecialize HK $$ %v2 %v82 %W
      iapply HK
      isplitl [Hx0]; · iexact Hx0
      isplitl [Hx1]; · iexact Hx1
      isplitl [Hx2]; · iexact Hx2
      isplitl [Hs1]; · iexact Hs1
      isplitl [Hs2]; · iexact Hs2
      isplitl [HX0]; · iexact HX0
      isplitl [HW0]; · iexact HW0
      isplitl [Hs4]; · iexact Hs4
      isplitl [Hw]; · iexact Hw
      isplitl [Hs0]; · iexact Hs0
      isplitl [Hs3]; · iexact Hs3
      isplitl [HzB]; · iexact HzB
      isplitl [HC0]; · iexact HC0
      isplitl [HA1]; · iexact HA1
      isplitl [HA2]; · iexact HA2
      isplitl [HA3]; · iexact HA3
      isplitl [HA4]; · iexact HA4
      isplitl [HA5]; · iexact HA5
      isplitl [HA6]; · iexact HA6
      iexact HO))
  isplitr; · iexact HR
  isplitr; · iexact HL
  isplitl [Hx0]; · iexact Hx0
  isplitl [Hx1]; · iexact Hx1
  isplitl [Hx2]; · iexact Hx2
  isplitl [Hw]; · iexact Hw
  isplitl [HX0]; · iexact HX0
  isplitl [HX1]; · iexact HX1
  isplitl [HX2]; · iexact HX2
  isplitl [HW0]; · iexact HW0
  isplitl [HW1]; · iexact HW1
  isplitl [HS0]; · iexact HS0
  isplitl [Hs0]; · iexact Hs0
  isplitl [Hs1]; · iexact Hs1
  isplitl [Hs2]; · iexact Hs2
  isplitl [Hs3]; · iexact Hs3
  isplitl [Hs4]; · iexact Hs4
  isplitl [Ht0]; · iexact Ht0
  isplitl [Ht1]; · iexact Ht1
  isplitl [Ht2]; · iexact Ht2
  isplitl [HA0]; · unfold rAny; iexists _; iexact HA0
  isplitl [HA1]; · unfold rAny; iexists _; iexact HA1
  isplitl [HA2]; · unfold rAny; iexists _; iexact HA2
  isplitl [HA3]; · unfold rAny; iexists _; iexact HA3
  isplitl [HA4]; · unfold rAny; iexists _; iexact HA4
  isplitl [HA5]; · unfold rAny; iexists _; iexact HA5
  isplitl [HA6]; · unfold rAny; iexists _; iexact HA6
  isplitl [HaB]; · iexact HaB
  isplitl [HcB]; · iexact HcB
  isplitl [HtS0]; · iexact HtS0
  isplitl [HtR0]; · iexact HtR0
  isplitl [HO]; · iexact HO
  iintro %v2 %v82 %W ⟨Hx0, Hx1, Hx2, Hs1, Hs2, HX0, HW0, Hs4, Hw, Hs0, Hs3, HzB, HC0, HA1, HA2, HA3, HA4, HA5, HA6, HO⟩
  iapply (segB m K c (fullShare.right.left) (fullShare.right.right) v2 v82 fS fS fS W
    iprop((∀ v240 : BitVec 32, ∀ W : Waits sig Bool, ((xH.view.loc (c : Thread nD τ) ↦{fullShare.right.left} (m ((c : Thread nD τ).loc main_arg0)))
      ∗ (xH.view.loc (c : Thread nD τ) ↦{fullShare.right.right} (m ((c : Thread nD τ).loc main_arg0)))
      ∗ semVal ((c : Thread nD τ), SemLoc.dma (sig := sig) ⟨1, by decide⟩) 0
      ∗ semVal ((c : Thread nD τ), SemLoc.dma (sig := sig) ⟨2, by decide⟩) 0
      ∗ semVal ((c : Thread nD τ), SemLoc.dma (sig := sig) ⟨4, by decide⟩) 0
      ∗ (xB.view.loc (c : Thread nD τ) ↦{fullShare} (xC m c))
      ∗ (wP1.view.loc (c : Thread nD τ) ↦[wP1.view.set]{fullShare} (wC m c (up c 2)))
      ∗ Transfers.Flight countersEmb (c : Thread nD τ) (SemLoc.dma (sig := sig) ⟨3, by decide⟩) (default : Bool) 262144 iprop((wP0.view.loc (c : Thread nD τ) ↦[wP0.view.set]{fullShare} (wC m c (up c 3))) ∗ (wH.view.loc (c : Thread nD τ) ↦[(wH.slice (Rect.unit (s := S4096x2048) (k0_off2 c 2#32) S4096x512.size (k0_off2_inb c 1)) (fun _ => rfl)).view.set]{fullShare} (m ((c : Thread nD τ).loc main_arg1))))
      ∗ (wH.view.loc (c : Thread nD τ) ↦[Finset.univ \ (wH.slice (Rect.unit (s := S4096x2048) (k0_off2 c 2#32) S4096x512.size (k0_off2_inb c 1)) (fun _ => rfl)).view.set]{fullShare} (m ((c : Thread nD τ).loc main_arg1)))
      ∗ sPay m c 3
      ∗ cred (tallyAt (sendCell c 1) true (amt 1))
      ∗ cred (tallyAt (sendCell c 2) true (amt 2))
      ∗ owes (c : Thread nD τ) (owedC c 4) W) -∗ wp frame (wpE (defs₀ (F := F)) 𝒱₀ (c : Thread nD τ) none) Set.univ (tailC (F := F) c v2 v82 v240) Q)) Q (fun v240 W => by
      iintro ⟨#HR, #HL, Hx1, Hx2, Hs1, Hs2, Hs4, HXX, HW1, Hs3, Hw, HS3, HC1, HC2, HO, HK⟩
      ispecialize HK $$ %v240 %W
      iapply HK
      isplitl [Hx1]; · iexact Hx1
      isplitl [Hx2]; · iexact Hx2
      isplitl [Hs1]; · iexact Hs1
      isplitl [Hs2]; · iexact Hs2
      isplitl [Hs4]; · iexact Hs4
      isplitl [HXX]; · iexact HXX
      isplitl [HW1]; · iexact HW1
      isplitl [Hs3]; · iexact Hs3
      isplitl [Hw]; · iexact Hw
      isplitl [HS3]; · iexact HS3
      isplitl [HC1]; · iexact HC1
      isplitl [HC2]; · iexact HC2
      iexact HO))
  isplitr; · iexact HR
  isplitr; · iexact HL
  isplitl [Hx1]; · iexact Hx1
  isplitl [Hx2]; · iexact Hx2
  isplitl [Hs1]; · iexact Hs1
  isplitl [Hs2]; · iexact Hs2
  isplitl [HX0]; · iexact HX0
  isplitl [HW0]; · iexact HW0
  isplitl [Hs4]; · iexact Hs4
  isplitl [Hw]; · iexact Hw
  isplitl [Hs3]; · iexact Hs3
  isplitl [HS1]; · iexact HS1
  isplitl [HS2]; · iexact HS2
  isplitl [HS3]; · iexact HS3
  isplitl [HA1]; · iexact HA1
  isplitl [HA2]; · iexact HA2
  isplitl [HtS1]; · iexact HtS1
  isplitl [HtR1]; · iexact HtR1
  isplitl [HtS2]; · iexact HtS2
  isplitl [HtR2]; · iexact HtR2
  isplitl [HO]; · iexact HO
  iintro %v240 %W ⟨Hx1, Hx2, Hs1, Hs2, Hs4, HXX, HW1, Hs3, Hw, HS3, HC1, HC2, HO⟩
  iapply (segC m K c  v2 v82 v240 fS fS fS W
    iprop((∀ v349 : BitVec 32, ∀ W : Waits sig Bool, ((xB.view.loc (c : Thread nD τ) ↦{fullShare} (xC m c))
      ∗ (wP0.view.loc (c : Thread nD τ) ↦[wP0.view.set]{fullShare} (wC m c (up c 3)))
      ∗ Transfers.Flight countersEmb (c : Thread nD τ) (SemLoc.dma (sig := sig) ⟨4, by decide⟩) (default : Bool) 262144 iprop((wP1.view.loc (c : Thread nD τ) ↦[wP1.view.set]{fullShare} (wC m c c)) ∗ (wH.view.loc (c : Thread nD τ) ↦[(wH.slice (Rect.unit (s := S4096x2048) (k0_off2 c 3#32) S4096x512.size (k0_off2_inb c 2)) (fun _ => rfl)).view.set]{fullShare} (m ((c : Thread nD τ).loc main_arg1))))
      ∗ (wH.view.loc (c : Thread nD τ) ↦[Finset.univ \ (wH.slice (Rect.unit (s := S4096x2048) (k0_off2 c 3#32) S4096x512.size (k0_off2_inb c 2)) (fun _ => rfl)).view.set]{fullShare} (m ((c : Thread nD τ).loc main_arg1)))
      ∗ semVal ((c : Thread nD τ), SemLoc.dma (sig := sig) ⟨3, by decide⟩) 0
      ∗ sPay m c 6
      ∗ cred (tallyAt (sendCell c 3) true (amt 3))
      ∗ cred (tallyAt (sendCell c 4) true (amt 4))
      ∗ cred (tallyAt (sendCell c 5) true (amt 5))
      ∗ owes (c : Thread nD τ) (owedC c 1) W) -∗ wp frame (wpE (defs₀ (F := F)) 𝒱₀ (c : Thread nD τ) none) Set.univ (tailD (F := F) c v2 v82 v240 v349) Q)) Q (fun v349 W => by
      iintro ⟨#HR, #HL, HXX, HW0, Hs4, Hw, Hs3, HS6, HC3, HC4, HC5, HO, HK⟩
      ispecialize HK $$ %v349 %W
      iapply HK
      isplitl [HXX]; · iexact HXX
      isplitl [HW0]; · iexact HW0
      isplitl [Hs4]; · iexact Hs4
      isplitl [Hw]; · iexact Hw
      isplitl [Hs3]; · iexact Hs3
      isplitl [HS6]; · iexact HS6
      isplitl [HC3]; · iexact HC3
      isplitl [HC4]; · iexact HC4
      isplitl [HC5]; · iexact HC5
      iexact HO))
  isplitr; · iexact HR
  isplitr; · iexact HL
  isplitl [HXX]; · iexact HXX
  isplitl [HW1]; · iexact HW1
  isplitl [Hs3]; · iexact Hs3
  isplitl [Hw]; · iexact Hw
  isplitl [Hs4]; · iexact Hs4
  isplitl [HS3]; · iexact HS3
  isplitl [HS4]; · iexact HS4
  isplitl [HS5]; · iexact HS5
  isplitl [HS6]; · iexact HS6
  isplitl [HA3]; · iexact HA3
  isplitl [HA4]; · iexact HA4
  isplitl [HA5]; · iexact HA5
  isplitl [HtS3]; · iexact HtS3
  isplitl [HtR3]; · iexact HtR3
  isplitl [HtS4]; · iexact HtS4
  isplitl [HtR4]; · iexact HtR4
  isplitl [HtS5]; · iexact HtS5
  isplitl [HtR5]; · iexact HtR5
  isplitl [HO]; · iexact HO
  iintro %v349 %W ⟨HXX, HW0, Hs4, Hw, Hs3, HS6, HC3, HC4, HC5, HO⟩
  iapply (segD m K c  v2 v82 v240 v349 fV fV (m ((c : Thread nD τ).loc main_v1)) (m ((c : Thread nD τ).loc main_v1)) W
    iprop((∀ v498 : BitVec 32, ∀ W : Waits sig Bool, ((xB.view.loc (c : Thread nD τ) ↦{fullShare} (xC m c))
      ∗ (wP1.view.loc (c : Thread nD τ) ↦[wP1.view.set]{fullShare} (wC m c c))
      ∗ (wH.view.loc (c : Thread nD τ) ↦{fullShare} (m ((c : Thread nD τ).loc main_arg1)))
      ∗ semVal ((c : Thread nD τ), SemLoc.dma (sig := sig) ⟨4, by decide⟩) 0
      ∗ cred (tallyAt (sendCell c 6) true (amt 6))
      ∗ Transfers.Flight countersEmb (c : Thread nD τ) (SemLoc.dma (sig := sig) ⟨12, by decide⟩) (default : Bool) (oP7 c).view.dmaCredit iprop(((oP7 c).view.loc (c : Thread nD τ) ↦[(oP7 c).view.set]{fullShare} (outC m c)) ∗ ((vP7 c).view.loc (c : Thread nD τ) ↦[(vP7 c).view.set]{fullShare} (outC m c)))
      ∗ Transfers.Flight countersEmb (c : Thread nD τ) (SemLoc.dma (sig := sig) ⟨5, by decide⟩) (default : Bool) (oP0 c).view.dmaCredit iprop(((oP0 c).view.loc (c : Thread nD τ) ↦[(oP0 c).view.set]{fullShare} (outC m c)) ∗ ((vP0 c).view.loc (c : Thread nD τ) ↦[(vP0 c).view.set]{fullShare} (outC m c)))
      ∗ semVal (recvCell c 0) 0
      ∗ rPay m c 0
      ∗ owes (c : Thread nD τ) 0 W) -∗ wp frame (wpE (defs₀ (F := F)) 𝒱₀ (c : Thread nD τ) none) Set.univ (tailE (F := F) c v2 v82 v240 v349 v498) Q)) Q (fun v498 W => by
      iintro ⟨#HR, #HL, HXX, HW1, Hw, Hs4, HC6, Hs12, Hs5, Hz0, HP0, HO, HK⟩
      ispecialize HK $$ %v498 %W
      iapply HK
      isplitl [HXX]; · iexact HXX
      isplitl [HW1]; · iexact HW1
      isplitl [Hw]; · iexact Hw
      isplitl [Hs4]; · iexact Hs4
      isplitl [HC6]; · iexact HC6
      isplitl [Hs12]; · iexact Hs12
      isplitl [Hs5]; · iexact Hs5
      isplitl [Hz0]; · iexact Hz0
      isplitl [HP0]; · iexact HP0
      iexact HO))
  isplitr; · iexact HR
  isplitr; · iexact HL
  isplitl [HXX]; · iexact HXX
  isplitl [Hs4]; · iexact Hs4
  isplitl [Hw]; · iexact Hw
  isplitl [HS6]; · iexact HS6
  isplitl [HA6]; · iexact HA6
  isplitl [HtS6]; · iexact HtS6
  isplitl [HtR6]; · iexact HtR6
  isplitl [HV7]; · iexact HV7
  isplitl [HV0]; · iexact HV0
  isplitl [HB7]; · iexact HB7
  isplitl [HB0]; · iexact HB0
  isplitl [Hs12]; · iexact Hs12
  isplitl [Hs5]; · iexact Hs5
  isplitl [Ha0]; · iexact Ha0
  isplitl [Hc0]; · iexact Hc0
  isplitl [HO]; · iexact HO
  iintro %v498 %W ⟨HXX, HW1, Hw, Hs4, HC6, Hs12, Hs5, Hz0, HP0, HO⟩
  iapply (segE m K c  v2 v82 v240 v349 v498 fV fV fV fV fV fV (m ((c : Thread nD τ).loc main_v1)) (m ((c : Thread nD τ).loc main_v1)) (m ((c : Thread nD τ).loc main_v1)) (m ((c : Thread nD τ).loc main_v1)) (m ((c : Thread nD τ).loc main_v1)) (m ((c : Thread nD τ).loc main_v1)) W
    iprop( ∀ W : Waits sig Bool, (owes (c : Thread nD τ) 0 W
      ∗ semVal ((c : Thread nD τ), SemLoc.dma (sig := sig) ⟨12, by decide⟩) 0
      ∗ ((oP7 c).view.loc (c : Thread nD τ) ↦[(oP7 c).view.set]{fullShare} (outC m c))
      ∗ ((vP7 c).view.loc (c : Thread nD τ) ↦[(vP7 c).view.set]{fullShare} (outC m c))
      ∗ semVal ((c : Thread nD τ), SemLoc.dma (sig := sig) ⟨5, by decide⟩) 0
      ∗ ((oP0 c).view.loc (c : Thread nD τ) ↦[(oP0 c).view.set]{fullShare} (outC m c))
      ∗ ((vP0 c).view.loc (c : Thread nD τ) ↦[(vP0 c).view.set]{fullShare} (outC m c))
      ∗ semVal ((c : Thread nD τ), SemLoc.dma (sig := sig) ⟨6, by decide⟩) 0
      ∗ ((oP1 c).view.loc (c : Thread nD τ) ↦[(oP1 c).view.set]{fullShare} (outC m c))
      ∗ ((vP1 c).view.loc (c : Thread nD τ) ↦[(vP1 c).view.set]{fullShare} (outC m c))
      ∗ semVal ((c : Thread nD τ), SemLoc.dma (sig := sig) ⟨7, by decide⟩) 0
      ∗ ((oP2 c).view.loc (c : Thread nD τ) ↦[(oP2 c).view.set]{fullShare} (outC m c))
      ∗ ((vP2 c).view.loc (c : Thread nD τ) ↦[(vP2 c).view.set]{fullShare} (outC m c))
      ∗ Transfers.Flight countersEmb (c : Thread nD τ) (SemLoc.dma (sig := sig) ⟨8, by decide⟩) (default : Bool) (oP3 c).view.dmaCredit iprop(((oP3 c).view.loc (c : Thread nD τ) ↦[(oP3 c).view.set]{fullShare} (outC m c)) ∗ ((vP3 c).view.loc (c : Thread nD τ) ↦[(vP3 c).view.set]{fullShare} (outC m c)))
      ∗ Transfers.Flight countersEmb (c : Thread nD τ) (SemLoc.dma (sig := sig) ⟨9, by decide⟩) (default : Bool) (oP4 c).view.dmaCredit iprop(((oP4 c).view.loc (c : Thread nD τ) ↦[(oP4 c).view.set]{fullShare} (outC m c)) ∗ ((vP4 c).view.loc (c : Thread nD τ) ↦[(vP4 c).view.set]{fullShare} (outC m c)))
      ∗ Transfers.Flight countersEmb (c : Thread nD τ) (SemLoc.dma (sig := sig) ⟨10, by decide⟩) (default : Bool) (oP5 c).view.dmaCredit iprop(((oP5 c).view.loc (c : Thread nD τ) ↦[(oP5 c).view.set]{fullShare} (outC m c)) ∗ ((vP5 c).view.loc (c : Thread nD τ) ↦[(vP5 c).view.set]{fullShare} (outC m c)))
      ∗ Transfers.Flight countersEmb (c : Thread nD τ) (SemLoc.dma (sig := sig) ⟨11, by decide⟩) (default : Bool) (oP6 c).view.dmaCredit iprop(((oP6 c).view.loc (c : Thread nD τ) ↦[(oP6 c).view.set]{fullShare} (outC m c)) ∗ ((vP6 c).view.loc (c : Thread nD τ) ↦[(vP6 c).view.set]{fullShare} (outC m c)))
      ∗ semVal (recvCell c 1) 0
      ∗ rPay m c 1
      ∗ semVal (recvCell c 2) 0
      ∗ rPay m c 2
      ∗ semVal (recvCell c 3) 0
      ∗ rPay m c 3
      ∗ semVal (recvCell c 4) 0
      ∗ rPay m c 4
      ∗ semVal (recvCell c 5) 0
      ∗ rPay m c 5
      ∗ semVal (recvCell c 6) 0
      ∗ rPay m c 6) -∗ wp frame (wpE (defs₀ (F := F)) 𝒱₀ (c : Thread nD τ) none) Set.univ (tailF (F := F) c) Q) Q (fun  W => by
      iintro ⟨#HR, #HL, HO, Hs12, HB7, HV7, Hs5, HB0, HV0, Hs6, HB1, HV1, Hs7, HB2, HV2, Hs8, Hs9, Hs10, Hs11, Hz1, HP1, Hz2, HP2, Hz3, HP3, Hz4, HP4, Hz5, HP5, Hz6, HP6, HK⟩
      ispecialize HK $$  %W
      iapply HK
      isplitl [HO]; · iexact HO
      isplitl [Hs12]; · iexact Hs12
      isplitl [HB7]; · iexact HB7
      isplitl [HV7]; · iexact HV7
      isplitl [Hs5]; · iexact Hs5
      isplitl [HB0]; · iexact HB0
      isplitl [HV0]; · iexact HV0
      isplitl [Hs6]; · iexact Hs6
      isplitl [HB1]; · iexact HB1
      isplitl [HV1]; · iexact HV1
      isplitl [Hs7]; · iexact Hs7
      isplitl [HB2]; · iexact HB2
      isplitl [HV2]; · iexact HV2
      isplitl [Hs8]; · iexact Hs8
      isplitl [Hs9]; · iexact Hs9
      isplitl [Hs10]; · iexact Hs10
      isplitl [Hs11]; · iexact Hs11
      isplitl [Hz1]; · iexact Hz1
      isplitl [HP1]; · iexact HP1
      isplitl [Hz2]; · iexact Hz2
      isplitl [HP2]; · iexact HP2
      isplitl [Hz3]; · iexact Hz3
      isplitl [HP3]; · iexact HP3
      isplitl [Hz4]; · iexact Hz4
      isplitl [HP4]; · iexact HP4
      isplitl [Hz5]; · iexact Hz5
      isplitl [HP5]; · iexact HP5
      isplitl [Hz6]; · iexact Hz6
      iexact HP6))
  isplitr; · iexact HR
  isplitr; · iexact HL
  isplitl [HO]; · iexact HO
  isplitl [HV1]; · iexact HV1
  isplitl [HB1]; · iexact HB1
  isplitl [Hs6]; · iexact Hs6
  isplitl [Ha1]; · iexact Ha1
  isplitl [Hc1]; · iexact Hc1
  isplitl [HV2]; · iexact HV2
  isplitl [HB2]; · iexact HB2
  isplitl [Hs7]; · iexact Hs7
  isplitl [Ha2]; · iexact Ha2
  isplitl [Hc2]; · iexact Hc2
  isplitl [HV3]; · iexact HV3
  isplitl [HB3]; · iexact HB3
  isplitl [Hs8]; · iexact Hs8
  isplitl [Ha3]; · iexact Ha3
  isplitl [Hc3]; · iexact Hc3
  isplitl [HV4]; · iexact HV4
  isplitl [HB4]; · iexact HB4
  isplitl [Hs9]; · iexact Hs9
  isplitl [Ha4]; · iexact Ha4
  isplitl [Hc4]; · iexact Hc4
  isplitl [HV5]; · iexact HV5
  isplitl [HB5]; · iexact HB5
  isplitl [Hs10]; · iexact Hs10
  isplitl [Ha5]; · iexact Ha5
  isplitl [Hc5]; · iexact Hc5
  isplitl [HV6]; · iexact HV6
  isplitl [HB6]; · iexact HB6
  isplitl [Hs11]; · iexact Hs11
  isplitl [Ha6]; · iexact Ha6
  isplitl [Hc6]; · iexact Hc6
  isplitl [Hs12]; · iexact Hs12
  isplitl [Hs5]; · iexact Hs5
  iintro  %W ⟨HO, Hs12, HB7, HV7, Hs5, HB0, HV0, Hs6, HB1, HV1, Hs7, HB2, HV2, Hs8, Hs9, Hs10, Hs11, Hz1, HP1, Hz2, HP2, Hz3, HP3, Hz4, HP4, Hz5, HP5, Hz6, HP6⟩
  iapply (segF m K c    W
    iprop( ∀ W : Waits sig Bool, (owes (c : Thread nD τ) 0 W
      ∗ semVal ((c : Thread nD τ), SemLoc.dma (sig := sig) ⟨8, by decide⟩) 0
      ∗ ((oP3 c).view.loc (c : Thread nD τ) ↦[(oP3 c).view.set]{fullShare} (outC m c))
      ∗ ((vP3 c).view.loc (c : Thread nD τ) ↦[(vP3 c).view.set]{fullShare} (outC m c))
      ∗ semVal ((c : Thread nD τ), SemLoc.dma (sig := sig) ⟨9, by decide⟩) 0
      ∗ ((oP4 c).view.loc (c : Thread nD τ) ↦[(oP4 c).view.set]{fullShare} (outC m c))
      ∗ ((vP4 c).view.loc (c : Thread nD τ) ↦[(vP4 c).view.set]{fullShare} (outC m c))
      ∗ semVal ((c : Thread nD τ), SemLoc.dma (sig := sig) ⟨10, by decide⟩) 0
      ∗ ((oP5 c).view.loc (c : Thread nD τ) ↦[(oP5 c).view.set]{fullShare} (outC m c))
      ∗ ((vP5 c).view.loc (c : Thread nD τ) ↦[(vP5 c).view.set]{fullShare} (outC m c))
      ∗ semVal ((c : Thread nD τ), SemLoc.dma (sig := sig) ⟨11, by decide⟩) 0
      ∗ ((oP6 c).view.loc (c : Thread nD τ) ↦[(oP6 c).view.set]{fullShare} (outC m c))
      ∗ ((vP6 c).view.loc (c : Thread nD τ) ↦[(vP6 c).view.set]{fullShare} (outC m c))
      ∗ semVal (sendCell c 0) 0
      ∗ sPay m c 0
      ∗ semVal (sendCell c 1) 0
      ∗ sPay m c 1
      ∗ semVal (sendCell c 2) 0
      ∗ sPay m c 2
      ∗ semVal (sendCell c 3) 0
      ∗ sPay m c 3
      ∗ semVal (sendCell c 4) 0
      ∗ sPay m c 4
      ∗ semVal (sendCell c 5) 0
      ∗ sPay m c 5
      ∗ semVal (sendCell c 6) 0
      ∗ sPay m c 6) -∗ wp frame (wpE (defs₀ (F := F)) 𝒱₀ (c : Thread nD τ) none) Set.univ (Prog.ret PUnit.unit) Q) Q (fun  W => by
      iintro ⟨HO, Hs8, HB3, HV3, Hs9, HB4, HV4, Hs10, HB5, HV5, Hs11, HB6, HV6, Hy0, HS0, Hy1, HS1, Hy2, HS2, Hy3, HS3, Hy4, HS4, Hy5, HS5, Hy6, HS6, HK⟩
      ispecialize HK $$  %W
      iapply HK
      isplitl [HO]; · iexact HO
      isplitl [Hs8]; · iexact Hs8
      isplitl [HB3]; · iexact HB3
      isplitl [HV3]; · iexact HV3
      isplitl [Hs9]; · iexact Hs9
      isplitl [HB4]; · iexact HB4
      isplitl [HV4]; · iexact HV4
      isplitl [Hs10]; · iexact Hs10
      isplitl [HB5]; · iexact HB5
      isplitl [HV5]; · iexact HV5
      isplitl [Hs11]; · iexact Hs11
      isplitl [HB6]; · iexact HB6
      isplitl [HV6]; · iexact HV6
      isplitl [Hy0]; · iexact Hy0
      isplitl [HS0]; · iexact HS0
      isplitl [Hy1]; · iexact Hy1
      isplitl [HS1]; · iexact HS1
      isplitl [Hy2]; · iexact Hy2
      isplitl [HS2]; · iexact HS2
      isplitl [Hy3]; · iexact Hy3
      isplitl [HS3]; · iexact HS3
      isplitl [Hy4]; · iexact Hy4
      isplitl [HS4]; · iexact HS4
      isplitl [Hy5]; · iexact Hy5
      isplitl [HS5]; · iexact HS5
      isplitl [Hy6]; · iexact Hy6
      iexact HS6))
  isplitr; · iexact HR
  isplitr; · iexact HL
  isplitl [HO]; · iexact HO
  isplitl [Hs8]; · iexact Hs8
  isplitl [Hs9]; · iexact Hs9
  isplitl [Hs10]; · iexact Hs10
  isplitl [Hs11]; · iexact Hs11
  isplitl [Hb0]; · iexact Hb0
  isplitl [HC0]; · iexact HC0
  isplitl [Hb1]; · iexact Hb1
  isplitl [HC1]; · iexact HC1
  isplitl [Hb2]; · iexact Hb2
  isplitl [HC2]; · iexact HC2
  isplitl [Hb3]; · iexact Hb3
  isplitl [HC3]; · iexact HC3
  isplitl [Hb4]; · iexact Hb4
  isplitl [HC4]; · iexact HC4
  isplitl [Hb5]; · iexact Hb5
  isplitl [HC5]; · iexact HC5
  isplitl [Hb6]; · iexact Hb6
  isplitl [HC6]; · iexact HC6
  iintro  %W ⟨HO, Hs8, HB3, HV3, Hs9, HB4, HV4, Hs10, HB5, HV5, Hs11, HB6, HV6, Hy0, HS0, Hy1, HS1, Hy2, HS2, Hy3, HS3, Hy4, HS4, Hy5, HS5, Hy6, HS6⟩
  iapply (body_end m c Q hQ W)
  isplitl [Hx0]; · iexact Hx0
  isplitl [Hs0]; · iexact Hs0
  isplitl [HzB]; · iexact HzB
  isplitl [Hx1]; · iexact Hx1
  isplitl [Hx2]; · iexact Hx2
  isplitl [Hs1]; · iexact Hs1
  isplitl [Hs2]; · iexact Hs2
  isplitl [HW0]; · iexact HW0
  isplitl [Hs3]; · iexact Hs3
  isplitl [HXX]; · iexact HXX
  isplitl [HW1]; · iexact HW1
  isplitl [Hw]; · iexact Hw
  isplitl [Hs4]; · iexact Hs4
  isplitl [Hz0]; · iexact Hz0
  isplitl [HP0]; · iexact HP0
  isplitl [Hs12]; · iexact Hs12
  isplitl [HB7]; · iexact HB7
  isplitl [HV7]; · iexact HV7
  isplitl [Hs5]; · iexact Hs5
  isplitl [HB0]; · iexact HB0
  isplitl [HV0]; · iexact HV0
  isplitl [Hs6]; · iexact Hs6
  isplitl [HB1]; · iexact HB1
  isplitl [HV1]; · iexact HV1
  isplitl [Hs7]; · iexact Hs7
  isplitl [HB2]; · iexact HB2
  isplitl [HV2]; · iexact HV2
  isplitl [Hz1]; · iexact Hz1
  isplitl [HP1]; · iexact HP1
  isplitl [Hz2]; · iexact Hz2
  isplitl [HP2]; · iexact HP2
  isplitl [Hz3]; · iexact Hz3
  isplitl [HP3]; · iexact HP3
  isplitl [Hz4]; · iexact Hz4
  isplitl [HP4]; · iexact HP4
  isplitl [Hz5]; · iexact Hz5
  isplitl [HP5]; · iexact HP5
  isplitl [Hz6]; · iexact Hz6
  isplitl [HP6]; · iexact HP6
  isplitl [HO]; · iexact HO
  isplitl [Hs8]; · iexact Hs8
  isplitl [HB3]; · iexact HB3
  isplitl [HV3]; · iexact HV3
  isplitl [Hs9]; · iexact Hs9
  isplitl [HB4]; · iexact HB4
  isplitl [HV4]; · iexact HV4
  isplitl [Hs10]; · iexact Hs10
  isplitl [HB5]; · iexact HB5
  isplitl [HV5]; · iexact HV5
  isplitl [Hs11]; · iexact Hs11
  isplitl [HB6]; · iexact HB6
  isplitl [HV6]; · iexact HV6
  isplitl [Hy0]; · iexact Hy0
  isplitl [HS0]; · iexact HS0
  isplitl [Hy1]; · iexact Hy1
  isplitl [HS1]; · iexact HS1
  isplitl [Hy2]; · iexact Hy2
  isplitl [HS2]; · iexact HS2
  isplitl [Hy3]; · iexact Hy3
  isplitl [HS3]; · iexact HS3
  isplitl [Hy4]; · iexact Hy4
  isplitl [HS4]; · iexact HS4
  isplitl [Hy5]; · iexact Hy5
  isplitl [HS5]; · iexact HS5
  isplitl [Hy6]; · iexact Hy6
  iexact HS6

end Cert.KernelIdealProof

end
-- ==== Proof.PI.Launch.lean ====
/-
  The launch: from the body on every device to the run of the whole program, its result named.
-/
module

public import proofs.«01_k».proof.Proof.PI.Body
public import Idealize.ShloMosaic.Lib.Pipeline.CollectiveSegs
public import Idealize.ShloMosaic.Lib.Quiescent

@[expose] public section

noncomputable section

namespace Cert.KernelIdealProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Bool (Elt F) ℕ UU ℕ

variable (m : (ℓ : Loc nD τ sig) → Buf (Elt F) ℓ)

/-! ## The proof data of the region

@main is one region of one point and no window: the kernel copies its own blocks. -/

/-- What device `c`'s body starts from besides its buffers: the exchange's records at some names, its positions, the tokens it pays with, its
    credit and the level facts. -/
def start (c : Dev nD) : sProp 𝕄 :=
  iprop((∃ K, recs m K) ∗ levAts L lv ∗ locC c ∗ posC c ∗ payC c ∗ credC c)

/-- What device `c`'s body starts from. -/
def Φ₀ (c : Dev nD) : sProp 𝕄 := iprop((start m c ∗ hbmIn m c) ∗ scrC c)
/-- What device `c`'s body leaves. -/
def Φ₁ (c : Dev nD) : sProp 𝕄 := iprop(hbmOut m c ∗ scrC c ∗ locC c ∗ semVal (barCell c) 0 ∗ excC c)

/-- The region's proof data: it starts at `Φ₀` and ends at `Φ₁`, and pays all that the device owes. -/
def dats (_ : Fin 1) (c : Dev nD) : Pipeline.Dat τ (Elt F) Bool ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owedC c 10
    | ⟨_ + 1, _⟩ => 0

/-- What the body leaves, at whatever bound its waits have recorded. -/
def post (c : Dev nD) : sProp 𝕄 :=
  iprop(Φ₁ m c ∗ (dats m 0 c).owesAt false t0_0.succ ∗ emp)

set_option maxRecDepth 8000 in
/-- The body obligation of the region on core `c`. -/
theorem body_obligation (c : Dev nD) : Pipeline.BodyObligation (dats (F := F) m 0 c) (defs₀ (F := F)) 𝒱₀ false Set.univ := fun t => by
  rw [fin_N0 t]
  show iprop(Φ₀ m c ∗ (dats m 0 c).owesAt false t0_0.castSucc ∗ emp) ⊢ wp frame (wpE (defs₀ (F := F)) 𝒱₀ (c : Thread nD τ) none) Set.univ
    (cc0_body (F := F) xH (Memref.isWhole_whole _) wH (Memref.isWhole_whole _) oH (Memref.isWhole_whole _) xB (Memref.isWhole_whole _) cc0_scratch1
      wB (Memref.isWhole_whole _) cc0_scratch3 vB (Memref.isWhole_whole _) cc0_scratch5 sB (Memref.isWhole_whole _) rB (Memref.isWhole_whole _) cc0_scratch8 cc0_scratch9)
    (fun _ => post m c)
  rw [body_eq_tailA]
  unfold Pipeline.Dat.owesAt Pipeline.owesWithin Φ₀ start
  rw [show (dats m 0 c).owed t0_0.castSucc = owedC c 10 from rfl]
  iintro ⟨⟨⟨⟨⟨%K, HR⟩, HL, Hloc, Hpos, Hpay, Hcr⟩, Hin⟩, Hscr⟩, ⟨%W, -, HO⟩, -⟩
  iapply (body_run m K c (fun _ => post m c) (fun W => by
    unfold post Φ₁ Pipeline.Dat.owesAt Pipeline.owesWithin
    rw [show (dats m 0 c).owed t0_0.succ = 0 from rfl]
    iintro ⟨H1, H2, H3, H4, H5, HO⟩
    isplitl [H1 H2 H3 H4 H5]
    · isplitl [H1]; · iexact H1
      isplitl [H2]; · iexact H2
      isplitl [H3]; · iexact H3
      isplitl [H4]; · iexact H4
      iexact H5
    isplitl [HO]
    · iexists W
      isplitr; · ipureintro; exact fun _ _ => Or.inl trivial
      iexact HO
    iempintro) W)
  isplitl [HR]; · iexact HR
  isplitl [HL]; · iexact HL
  isplitl [Hin]; · iexact Hin
  isplitl [Hscr]; · iexact Hscr
  isplitl [Hloc]; · iexact Hloc
  isplitl [Hpos]; · iexact Hpos
  isplitl [Hpay]; · iexact Hpay
  isplitl [Hcr]; · iexact Hcr
  iexact HO

/-! ## The cells and their tokens -/

/-- The kernel's own semaphores: those of its copies. -/
abbrev osem : Fin 27 → SemLoc sig := fun q => .dma q
/-- The semaphores of the copies are the kernel's own, each once. -/
theorem ownSemFacts : Pipeline.OwnSemFacts cfg0.spec osem := by decide
/-- There is no window, so every share of one is whole. -/
theorem share_eq (c : Dev nD) (w : Fin cfg0.W) : (dats m 0 c).share w = fullShare := w.elim0

/-- The fifteen semaphores of the exchange differ. -/
theorem csem_injective : ∀ k k' : Fin 15, csem k = csem k' → k = k' := by decide
/-- The cells of the exchange differ. -/
theorem kcell_injective : Function.Injective (kcell : Dev nD × Fin 15 → GSem nD τ sig) := by
  rintro ⟨c, k⟩ ⟨c', k'⟩ h
  have h1 : c = c' := congrArg (fun g : GSem nD τ sig => g.1.1) h
  subst h1
  rw [csem_injective k k' (congrArg Prod.snd h)]
/-- All cells of the exchange. -/
def exCells : Finset (GSem nD τ sig) := Finset.univ.map ⟨kcell, kcell_injective⟩

/-- The cell and the duty of a device's seventeen tokens: its barrier's three, its send cells', its receive cells'. -/
abbrev tokAt (j : Fin 17) : Fin 15 × Fin 3 :=
  if h : j.val < 3 then (0, ⟨j.val, h⟩) else (⟨j.val - 2, by have := j.isLt; omega⟩, 0)
/-- A device's tokens differ. -/
theorem tokAt_injective : ∀ j j' : Fin 17, tokAt j = tokAt j' → j = j' := by decide
/-- Token `j` of device `c`, with its cell, its round and its duty. -/
abbrev tokOf (cj : Dev nD × Fin 17) : GSem nD τ sig × ℕ × Fin 3 := (kcell (cj.1, (tokAt cj.2).1), 0, (tokAt cj.2).2)
/-- The tokens of the exchange differ. -/
theorem tokOf_injective : Function.Injective (tokOf : Dev nD × Fin 17 → GSem nD τ sig × ℕ × Fin 3) := by
  rintro ⟨c, j⟩ ⟨c', j'⟩ h
  have h1 := kcell_injective (congrArg Prod.fst h)
  have h2 : (tokAt j).2 = (tokAt j').2 := congrArg (fun x : GSem nD τ sig × ℕ × Fin 3 => x.2.2) h
  have h3 : c = c' := congrArg Prod.fst h1
  rw [h3, tokAt_injective j j' (Prod.ext (congrArg Prod.snd h1) h2)]
/-- All tokens of the exchange. -/
def exToks : Finset (GSem nD τ sig × ℕ × Fin 3) := Finset.univ.map ⟨tokOf, tokOf_injective⟩

/-- The launch's ghost element: the region's part and the exchange's. -/
def u₀ : UU :=
  (initOf (Pipeline.cells cfgs cellOf_inj) (Pipeline.launchToks cfgs cellOf_inj), (initOf exCells exToks, 1))

/-- The tokens of device `c`'s own cells. -/
def toks (c : Dev nD) : sProp 𝕄 :=
  iprop(dutyTok ER (barCell c) 0 0
      ∗ dutyTok ER (barCell c) 0 1
      ∗ dutyTok ER (barCell c) 0 2
      ∗ dutyTok ER (sendCell c 0) 0 0
      ∗ dutyTok ER (sendCell c 1) 0 0
      ∗ dutyTok ER (sendCell c 2) 0 0
      ∗ dutyTok ER (sendCell c 3) 0 0
      ∗ dutyTok ER (sendCell c 4) 0 0
      ∗ dutyTok ER (sendCell c 5) 0 0
      ∗ dutyTok ER (sendCell c 6) 0 0
      ∗ dutyTok ER (recvCell c 0) 0 0
      ∗ dutyTok ER (recvCell c 1) 0 0
      ∗ dutyTok ER (recvCell c 2) 0 0
      ∗ dutyTok ER (recvCell c 3) 0 0
      ∗ dutyTok ER (recvCell c 4) 0 0
      ∗ dutyTok ER (recvCell c 5) 0 0
      ∗ dutyTok ER (recvCell c 6) 0 0)

/-- What the ghost element deals device `c`. -/
def G (c : Dev nD) : sProp 𝕄 :=
  iprop((bigSep Finset.univ fun k : Fin 15 => roundState ER (rd m) (kcell (c, k)) 0)
    ∗ (bigSep Finset.univ fun k : Fin 15 => iprop(atPos ER (kcell (c, k)) 0 ∅ 0 ∗ reached ER (kcell (c, k)) 0)) ∗ toks c)
/-- What every device has after the cells have been opened all at once. -/
def G' (c : Dev nD) : sProp 𝕄 := iprop(((∃ K, recs m K) ∗ posC c ∗ payC c) ∗ locC c)

omit [FloatOps F] in
/-- Fifteen pieces, listed. -/
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
/-- Seventeen pieces, listed. -/
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-- The exchange's ghost element, dealt to the devices. -/
theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 15 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin17]; rfl
  iintro HX
  imod (Rounds.fund ER (rd m) exCells exToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero, listed. -/
theorem ownSems0_eq (c : Dev nD) : (Pipeline.ownSems0 (Ix := Bool) (Name := ℕ) (U := UU) (Lvl := ℕ) (Val := Elt F) (τ := τ) osem c : sProp 𝕄)
    = iprop(semVal ((c : Thread nD τ), SemLoc.dma (sig := sig) ⟨0, by decide⟩) 0
      ∗ semVal ((c : Thread nD τ), SemLoc.dma (sig := sig) ⟨1, by decide⟩) 0
      ∗ semVal ((c : Thread nD τ), SemLoc.dma (sig := sig) ⟨2, by decide⟩) 0
      ∗ semVal ((c : Thread nD τ), SemLoc.dma (sig := sig) ⟨3, by decide⟩) 0
      ∗ semVal ((c : Thread nD τ), SemLoc.dma (sig := sig) ⟨4, by decide⟩) 0
      ∗ semVal ((c : Thread nD τ), SemLoc.dma (sig := sig) ⟨5, by decide⟩) 0
      ∗ semVal ((c : Thread nD τ), SemLoc.dma (sig := sig) ⟨6, by decide⟩) 0
      ∗ semVal ((c : Thread nD τ), SemLoc.dma (sig := sig) ⟨7, by decide⟩) 0
      ∗ semVal ((c : Thread nD τ), SemLoc.dma (sig := sig) ⟨8, by decide⟩) 0
      ∗ semVal ((c : Thread nD τ), SemLoc.dma (sig := sig) ⟨9, by decide⟩) 0
      ∗ semVal ((c : Thread nD τ), SemLoc.dma (sig := sig) ⟨10, by decide⟩) 0
      ∗ semVal ((c : Thread nD τ), SemLoc.dma (sig := sig) ⟨11, by decide⟩) 0
      ∗ semVal ((c : Thread nD τ), SemLoc.dma (sig := sig) ⟨12, by decide⟩) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (recvCell c 0) 0
      ∗ semVal (recvCell c 1) 0
      ∗ semVal (recvCell c 2) 0
      ∗ semVal (recvCell c 3) 0
      ∗ semVal (recvCell c 4) 0
      ∗ semVal (recvCell c 5) 0
      ∗ semVal (recvCell c 6) 0) := by
  rw [Pipeline.ownSems0_eq_of_list c osem [0, 1, 2, 3, 4, 5, 6, 7, 8, 9, 10, 11, 12, 13, 14, 15, 16, 17, 18, 19, 20, 21, 22, 23, 24, 25, 26] (by decide) (by decide)]; rfl
omit [FloatOps F] in
/-- The one semaphore outside the region is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at zero: those of the local copies, those of the exchange's copies, the barrier. -/
theorem sems0_eq (c : Dev nD) : iprop(Pipeline.ownSems0 (Ix := Bool) (Name := ℕ) (U := UU) (Lvl := ℕ) (Val := Elt F) (τ := τ) osem c ∗ unscopedSems0 c)
      ⊢ (iprop(locC c ∗ bigSep Finset.univ fun k : Fin 15 => semVal (kcell (c, k)) 0) : sProp 𝕄) := by
  rw [ownSems0_eq, unscopedSems0_eq, bigSep_fin15]
  unfold locC
  iintro ⟨⟨S0, S1, S2, S3, S4, S5, S6, S7, S8, S9, S10, S11, S12, S13, S14, S15, S16, S17, S18, S19, S20, S21, S22, S23, S24, S25, S26⟩, HB⟩
  isplitl [S0 S1 S2 S3 S4 S5 S6 S7 S8 S9 S10 S11 S12]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  isplitl [HB]; · iexact HB
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  iexact S26

/-- From its semaphores at zero and its ghost part a device allocates the invariants of its cells. -/
theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop(((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) ∗ locC c) := by
  unfold G
  iintro ⟨Hos, Hus, Hst, Hat, Htok⟩
  ihave Hv := (sems0_eq (F := F) c) $$ [Hos Hus]
  · isplitl [Hos] <;> iassumption
  icases Hv with ⟨Hl, Hv⟩
  imod (show iprop((bigSep Finset.univ fun k : Fin 15 => semVal (kcell (c, k)) 0) ∗ bigSep Finset.univ fun k : Fin 15 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv Hat Htok]
  · isplitl [Hinv]; · iexact Hinv
    isplitl [Hat]; · iexact Hat
    iexact Htok
  iexact Hl

/-- The devices, each `k` further around the ring. -/
def turn (k : ℕ) (h : k ≤ 4) : Dev nD ≃ Dev nD where
  toFun c := up c k
  invFun c := up c (4 - k)
  left_inv c := up_up c k (4 - k) (by rw [Nat.add_sub_cancel' h])
  right_inv c := up_up c (4 - k) k (by rw [Nat.sub_add_cancel h])

omit [FloatOps F] in
/-- One token a device, dealt to the device `k` before. -/
theorem deal (k : ℕ) (h : k ≤ 4) (Φ : Dev nD → sProp 𝕄) :
    bigSep Finset.univ Φ ⊢ bigSep Finset.univ fun c : Dev nD => Φ (up c k) :=
  Entails.of_eq (bigSep_univ_equiv (turn k h) Φ)

omit [FloatOps F] in
/-- The tokens dealt around the ring: each to the device that pays its duty. -/
theorem toks_around : (bigSep Finset.univ fun c : Dev nD => (toks c : sProp 𝕄)) ⊢ bigSep Finset.univ fun c : Dev nD => payC c := by
  unfold toks payC
  simp only [bigSep_sep']
  iintro ⟨H0, H1, H2, H3, H4, H5, H6, H7, H8, H9, H10, H11, H12, H13, H14, H15, H16⟩
  isplitl [H0]; · iapply (deal 1 (by decide) (fun c : Dev nD => dutyTok ER (barCell c) 0 0)); iexact H0
  isplitl [H1]; · iapply (deal 2 (by decide) (fun c : Dev nD => dutyTok ER (barCell c) 0 1)); iexact H1
  isplitl [H2]; · iapply (deal 3 (by decide) (fun c : Dev nD => dutyTok ER (barCell c) 0 2)); iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (deal 1 (by decide) (fun c : Dev nD => dutyTok ER (recvCell c 0) 0 0)); iexact H10
  isplitl [H11]; · iapply (deal 1 (by decide) (fun c : Dev nD => dutyTok ER (recvCell c 1) 0 0)); iexact H11
  isplitl [H12]; · iapply (deal 1 (by decide) (fun c : Dev nD => dutyTok ER (recvCell c 2) 0 0)); iexact H12
  isplitl [H13]; · iapply (deal 2 (by decide) (fun c : Dev nD => dutyTok ER (recvCell c 3) 0 0)); iexact H13
  isplitl [H14]; · iapply (deal 2 (by decide) (fun c : Dev nD => dutyTok ER (recvCell c 4) 0 0)); iexact H14
  isplitl [H15]; · iapply (deal 3 (by decide) (fun c : Dev nD => dutyTok ER (recvCell c 5) 0 0)); iexact H15
  iapply (deal 3 (by decide) (fun c : Dev nD => dutyTok ER (recvCell c 6) 0 0)); iexact H16

omit [FloatOps F] in
/-- A persistent fact may be used for every piece. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device takes to its body, from the records, its positions, its tokens and its local semaphores. -/
theorem G'_intro (K : Dev nD × Fin 15 → ℕ) (c : Dev nD) :
    iprop(recs m K ∗ ((bigSep Finset.univ fun k : Fin 15 => (atPos ER (kcell (c, k)) 0 ∅ 0 : sProp 𝕄)) ∗ payC c) ∗ locC c) ⊢ G' m c := by
  rw [bigSep_fin15]
  unfold G' posC
  iintro ⟨HR, ⟨Hat, Hp⟩, Hl⟩
  isplitr [Hl]
  · isplitl [HR]; · iexists K; iexact HR
    isplitl [Hat]; · iexact Hat
    iexact Hp
  iexact Hl

/-- The invariants of all devices are shared, and every token goes to the device that pays with it. -/
theorem regroup :
    (bigSep Finset.univ fun c : Dev nD => iprop(((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) ∗ locC c) : sProp 𝕄)
      ⊢ bigSep Finset.univ (G' m) := by
  rw [bigSep_sep', bigSep_sep', bigSep_sep', ← bigSep_univ_prod (fun ck : Dev nD × Fin 15 => iprop(∃ κ : ℕ, cellInv ER (rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨⟨HI, ⟨Hat, #HR⟩, Htok⟩, Hl⟩
  ihave HK := (BI.bigSep_exists_pi Finset.univ (fun (ck : Dev nD × Fin 15) (κ : ℕ) => (cellInv ER (rd m) κ (kcell ck) : sProp 𝕄))) $$ HI
  icases HK with ⟨%K, #HI⟩
  ihave Htk := (toks_around (F := F)) $$ Htok
  iapply (with_persistent (R := recs m K) fun c _ => G'_intro m K c)
  isplitr
  · unfold recs; isplitl; · iexact HI
    iexact HR
  · rw [bigSep_sep', bigSep_sep']
    isplitr [Hl]
    · isplitl [Hat]; · iexact Hat
      iexact Htk
    iexact Hl

/-- Every device's cells are opened at once. -/
theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

omit [FloatOps F] in
/-- What each device owes a cell of the device `k` further on, the launch credits that device with. -/
theorem cred_turn (sm : SemLoc sig) (k k' : ℕ) (h : (k' + k) % 4 = 0) (h' : (k + k') % 4 = 0) (n : ℕ) (c : Dev nD) :
    (Pipeline.launchCred (fun d => tallyAt ((up d k : Thread nD τ), sm) true n) c : sProp 𝕄) ⊢ cred (tallyAt ((c : Thread nD τ), sm) true n) :=
  Pipeline.launchCred_tallyAt sm (fun d => up d k) (fun d => up d k') (fun c => up_up c k' k h) (fun d => up_up d k k' h') true n c

omit [FloatOps F] in
/-- The launch's credit for all that is owed to device `c` is the credit its waits spend. -/
theorem creds (c : Dev nD) : (Pipeline.launchCred (fun d => owedC d 10) c : sProp 𝕄) ⊢ credC c := by
  have step : ∀ n, (Pipeline.launchCred (fun d => owedC d (n + 1)) c : sProp 𝕄)
      = iprop(Pipeline.launchCred (fun d => owedC d n) c ∗ Pipeline.launchCred (fun d => debt d n) c) :=
    fun n => Pipeline.launchCred_add (fun d => owedC d n) (fun d => debt d n) c
  rw [step 9, step 8, step 7, step 6, step 5, step 4, step 3, step 2, step 1, step 0]
  unfold credC
  iintro ⟨⟨⟨⟨⟨⟨⟨⟨⟨⟨-, D0⟩, D1⟩, D2⟩, D3⟩, D4⟩, D5⟩, D6⟩, D7⟩, D8⟩, D9⟩
  ihave D0 := (cred_turn (F := F) (csem (rIx 6)) 3 1 (by decide) (by decide) (amt 6) c) $$ D0
  ihave D1 := (cred_turn (F := F) (csem (rIx 5)) 3 1 (by decide) (by decide) (amt 5) c) $$ D1
  ihave D2 := (cred_turn (F := F) (csem (rIx 4)) 2 2 (by decide) (by decide) (amt 4) c) $$ D2
  ihave D3 := (cred_turn (F := F) (csem (rIx 3)) 2 2 (by decide) (by decide) (amt 3) c) $$ D3
  ihave D4 := (cred_turn (F := F) (csem (rIx 2)) 1 3 (by decide) (by decide) (amt 2) c) $$ D4
  ihave D5 := (cred_turn (F := F) (csem (rIx 1)) 1 3 (by decide) (by decide) (amt 1) c) $$ D5
  ihave D6 := (cred_turn (F := F) (csem (rIx 0)) 1 3 (by decide) (by decide) (amt 0) c) $$ D6
  ihave D7 := (cred_turn (F := F) (csem 0) 3 1 (by decide) (by decide) 1 c) $$ D7
  ihave D8 := (cred_turn (F := F) (csem 0) 2 2 (by decide) (by decide) 1 c) $$ D8
  ihave D9 := (cred_turn (F := F) (csem 0) 1 3 (by decide) (by decide) 1 c) $$ D9
  isplitl [D7 D8 D9]
  · ihave D := (cred_add (tallyAt (barCell c) true 1) (tallyAt (barCell c) true 1)).2 $$ [D7 D8]
    · isplitl [D7] <;> iassumption
    ihave D := (cred_add (tallyAt (barCell c) true 1 + tallyAt (barCell c) true 1) (tallyAt (barCell c) true 1)).2 $$ [D D9]
    · isplitl [D] <;> iassumption
    rw [tallyAt_add, tallyAt_add]
    iexact D
  isplitl [D6]; · iexact D6
  isplitl [D5]; · iexact D5
  isplitl [D4]; · iexact D4
  isplitl [D3]; · iexact D3
  isplitl [D2]; · iexact D2
  isplitl [D1]; · iexact D1
  iexact D0

/-! ## What the region takes and leaves -/

/-- What the launch leaves a device makes up what its body starts from. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owedC d 10) c ∗ prngReg c (ρ c) ∗ G' m c)
      ⊢ |={Set.univ}=> iprop((start m c ∗ hbmIn m c) ∗ emp) := by
  rw [Pipeline.unscopedRestP_none, unscopedRest0_eq]
  unfold G' start hbmIn
  iintro ⟨Hb, HL, Hcr, -, ⟨⟨HR, Hpos, Hpay⟩, Hloc⟩⟩
  ihave Hc := (creds (F := F) c) $$ Hcr
  imodintro
  isplitl
  · isplitr [Hb]
    · isplitl [HR]; · iexact HR
      isplitl [HL]; · iexact HL
      isplitl [Hloc]; · iexact Hloc
      isplitl [Hpos]; · iexact Hpos
      isplitl [Hpay]; · iexact Hpay
      iexact Hc
    iexact Hb
  iempintro

/-- With its buffers, that is the region's start. -/
theorem phi0_intro (c : Dev nD) :
    iprop((start m c ∗ hbmIn m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrC
  iintro ⟨Hs, -, Hr⟩
  isplitl [Hs]; · iexact Hs
  iexact Hr

/-- The region's end gives back the arrays, the semaphores at zero and the buffers. -/
theorem phi1_exit (c : Dev nD) :
    (dats m 0 c).Φ (Fin.last cfg0.N) ⊢ iprop((hbmOut m c ∗ unscopedSems0 c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ locC excC scrC
  iintro ⟨Ho, Hscr, ⟨S0, S1, S2, S3, S4, S5, S6, S7, S8, S9, S10, S11, S12⟩, HB, ⟨S13, S14, S15, S16, S17, S18, S19, S20, S21, S22, S23, S24, S25, S26⟩⟩
  isplitl [Ho HB]
  · isplitl [Ho]; · iexact Ho
    iexact HB
  isplitl [S0 S1 S2 S3 S4 S5 S6 S7 S8 S9 S10 S11 S12 S13 S14 S15 S16 S17 S18 S19 S20 S21 S22 S23 S24 S25 S26]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    iexact S26
  iexact Hscr

/-- There is no window to wait for. -/
theorem waits (c : Dev nD) : (levAts L lv : sProp 𝕄) ⊢ Pipeline.cellsWaits cfgs (dats m) false 0 c :=
  Pipeline.cellsWaits_intro cfgs (dats m) false 0 c fun w => w.elim0

/-- What a run leaves of device `c`'s arrays: the arguments as they were, the result computed. -/
def Done (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_v1) = outC m c

/-- The final memory of device `c` is read off what its region leaves. -/
theorem read_out (c : Dev nD) (s' : Phys nD τ sig (Elt F)) :
    iprop((hbmOut m c ∗ unscopedSems0 c) ∗ emp ∗ SI s')
      ⊢ |={Set.univ}=> iprop(⌜Done m c s'.mem ∧ ∀ sm : SemLoc sig, sm.isScoped .tc = false → s'.mem.sem ((c.tc : Thread nD τ), sm) = 0⌝ ∗ (SI s' : sProp 𝕄)) := by
  unfold hbmOut
  iintro ⟨⟨⟨Hx, Hw, Ho⟩, Hu⟩, -, HSI⟩
  icombine HSI Hx gives %hx
  icombine HSI Hw gives %hw
  icombine HSI Ho gives %ho
  imod (Pipeline.unscopedSems0_read (X := unscopedSems0 c) (c := c) fupd_intro s') $$ [Hu HSI] with ⟨%hz, HSI⟩
  · isplitl [Hu] <;> iassumption
  imodintro
  isplitr
  · ipureintro
    exact ⟨⟨Buf.eq_of_forall_mem_univ hx, Buf.eq_of_forall_mem_univ hw, Buf.eq_of_forall_mem_univ ho⟩, hz⟩
  iexact HSI

/-! ## The run -/

set_option maxRecDepth 8000 in
/-- On the mesh of four devices, for any float values and from any memory with zero counters: every weakly fair execution of @main
    terminates, and leaves on every device the arguments as they were, the result array at `outC`, and every semaphore at zero. -/
theorem run_main (ρ : Dev nD → PrngReg) :
    θ_run defs (onTc (τ := τ) (main (F := F))) ⟨m, fun _ => 0, ρ⟩ (fun r => (∀ c : Dev nD, Done m c r.2) ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := fun d => owedC d 10) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show BI.own (embR (initOf exCells exToks, (1 : Counters))) ⊢ (BI.own (ER (initOf exCells exToks)) : sProp 𝕄) from Entails.of_eq rfl) $$ HX
      imod (fund_ex m) $$ HX with HG
      imodintro
      isplitl [HP] <;> iassumption)
    (hglob := glob m)
    (hA := fun _ w => w.elim0) (hpf := fun _ k => k.elim0)
    (X := fun c => iprop(start m c ∗ hbmIn m c)) (Y := fun c => iprop(hbmOut m c ∗ unscopedSems0 c)) (Z := fun _ => iprop(emp))
    (hX := start_intro m ρ) (hin := phi0_intro m) (hout := phi1_exit m)
    (QY := fun c s => Done m c s ∧ ∀ sm : SemLoc sig, sm.isScoped .tc = false → s.sem ((c.tc : Thread nD τ), sm) = 0)
    (hY := read_out m)
    (hQ := fun _ h hs => ⟨fun c => (h c).2.2.1, sem_eq_zero hs fun c => (h c).2.2.2⟩)

end Cert.KernelIdealProof

end
-- ==== Proof.Value.lean ====
/-
  The value of the kernel over the extended reals: what every device's block of the result holds is the rectified product
  of the whole matrices, read at that block.
-/
module

public import proofs.«01_k».proof.Proof.PI.Mesh
public import proofs.«01_k».proof.Proof.Gen.ReferenceIdeal
public import Idealize.ShloMosaic.Lib.Pointwise

@[expose] public section

noncomputable section

namespace Cert.KernelIdealProof

open Idealize.ShloMosaic Idealize.ShloMosaic.TcCoe Idealize.SL.Sem
open Cert.KernelIdeal Cert.KernelIdeal.Gen

variable (m : (ℓ : Loc nD τ sig) → Buf (Elt Ideal) ℓ)

/-- A sum over 4096 indices is four sums over 1024 added in order. -/
theorem sum_four (f : Fin 4096 → EReal) : ∑ k, f k
    = (∑ t : Fin 1024, f ⟨0 + t.val, by omega⟩) + (∑ t : Fin 1024, f ⟨1024 + t.val, by omega⟩)
      + (∑ t : Fin 1024, f ⟨2048 + t.val, by omega⟩) + ∑ t : Fin 1024, f ⟨3072 + t.val, by omega⟩ := by
  rw [Fin.sum_univ_tiles 4 1024 rfl, Fin.sum_univ_four]; rfl

/-- Device `c`'s rows of `x` at two coordinates. -/
def xAt (c : Dev nD) (r : Fin 1024) (k : Fin 4096) : EReal := m ((c : Thread nD τ).loc main_arg0) (show S1024x4096.Idx from ix2 r k)
/-- Device `c`'s copy of `w` at two coordinates. -/
def wAt (c : Dev nD) (k : Fin 4096) (n : Fin 2048) : EReal := m ((c : Thread nD τ).loc main_arg1) (show S4096x2048.Idx from ix2 k n)

/-- The entry the device owes: the rectified product of row `r` with column `n` of the columns that device `d` keeps. -/
def relAt (c d : Dev nD) (r : Fin 1024) (n : Fin 512) : EReal :=
  max (∑ k : Fin 4096, xAt m c r k * wAt m c k ⟨(512 * d.val + n.val) % 2048, Nat.mod_lt _ (by decide)⟩) 0

/-- A block of 1024 columns loaded from the copy of `x`, at a coordinate. -/
theorem x_load (c : Dev nD) {R a b : ℕ}
    (inb : ∀ q, (![a, b] : Fin 2 → ℕ) q + (![R, 1024] : Fin 2 → ℕ) q ≤ S1024x4096.size q) (r : Fin R) (t : Fin 1024) :
    View.readAt (Elt Ideal) (View.whole cc0_scratch0) (Rect.unit (s := S1024x4096) ![a, b] ![R, 1024] inb).toLoadRect (xC m c) (ix2 r t)
      = xAt m c ⟨a + r.val, by have : a + R ≤ 1024 := inb 0; omega⟩ ⟨b + t.val, by have : b + 1024 ≤ 4096 := inb 1; omega⟩ := by
  show m ((c : Thread nD τ).loc main_arg0) _ = m ((c : Thread nD τ).loc main_arg0) _
  congr 1
  funext q
  apply Fin.ext
  match q with
  | ⟨0, _⟩ => show a + 1 * r.val = a + r.val; omega
  | ⟨1, _⟩ => show b + 1 * t.val = b + t.val; omega

/-- A block of 1024 rows loaded from the columns of `w` kept for device `d`, at a coordinate. -/
theorem w_load (c d : Dev nD) {s b : ℕ}
    (inb : ∀ q, (![s, b, 0] : Fin 3 → ℕ) q + (![1, 1024, 512] : Fin 3 → ℕ) q ≤ S2x4096x512.size q) (t : Fin 1024) (n : Fin 512) :
    View.readAt (Elt Ideal) (View.whole cc0_scratch2) (Rect.unit (s := S2x4096x512) ![s, b, 0] ![1, 1024, 512] inb).toLoadRect (wC m c d) (ix3 0 t n)
      = wAt m c ⟨b + t.val, by have : b + 1024 ≤ 4096 := inb 1; omega⟩ ⟨(512 * d.val + n.val) % 2048, Nat.mod_lt _ (by decide)⟩ := by
  show m ((c : Thread nD τ).loc main_arg1) _ = m ((c : Thread nD τ).loc main_arg1) _
  congr 1
  funext q
  apply Fin.ext
  match q with
  | ⟨0, _⟩ => show b + 1 * t.val = b + t.val; omega
  | ⟨1, _⟩ => show (512 * d.val + (0 + 1 * n.val)) % 2048 = (512 * d.val + n.val) % 2048; congr 2; omega

/-- The value of send slot 0: rows 0 to 255 of plane 0. -/
theorem sV0_at (c : Dev nD) (r : Fin 256) (n : Fin 512) :
    sV0 m c (ix3 0 r n) = relAt m c (up c 1) ⟨0 + r.val, by omega⟩ n := by
  unfold sV0 relAt
  rw [sum_four]
  pointwise [k0_pay1, k0_pay2, k0_pay3]
  simp only [x_load, w_load, Nat.zero_add]

/-- The value of send slot 1: rows 256 to 511 of plane 0. -/
theorem sV1_at (c : Dev nD) (r : Fin 256) (n : Fin 512) :
    sV1 m c (ix3 0 r n) = relAt m c (up c 1) ⟨256 + r.val, by omega⟩ n := by
  unfold sV1 relAt
  rw [sum_four]
  pointwise [k0_pay4, k0_pay5]
  simp only [x_load, w_load, Nat.zero_add]

/-- The value of send slot 2: rows 512 to 1023 of plane 0. -/
theorem sV2_at (c : Dev nD) (r : Fin 512) (n : Fin 512) :
    sV2 m c (ix3 0 r n) = relAt m c (up c 1) ⟨512 + r.val, by omega⟩ n := by
  unfold sV2 relAt
  rw [sum_four]
  pointwise [k0_pay6, k0_pay7]
  simp only [x_load, w_load, Nat.zero_add]

/-- The value of send slot 3: rows 0 to 511 of plane 1. -/
theorem sV3_at (c : Dev nD) (r : Fin 512) (n : Fin 512) :
    sV3 m c (ix3 0 r n) = relAt m c (up c 2) ⟨0 + r.val, by omega⟩ n := by
  unfold sV3 relAt
  rw [sum_four]
  pointwise [k0_pay8, k0_pay9]
  simp only [x_load, w_load, Nat.zero_add]

/-- The value of send slot 4: rows 512 to 1023 of plane 1. -/
theorem sV4_at (c : Dev nD) (r : Fin 512) (n : Fin 512) :
    sV4 m c (ix3 0 r n) = relAt m c (up c 2) ⟨512 + r.val, by omega⟩ n := by
  unfold sV4 relAt
  rw [sum_four]
  pointwise [k0_pay10, k0_pay11]
  simp only [x_load, w_load, Nat.zero_add]

/-- The value of send slot 5: rows 0 to 511 of plane 2. -/
theorem sV5_at (c : Dev nD) (r : Fin 512) (n : Fin 512) :
    sV5 m c (ix3 0 r n) = relAt m c (up c 3) ⟨0 + r.val, by omega⟩ n := by
  unfold sV5 relAt
  rw [sum_four]
  pointwise [k0_pay12, k0_pay13]
  simp only [x_load, w_load, Nat.zero_add]

/-- The value of send slot 6: rows 512 to 1023 of plane 2. -/
theorem sV6_at (c : Dev nD) (r : Fin 512) (n : Fin 512) :
    sV6 m c (ix3 0 r n) = relAt m c (up c 3) ⟨512 + r.val, by omega⟩ n := by
  unfold sV6 relAt
  rw [sum_four]
  pointwise [k0_pay14, k0_pay15]
  simp only [x_load, w_load, Nat.zero_add]

/-- The value of the device's own rows of the result, which do not pass through the exchange. -/
theorem ownV_at (c : Dev nD) (r : Fin 1024) (n : Fin 512) :
    ownV m c (ix2 r n) = relAt m c (c) ⟨0 + r.val, by omega⟩ n := by
  unfold ownV relAt
  rw [sum_four]
  pointwise [k0_pay16, k0_pay17]
  simp only [x_load, w_load, Nat.zero_add]

/-- What device `c` sends in plane `p` of its send buffer: its rows of the product, in the columns of the device `p + 1` after. -/
theorem send_at (c : Dev nD) (p : Fin 3) (r : Fin 1024) (n : Fin 512) :
    (sendC m c : S3x1024x512.Idx → EReal) (ix3 p r n) = relAt m c (up c (p.val + 1)) r n := by
  have hr := r.isLt
  have hp := p.isLt
  have e : ∀ (a R : ℕ) (hR : 0 < R) (h : a ≤ r.val) (h' : r.val < a + R) (hm : a % R = 0) (w : a + r.val % R < 1024),
      (⟨a + r.val % R, w⟩ : Fin 1024) = r := fun a R hR h h' hm w => Fin.ext (by
    show a + r.val % R = r.val
    have := Nat.mod_add_div r.val R
    obtain ⟨q, rfl⟩ := Nat.dvd_of_mod_eq_zero hm
    have : r.val = R * q + (r.val - R * q) := by omega
    rw [this, Nat.mul_add_mod, Nat.mod_eq_of_lt (by omega)])
  unfold sendC
  show (if p.val = 0 then if r.val < 256 then sV0 m c (ix3 0 _ n) else if r.val < 512 then sV1 m c (ix3 0 _ n) else sV2 m c (ix3 0 _ n)
    else if p.val = 1 then if r.val < 512 then sV3 m c (ix3 0 _ n) else sV4 m c (ix3 0 _ n)
    else if r.val < 512 then sV5 m c (ix3 0 _ n) else sV6 m c (ix3 0 _ n)) = _
  match p with
  | ⟨0, _⟩ =>
    rw [if_pos rfl]
    split_ifs with h1 h2
    · exact (sV0_at ..).trans (congrArg (relAt m c _ · n) (e 0 256 (by omega) (by omega) (by omega) rfl _))
    · exact (sV1_at ..).trans (congrArg (relAt m c _ · n) (e 256 256 (by omega) (by omega) (by omega) rfl _))
    · exact (sV2_at ..).trans (congrArg (relAt m c _ · n) (e 512 512 (by omega) (by omega) (by omega) rfl _))
  | ⟨1, _⟩ =>
    rw [if_neg (show ¬(1 : ℕ) = 0 by decide), if_pos rfl]
    split_ifs with h1
    · exact (sV3_at ..).trans (congrArg (relAt m c _ · n) (e 0 512 (by omega) (by omega) (by omega) rfl _))
    · exact (sV4_at ..).trans (congrArg (relAt m c _ · n) (e 512 512 (by omega) (by omega) (by omega) rfl _))
  | ⟨2, _⟩ =>
    rw [if_neg (show ¬(2 : ℕ) = 0 by decide), if_neg (show ¬(2 : ℕ) = 1 by decide)]
    split_ifs with h1
    · exact (sV5_at ..).trans (congrArg (relAt m c _ · n) (e 0 512 (by omega) (by omega) (by omega) rfl _))
    · exact (sV6_at ..).trans (congrArg (relAt m c _ · n) (e 512 512 (by omega) (by omega) (by omega) rfl _))

/-- What device `c` ends with in row `R` and column `n` of its block of the result: the entry that the device whose rows hold
    row `R` of `x` computed for `c`, whether it came through the exchange or was the device's own. -/
theorem out_at (c : Dev nD) (R : Fin 4096) (n : Fin 512) : (outC m c : S4096x512.Idx → EReal) (ix2 R n)
    = relAt m ⟨R.val / 1024, by have := R.isLt; show _ < 4; omega⟩ c ⟨R.val % 1024, Nat.mod_lt _ (by decide)⟩ n := by
  have hR := R.isLt
  have hc := dev_lt c
  unfold outC
  show (if R.val / 1024 = c.val then ownV m c (ix2 ⟨R.val % 1024, _⟩ n) else (sendC m (up c (3 - (c.val + 3 - R.val / 1024) % 4 % 3)) :
      S3x1024x512.Idx → EReal) (ix3 ⟨(c.val + 3 - R.val / 1024) % 4 % 3, _⟩ ⟨R.val % 1024, _⟩ n)) = _
  split_ifs with h
  · rw [ownV_at]
    congr 1
    · exact Fin.ext h.symm
    · exact Fin.ext (Nat.zero_add _)
  · rw [send_at]
    congr 1
    · apply Fin.ext; rw [up_val]; show _ = R.val / 1024; omega
    · apply Fin.ext; rw [up_val, up_val]; show (_ + ((c.val + 3 - R.val / 1024) % 4 % 3 + 1)) % 4 = _; omega

/-- Every device's block of the result is that block of the rectified product of the whole matrices: `x`'s rows are cut in four
    blocks, every device holds all of `w`, and the result's columns are cut in four blocks. -/
theorem out_eq_block (X : Cert.ReferenceIdeal.S4096x4096.Idx → EReal) (W : Cert.ReferenceIdeal.S4096x2048.Idx → EReal)
    (hX : ∀ c : Dev nD, m ((c : Thread nD τ).loc main_arg0) = Layout.block ⟨2, ![1024, 4096]⟩ ⟨2, ![4096, 4096]⟩ 0 4 c X)
    (hW : ∀ c : Dev nD, m ((c : Thread nD τ).loc main_arg1) = W) (c : Dev nD) :
    outC m c = Layout.block ⟨2, ![4096, 512]⟩ ⟨2, ![4096, 2048]⟩ 1 4 c
      (maximumf (F := Ideal) (φ := .f32)
        (Host.dotGeneral (F := Ideal) (φ₁ := .f32) (φ₂ := .f32) Cert.ReferenceIdeal.dot_S4096x4096_S4096x2048_S4096x2048_1_0_0_1_n_n none X W)
        (broadcastInDim Cert.ReferenceIdeal.S4096x2048 ![] Cert.ReferenceIdeal.Gen.facts.bcast_S_S4096x2048
          (constant (F := Ideal) Cert.ReferenceIdeal.S_ .f32 0x00000000#32))) := by
  have hc := dev_lt c
  funext (i : S4096x512.Idx)
  obtain ⟨R, n, rfl⟩ : ∃ (R : Fin 4096) (n : Fin 512), i = ix2 R n := ⟨i 0, i 1, eq_ix2 i⟩
  refine (out_at m c R n).trans ?_
  rw [Layout.block_apply]
  generalize hj : (Layout.Tiles.idx _ c _ : (⟨2, ![4096, 2048]⟩ : Shape).Idx) = j
  obtain ⟨R', n', rfl⟩ : ∃ (R' : Fin 4096) (n' : Fin 2048), j = ix2 R' n' := ⟨j 0, j 1, eq_ix2 j⟩
  have h0 : R'.val = R.val := by rw [show R' = ix2 R' n' 0 from rfl, ← hj]; rfl
  have h1 : n'.val = c.val * 512 + n.val := by rw [show n' = ix2 R' n' 1 from rfl, ← hj]; rfl
  obtain rfl : R' = R := Fin.ext h0
  have hx (k : Fin 4096) : xAt m ⟨R'.val / 1024, by have := R'.isLt; show _ < 4; omega⟩ ⟨R'.val % 1024, Nat.mod_lt _ (by decide)⟩ k
      = X (ix2 R' k) := by
    unfold xAt
    rw [hX, Layout.block_apply]
    congr 1
    funext q
    apply Fin.ext
    rw [Layout.Tiles.idx_val]
    match q with
    | ⟨0, _⟩ => show R'.val / 1024 * 1024 + R'.val % 1024 = R'.val; omega
    | ⟨1, _⟩ => rfl
  have hw (d : Dev nD) (k : Fin 4096) : wAt m d k ⟨(512 * c.val + n.val) % 2048, Nat.mod_lt _ (by decide)⟩ = W (ix2 k n') := by
    unfold wAt
    rw [hW]
    exact congrArg (fun z => W (ix2 k z)) (Fin.ext (by show (512 * c.val + n.val) % 2048 = n'.val; omega))
  unfold relAt
  simp only [hx, hw]
  pointwise

end Cert.KernelIdealProof

end
-- ==== Proof.lean ====
/-
  The proof of `Cert.Claim`: the kernel and its idealization run to the end on all four devices with their arguments unchanged
  and every counter at zero, and so does the reference; the idealization preserves the kernel; and over the extended reals the
  kernel's result is, block by block, the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.P.Launch
public import proofs.«01_k».proof.Proof.PI.Launch
public import proofs.«01_k».proof.Proof.Value
public import Idealize.ShloMosaic.Adequacy
public import Idealize.ShloMosaic.Init

@[expose] public section

noncomputable section

namespace Cert.Proof

open Idealize.ShloMosaic Idealize.SL.Sem

/-- The kernel ends on every device, both arguments unchanged and every counter at zero. -/
theorem frame_kernel : Cert.quiescent_Kernel := fun m g _ =>
  (θ_run Cert.Kernel.defs _ _).mono (fun _ h => ⟨fun c => ⟨(h.1 c).1, (h.1 c).2.1⟩, h.2⟩)
    (Cert.KernelProof.run_main (F := Bits) m g)

/-- So does its idealization. -/
theorem frame_kernelIdeal : Cert.quiescent_KernelIdeal := fun m g _ =>
  (θ_run Cert.KernelIdeal.defs _ _).mono (fun _ h => ⟨fun c => ⟨(h.1 c).1, (h.1 c).2.1⟩, h.2⟩)
    (Cert.KernelIdealProof.run_main (F := Ideal) m g)

/-- So does the reference, which has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals every device's result is its block of the reference's result. -/
theorem algebraic : Cert.algebraic_KernelIdeal_ReferenceIdeal := fun m g m' g' _ hm =>
  ⟨_, (θ_run Cert.KernelIdeal.defs _ _).mono
      (fun _ h c => ⟨(h.1 c).2.2.trans (Cert.KernelIdealProof.out_eq_block m _ _ (fun d => (hm d).1) (fun d => (hm d).2) c),
        (h.1 c).1, (h.1 c).2.1⟩)
      (Cert.KernelIdealProof.run_main (F := Ideal) m g),
    (θ_run Cert.ReferenceIdeal.defs _ _).mono (fun _ h => h 0) (Cert.ReferenceIdeal.Value.run (F := Ideal) m' g')⟩

/-- Every claim of the certificate. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
